-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_scene [hPre_proper_scene : Cert.Pre_proper_scene.Facts] (m : (ℓ : Loc Cert.KernelIdeal.nD Cert.KernelIdeal.τ Cert.KernelIdeal.sig) → Buf (Elt Ideal) ℓ) : Prop :=
  ∀ c : Dev Cert.KernelIdeal.nD,
    (Cert.Pre_proper_scene.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_scene [hPre_proper_scene : Cert.Pre_proper_scene.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_scene.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_proper_scene [hKernelIdeal : Cert.KernelIdeal.Facts] [hPre_proper_scene : Cert.Pre_proper_scene.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_scene m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_proper_scene [hReferenceIdeal : Cert.ReferenceIdeal.Facts] [hPre_proper_scene : Cert.Pre_proper_scene.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_scene m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_proper_scene [hKernelIdeal : Cert.KernelIdeal.Facts] [hReferenceIdeal : Cert.ReferenceIdeal.Facts] [hPre_proper_scene : Cert.Pre_proper_scene.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_scene m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v19)) (v5 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_v19) = v4 c
          ∧ r.2.mem ((c.tc : Thread Cert.KernelIdeal.nD Cert.KernelIdeal.τ).loc Cert.KernelIdeal.main_v22) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v356) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_v370) = v2 c
          ∧ r.2.mem ((c.tc : Thread Cert.ReferenceIdeal.nD Cert.ReferenceIdeal.τ).loc Cert.ReferenceIdeal.main_v365) = v3 c
          ∧ r.2.mem ((c.tc : Thread Cert.ReferenceIdeal.nD Cert.ReferenceIdeal.τ).loc Cert.ReferenceIdeal.main_v367) = v4 c
          ∧ r.2.mem ((c.tc : Thread Cert.ReferenceIdeal.nD Cert.ReferenceIdeal.τ).loc Cert.ReferenceIdeal.main_v361) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_proper_scene : Cert.Pre_proper_scene.Facts),
    quiescent_Kernel (hKernel := hKernel)
    ∧ quiescent_KernelIdeal (hKernelIdeal := hKernelIdeal)
    ∧ quiescent_KernelIdeal_pre_proper_scene (hKernelIdeal := hKernelIdeal) (hPre_proper_scene := hPre_proper_scene)
    ∧ quiescent_ReferenceIdeal (hReferenceIdeal := hReferenceIdeal)
    ∧ quiescent_ReferenceIdeal_pre_proper_scene (hReferenceIdeal := hReferenceIdeal) (hPre_proper_scene := hPre_proper_scene)
    ∧ preserves_Kernel_KernelIdeal
    ∧ algebraic_KernelIdeal_ReferenceIdeal_pre_proper_scene (hKernelIdeal := hKernelIdeal) (hReferenceIdeal := hReferenceIdeal) (hPre_proper_scene := hPre_proper_scene)
-- ==== Pre_proper_scene.lean ====
abbrev S512x3 : Shape := ⟨2, ![512, 3]⟩
abbrev S512x1 : Shape := ⟨2, ![512, 1]⟩
abbrev S512x4 : Shape := ⟨2, ![512, 4]⟩
abbrev S3 : Shape := ⟨1, ![3]⟩
abbrev S4x4 : Shape := ⟨2, ![4, 4]⟩
abbrev S_ : Shape := ⟨0, ![]⟩
abbrev S3x4 : Shape := ⟨2, ![3, 4]⟩
abbrev S512 : Shape := ⟨1, ![512]⟩

class Facts : Prop where
  bcast_S_S512x4 : S_.BroadcastsInDim S512x4 (![] : Fin 0 → Fin S512x4.rank)
  bcast_S_S512x3 : S_.BroadcastsInDim S512x3 (![] : Fin 0 → Fin S512x3.rank)
  reducesTo_S512x3_S_d0_1 : S512x3.ReducesTo [0, 1] S_
  h_S_ : 0 < S_.numel
  bcast_S_S512x1 : S_.BroadcastsInDim S512x1 (![] : Fin 0 → Fin S512x1.rank)
  reducesTo_S512x1_S_d0_1 : S512x1.ReducesTo [0, 1] S_
  reducesTo_S512x4_S_d0_1 : S512x4.ReducesTo [0, 1] S_
  slices_S4x4_S3x4_0_0 : S4x4.Slices ![0, 0] S3x4
  bcast_S_S3x4 : S_.BroadcastsInDim S3x4 (![] : Fin 0 → Fin S3x4.rank)
  reducesTo_S3x4_S_d0_1 : S3x4.ReducesTo [0, 1] S_
  slices_S512x4_S512x1_0_0 : S512x4.Slices ![0, 0] S512x1
  shapeCasts_S512x1_S512 : S512x1.ShapeCasts S512
  slices_S512x4_S512x1_0_1 : S512x4.Slices ![0, 1] S512x1
  slices_S512x4_S512x1_0_2 : S512x4.Slices ![0, 2] S512x1
  slices_S512x4_S512x1_0_3 : S512x4.Slices ![0, 3] S512x1
  reducesTo_S512_S_d0 : S512.ReducesTo [0] S_

variable [Facts]

def fn_part2 {F : FTy → Type} [FloatOps F] (main_v1 : IVec S512x4 1) (main_v31 : IVec S_ 1) (main_v33 : IVec S512 1) (main_v34 : IVec S512x1 1) : IVec S_ 1 :=
  let main_v35 : IVec S512 1 := shapeCast S512 main_v34 shapeCasts_S512x1_S512
  let main_v36 : IVec S512 1 := ori main_v33 main_v35
  let main_v37 : IVec S512x1 1 := (extractStridedSlice S512x1 ![0, 2] · slices_S512x4_S512x1_0_2) main_v1
  let main_v38 : IVec S512 1 := shapeCast S512 main_v37 shapeCasts_S512x1_S512
  let main_v39 : IVec S512 1 := ori main_v36 main_v38
  let main_v40 : IVec S512x1 1 := (extractStridedSlice S512x1 ![0, 3] · slices_S512x4_S512x1_0_3) main_v1
  let main_v41 : IVec S512 1 := shapeCast S512 main_v40 shapeCasts_S512x1_S512
  let main_v42 : IVec S512 1 := ori main_v39 main_v41
  let main_c_11 : IVec S_ 1 := constantI S_ 1 1#1
  let main_v43 : IVec S_ 1 := (fun x v => Host.reduce IntOp.andi x v reducesTo_S512_S_d0 h_S_) main_v42 main_c_11
  let main_v44 : IVec S_ 1 := andi main_v31 main_v43
  main_v44

def fn_part1 {F : FTy → Type} [FloatOps F] (main_arg4 : FVec F S512x4 .f32) (main_arg6 : FVec F S4x4 .f32) (main_v1 : IVec S512x4 1) (main_v15 : IVec S_ 1) (main_v16 : FVec F S512x3 .f32) : IVec S_ 1 :=
  let main_cst_5 : FVec F S_ .f32 := constant S_ .f32 0x7F800000#32
  let main_v17 : FVec F S512x3 .f32 := broadcastInDim S512x3 ![] bcast_S_S512x3 main_cst_5
  let main_v18 : IVec S512x3 1 := cmpf .olt main_v16 main_v17
  let main_c_6 : IVec S_ 1 := constantI S_ 1 1#1
  let main_v19 : IVec S_ 1 := (fun x v => Host.reduce IntOp.andi x v reducesTo_S512x3_S_d0_1 h_S_) main_v18 main_c_6
  let main_v20 : IVec S_ 1 := andi main_v15 main_v19
  let main_v21 : FVec F S512x4 .f32 := Host.absf main_arg4
  let main_cst_7 : FVec F S_ .f32 := constant S_ .f32 0x7F800000#32
  let main_v22 : FVec F S512x4 .f32 := broadcastInDim S512x4 ![] bcast_S_S512x4 main_cst_7
  let main_v23 : IVec S512x4 1 := cmpf .olt main_v21 main_v22
  let main_c_8 : IVec S_ 1 := constantI S_ 1 1#1
  let main_v24 : IVec S_ 1 := (fun x v => Host.reduce IntOp.andi x v reducesTo_S512x4_S_d0_1 h_S_) main_v23 main_c_8
  let main_v25 : IVec S_ 1 := andi main_v20 main_v24
  let main_v26 : FVec F S3x4 .f32 := (extractStridedSlice S3x4 ![0, 0] · slices_S4x4_S3x4_0_0) main_arg6
  let main_v27 : FVec F S3x4 .f32 := Host.absf main_v26
  let main_cst_9 : FVec F S_ .f32 := constant S_ .f32 0x7F800000#32
  let main_v28 : FVec F S3x4 .f32 := broadcastInDim S3x4 ![] bcast_S_S3x4 main_cst_9
  let main_v29 : IVec S3x4 1 := cmpf .olt main_v27 main_v28
  let main_c_10 : IVec S_ 1 := constantI S_ 1 1#1
  let main_v30 : IVec S_ 1 := (fun x v => Host.reduce IntOp.andi x v reducesTo_S3x4_S_d0_1 h_S_) main_v29 main_c_10
  let main_v31 : IVec S_ 1 := andi main_v25 main_v30
  let main_v32 : IVec S512x1 1 := (extractStridedSlice S512x1 ![0, 0] · slices_S512x4_S512x1_0_0) main_v1
  let main_v33 : IVec S512 1 := shapeCast S512 main_v32 shapeCasts_S512x1_S512
  let main_v34 : IVec S512x1 1 := (extractStridedSlice S512x1 ![0, 1] · slices_S512x4_S512x1_0_1) main_v1
  fn_part2 (F := F) main_v1 main_v31 main_v33 main_v34

def fn {F : FTy → Type} [FloatOps F] (main_arg0 : FVec F S512x3 .f32) (main_arg1 : FVec F S512x1 .f32) (main_arg2 : FVec F S512x3 .f32) (main_arg3 : FVec F S512x3 .f32) (main_arg4 : FVec F S512x4 .f32) (main_arg5 : FVec F S3 .f32) (main_arg6 : FVec F S4x4 .f32) : IVec S_ 1 :=
  let main_cst : FVec F S_ .f32 := constant S_ .f32 0x00000000#32
  let main_v0 : FVec F S512x4 .f32 := broadcastInDim S512x4 ![] bcast_S_S512x4 main_cst
  let main_v1 : IVec S512x4 1 := cmpf .une main_arg4 main_v0
  let main_v2 : FVec F S512x3 .f32 := Host.absf main_arg0
  let main_cst_0 : FVec F S_ .f32 := constant S_ .f32 0x7F800000#32
  let main_v3 : FVec F S512x3 .f32 := broadcastInDim S512x3 ![] bcast_S_S512x3 main_cst_0
  let main_v4 : IVec S512x3 1 := cmpf .olt main_v2 main_v3
  let main_c : IVec S_ 1 := constantI S_ 1 1#1
  let main_v5 : IVec S_ 1 := (fun x v => Host.reduce IntOp.andi x v reducesTo_S512x3_S_d0_1 h_S_) main_v4 main_c
  let main_v6 : FVec F S512x1 .f32 := Host.absf main_arg1
  let main_cst_1 : FVec F S_ .f32 := constant S_ .f32 0x7F800000#32
  let main_v7 : FVec F S512x1 .f32 := broadcastInDim S512x1 ![] bcast_S_S512x1 main_cst_1
  let main_v8 : IVec S512x1 1 := cmpf .olt main_v6 main_v7
  let main_c_2 : IVec S_ 1 := constantI S_ 1 1#1
  let main_v9 : IVec S_ 1 := (fun x v => Host.reduce IntOp.andi x v reducesTo_S512x1_S_d0_1 h_S_) main_v8 main_c_2
  let main_v10 : IVec S_ 1 := andi main_v5 main_v9
  let main_v11 : FVec F S512x3 .f32 := Host.absf main_arg2
  let main_cst_3 : FVec F S_ .f32 := constant S_ .f32 0x7F800000#32
  let main_v12 : FVec F S512x3 .f32 := broadcastInDim S512x3 ![] bcast_S_S512x3 main_cst_3
  let main_v13 : IVec S512x3 1 := cmpf .olt main_v11 main_v12
  let main_c_4 : IVec S_ 1 := constantI S_ 1 1#1
  let main_v14 : IVec S_ 1 := (fun x v => Host.reduce IntOp.andi x v reducesTo_S512x3_S_d0_1 h_S_) main_v13 main_c_4
  let main_v15 : IVec S_ 1 := andi main_v10 main_v14
  let main_v16 : FVec F S512x3 .f32 := Host.absf main_arg3
  fn_part1 (F := F) main_arg4 main_arg6 main_v1 main_v15 main_v16
-- ==== Kernel.lean ====
abbrev S512x3 : Shape := ⟨2, ![512, 3]⟩
abbrev S512x1 : Shape := ⟨2, ![512, 1]⟩
abbrev S512x4 : Shape := ⟨2, ![512, 4]⟩
abbrev S3 : Shape := ⟨1, ![3]⟩
abbrev S4x4 : Shape := ⟨2, ![4, 4]⟩
abbrev S3x512 : Shape := ⟨2, ![3, 512]⟩
abbrev S4x512 : Shape := ⟨2, ![4, 512]⟩
abbrev S1x512 : Shape := ⟨2, ![1, 512]⟩
abbrev S14x512 : Shape := ⟨2, ![14, 512]⟩
abbrev S16x512 : Shape := ⟨2, ![16, 512]⟩
abbrev S1x1 : Shape := ⟨2, ![1, 1]⟩
abbrev S512x16 : Shape := ⟨2, ![512, 16]⟩
abbrev S512x512 : Shape := ⟨2, ![512, 512]⟩
abbrev S8x65536 : Shape := ⟨2, ![8, 65536]⟩
abbrev S1x65536 : Shape := ⟨2, ![1, 65536]⟩
abbrev S8x4096 : Shape := ⟨2, ![8, 4096]⟩
abbrev S1x4096 : Shape := ⟨2, ![1, 4096]⟩
abbrev S512 : Shape := ⟨1, ![512]⟩
abbrev S128x128 : Shape := ⟨2, ![128, 128]⟩
abbrev S1x512x1 : Shape := ⟨3, ![1, 512, 1]⟩
abbrev S1 : Shape := ⟨1, ![1]⟩
abbrev S1x1x1 : Shape := ⟨3, ![1, 1, 1]⟩
abbrev S128x1 : Shape := ⟨2, ![128, 1]⟩
abbrev S128x4096 : Shape := ⟨2, ![128, 4096]⟩
abbrev S128x8 : Shape := ⟨2, ![128, 8]⟩
abbrev S4096 : Shape := ⟨1, ![4096]⟩
abbrev S2x4096 : Shape := ⟨2, ![2, 4096]⟩
abbrev S3x65536 : Shape := ⟨2, ![3, 65536]⟩
abbrev S3x256x256 : Shape := ⟨3, ![3, 256, 256]⟩
abbrev S256x256x3 : Shape := ⟨3, ![256, 256, 3]⟩
abbrev S256x256 : Shape := ⟨2, ![256, 256]⟩
abbrev S65536 : Shape := ⟨1, ![65536]⟩

abbrev nBuf : Space → Nat
  | .hbm => 34
  | .vmem => 17
  | .smem => 2
  | _ => 0

abbrev bufTy : (tb : Table) → Fin (tcTables nBuf tb) → BufTy
  | .hbm, ⟨0, _⟩ => ⟨S512x3, .f32⟩
  | .hbm, ⟨1, _⟩ => ⟨S512x1, .f32⟩
  | .hbm, ⟨2, _⟩ => ⟨S512x3, .f32⟩
  | .hbm, ⟨3, _⟩ => ⟨S512x3, .f32⟩
  | .hbm, ⟨4, _⟩ => ⟨S512x4, .f32⟩
  | .hbm, ⟨5, _⟩ => ⟨S3, .f32⟩
  | .hbm, ⟨6, _⟩ => ⟨S4x4, .f32⟩
  | .hbm, ⟨7, _⟩ => ⟨S3x512, .f32⟩
  | .hbm, ⟨8, _⟩ => ⟨S3x512, .f32⟩
  | .hbm, ⟨9, _⟩ => ⟨S4x512, .f32⟩
  | .hbm, ⟨10, _⟩ => ⟨S1x512, .f32⟩
  | .hbm, ⟨11, _⟩ => ⟨S3x512, .f32⟩
  | .hbm, ⟨12, _⟩ => ⟨S14x512, .f32⟩
  | .hbm, ⟨13, _⟩ => ⟨S16x512, .f32⟩
  | .hbm, ⟨14, _⟩ => ⟨S1x512, .i32⟩
  | .hbm, ⟨15, _⟩ => ⟨S512x16, .f32⟩
  | .hbm, ⟨16, _⟩ => ⟨S512x16, .f32⟩
  | .hbm, ⟨17, _⟩ => ⟨S512x16, .i32⟩
  | .hbm, ⟨18, _⟩ => ⟨S8x65536, .f32⟩
  | .hbm, ⟨19, _⟩ => ⟨S1x65536, .i32⟩
  | .hbm, ⟨20, _⟩ => ⟨S3x65536, .f32⟩
  | .hbm, ⟨21, _⟩ => ⟨S3x256x256, .f32⟩
  | .hbm, ⟨22, _⟩ => ⟨S256x256x3, .f32⟩
  | .hbm, ⟨23, _⟩ => ⟨S256x256, .i32⟩
  | .hbm, ⟨24, _⟩ => ⟨S1x65536, .f32⟩
  | .hbm, ⟨25, _⟩ => ⟨S65536, .f32⟩
  | .hbm, ⟨26, _⟩ => ⟨S256x256, .f32⟩
  | .hbm, ⟨27, _⟩ => ⟨S1x65536, .f32⟩
  | .hbm, ⟨28, _⟩ => ⟨S65536, .f32⟩
  | .hbm, ⟨29, _⟩ => ⟨S256x256, .f32⟩
  | .hbm, ⟨30, _⟩ => ⟨S1x65536, .f32⟩
  | .hbm, ⟨31, _⟩ => ⟨S65536, .f32⟩
  | .hbm, ⟨32, _⟩ => ⟨S256x256, .f32⟩
  | .hbm, ⟨33, _⟩ => ⟨S512, .i32⟩
  | .local _ .vmem, ⟨0, _⟩ => ⟨S14x512, .f32⟩
  | .local _ .vmem, ⟨1, _⟩ => ⟨S16x512, .f32⟩
  | .local _ .vmem, ⟨2, _⟩ => ⟨S1x512, .i32⟩
  | .local _ .vmem, ⟨3, _⟩ => ⟨S16x512, .f32⟩
  | .local _ .vmem, ⟨4, _⟩ => ⟨S512x16, .f32⟩
  | .local _ .vmem, ⟨5, _⟩ => ⟨S512x16, .f32⟩
  | .local _ .vmem, ⟨6, _⟩ => ⟨S512x16, .i32⟩
  | .local _ .vmem, ⟨7, _⟩ => ⟨S512x16, .f32⟩
  | .local _ .vmem, ⟨8, _⟩ => ⟨S512x16, .i32⟩
  | .local _ .vmem, ⟨9, _⟩ => ⟨S8x4096, .f32⟩
  | .local _ .vmem, ⟨10, _⟩ => ⟨S8x4096, .f32⟩
  | .local _ .vmem, ⟨11, _⟩ => ⟨S1x4096, .i32⟩
  | .local _ .vmem, ⟨12, _⟩ => ⟨S1x4096, .i32⟩
  | .local _ .vmem, ⟨13, _⟩ => ⟨S8x4096, .f32⟩
  | .local _ .vmem, ⟨14, _⟩ => ⟨S1x4096, .f32⟩
  | .local _ .vmem, ⟨15, _⟩ => ⟨S1x4096, .f32⟩
  | .local _ .vmem, ⟨16, _⟩ => ⟨S1x4096, .f32⟩
  | .local _ .smem, ⟨0, _⟩ => ⟨S4x4, .f32⟩
  | .local _ .smem, ⟨1, _⟩ => ⟨S3, .f32⟩
  | _, _ => ⟨S512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg3_0 : Ref sig .tc := ⟨.vmem, 9, rfl⟩
abbrev cc2_stg3_1 : Ref sig .tc := ⟨.vmem, 10, rfl⟩
abbrev cc2_stg4_0 : Ref sig .tc := ⟨.vmem, 11, rfl⟩
abbrev cc2_stg4_1 : Ref sig .tc := ⟨.vmem, 12, rfl⟩
abbrev cc2_scratch0 : Ref sig .tc := ⟨.vmem, 13, rfl⟩
abbrev cc2_scratch1 : Ref sig .tc := ⟨.vmem, 14, rfl⟩
abbrev cc2_scratch2 : Ref sig .tc := ⟨.vmem, 15, rfl⟩
abbrev cc2_scratch3 : Ref sig .tc := ⟨.vmem, 16, rfl⟩
abbrev cc0_stg1_0 : Ref sig .tc := ⟨.smem, 0, rfl⟩
abbrev cc2_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc2_sem3_1 : DmaSem sig := 12
abbrev cc2_sem4_0 : DmaSem sig := 13
abbrev cc2_sem4_1 : DmaSem sig := 14

abbrev nD : Nat := 1
abbrev τ : Topo := Topo.v7x

variable {F : FTy → Type} [FloatOps F]

abbrev grid0 : Pipeline.Grid := .none

abbrev stage0_0 : Fin 1 → Memref sig .tc .vmem S14x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

abbrev stage1_0 : Fin 1 → Memref sig .tc .vmem S16x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S512x16 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S512x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x16 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .smem S3 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x4096 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S512x3 : Shape := ⟨2, ![512, 3]⟩
abbrev S512x1 : Shape := ⟨2, ![512, 1]⟩
abbrev S512x4 : Shape := ⟨2, ![512, 4]⟩
abbrev S3 : Shape := ⟨1, ![3]⟩
abbrev S4x4 : Shape := ⟨2, ![4, 4]⟩
abbrev S3x3 : Shape := ⟨2, ![3, 3]⟩
abbrev S3x1 : Shape := ⟨2, ![3, 1]⟩
abbrev S1x3 : Shape := ⟨2, ![1, 3]⟩
abbrev S512 : Shape := ⟨1, ![512]⟩
abbrev S_ : Shape := ⟨0, ![]⟩
abbrev S512x1x3 : Shape := ⟨3, ![512, 1, 3]⟩
abbrev S512x3x3 : Shape := ⟨3, ![512, 3, 3]⟩
abbrev S512x2x3 : Shape := ⟨3, ![512, 2, 3]⟩
abbrev S512x3x2 : Shape := ⟨3, ![512, 3, 2]⟩
abbrev S512x2x2 : Shape := ⟨3, ![512, 2, 2]⟩
abbrev S2x2 : Shape := ⟨2, ![2, 2]⟩
abbrev S1x2x2 : Shape := ⟨3, ![1, 2, 2]⟩
abbrev S512x1x1 : Shape := ⟨3, ![512, 1, 1]⟩
abbrev S256 : Shape := ⟨1, ![256]⟩
abbrev S256x256 : Shape := ⟨2, ![256, 256]⟩
abbrev S65536 : Shape := ⟨1, ![65536]⟩
abbrev S65536x1 : Shape := ⟨2, ![65536, 1]⟩
abbrev S1x512 : Shape := ⟨2, ![1, 512]⟩
abbrev S65536x512 : Shape := ⟨2, ![65536, 512]⟩
abbrev S65536x511 : Shape := ⟨2, ![65536, 511]⟩
abbrev S65536x2 : Shape := ⟨2, ![65536, 2]⟩
abbrev S65536x510 : Shape := ⟨2, ![65536, 510]⟩
abbrev S65536x4 : Shape := ⟨2, ![65536, 4]⟩
abbrev S65536x508 : Shape := ⟨2, ![65536, 508]⟩
abbrev S65536x8 : Shape := ⟨2, ![65536, 8]⟩
abbrev S65536x504 : Shape := ⟨2, ![65536, 504]⟩
abbrev S65536x16 : Shape := ⟨2, ![65536, 16]⟩
abbrev S65536x496 : Shape := ⟨2, ![65536, 496]⟩
abbrev S65536x32 : Shape := ⟨2, ![65536, 32]⟩
abbrev S65536x480 : Shape := ⟨2, ![65536, 480]⟩
abbrev S65536x64 : Shape := ⟨2, ![65536, 64]⟩
abbrev S65536x448 : Shape := ⟨2, ![65536, 448]⟩
abbrev S65536x128 : Shape := ⟨2, ![65536, 128]⟩
abbrev S65536x384 : Shape := ⟨2, ![65536, 384]⟩
abbrev S65536x256 : Shape := ⟨2, ![65536, 256]⟩
abbrev S65536x3 : Shape := ⟨2, ![65536, 3]⟩
abbrev S256x256x3 : Shape := ⟨3, ![256, 256, 3]⟩

abbrev nBuf : Space → Nat
  | .hbm => 471
  | .vmem => 0
  | .smem => 0
  | _ => 0

abbrev hbmTy0_0 (i : Nat) : BufTy := match i % 128 with
  | 0 => ⟨S512x3, .f32⟩
  | 1 => ⟨S512x1, .f32⟩
  | 2 => ⟨S512x3, .f32⟩
  | 3 => ⟨S512x3, .f32⟩
  | 4 => ⟨S512x4, .f32⟩
  | 5 => ⟨S3, .f32⟩
  | 6 => ⟨S4x4, .f32⟩
  | 7 => ⟨S3x3, .f32⟩
  | 8 => ⟨S3x1, .f32⟩
  | 9 => ⟨S3, .f32⟩
  | 10 => ⟨S3x3, .f32⟩
  | 11 => ⟨S512x3, .f32⟩
  | 12 => ⟨S1x3, .f32⟩
  | 13 => ⟨S512x3, .f32⟩
  | 14 => ⟨S512x3, .f32⟩
  | 15 => ⟨S512x1, .f32⟩
  | 16 => ⟨S512, .f32⟩
  | 17 => ⟨S512x1, .f32⟩
  | 18 => ⟨S512, .f32⟩
  | 19 => ⟨S512x1, .f32⟩
  | 20 => ⟨S512, .f32⟩
  | 21 => ⟨S_, .f32⟩
  | 22 => ⟨S512, .f32⟩
  | 23 => ⟨S512, .f32⟩
  | 24 => ⟨S512, .f32⟩
  | 25 => ⟨S_, .f32⟩
  | 26 => ⟨S_, .f32⟩
  | 27 => ⟨S_, .f32⟩
  | 28 => ⟨S512, .f32⟩
  | 29 => ⟨S512, .f32⟩
  | 30 => ⟨S_, .f32⟩
  | 31 => ⟨S512, .f32⟩
  | 32 => ⟨S512, .f32⟩
  | 33 => ⟨S512, .f32⟩
  | 34 => ⟨S512, .f32⟩
  | 35 => ⟨S_, .f32⟩
  | 36 => ⟨S_, .f32⟩
  | 37 => ⟨S_, .f32⟩
  | 38 => ⟨S512, .f32⟩
  | 39 => ⟨S512, .f32⟩
  | 40 => ⟨S_, .f32⟩
  | 41 => ⟨S512, .f32⟩
  | 42 => ⟨S512, .f32⟩
  | 43 => ⟨S512, .f32⟩
  | 44 => ⟨S512x4, .f32⟩
  | 45 => ⟨S_, .f32⟩
  | 46 => ⟨S512, .f32⟩
  | 47 => ⟨S512x1, .f32⟩
  | 48 => ⟨S512x1, .f32⟩
  | 49 => ⟨S512x4, .f32⟩
  | 50 => ⟨S512x4, .f32⟩
  | 51 => ⟨S512x1, .f32⟩
  | 52 => ⟨S512, .f32⟩
  | 53 => ⟨S512x1, .f32⟩
  | 54 => ⟨S512, .f32⟩
  | 55 => ⟨S512x1, .f32⟩
  | 56 => ⟨S512, .f32⟩
  | 57 => ⟨S512x1, .f32⟩
  | 58 => ⟨S512, .f32⟩
  | 59 => ⟨S512, .f32⟩
  | 60 => ⟨S512, .f32⟩
  | 61 => ⟨S512, .f32⟩
  | 62 => ⟨S_, .f32⟩
  | 63 => ⟨S512, .f32⟩
  | 64 => ⟨S512, .f32⟩
  | 65 => ⟨S_, .f32⟩
  | 66 => ⟨S512, .f32⟩
  | 67 => ⟨S512, .f32⟩
  | 68 => ⟨S512, .f32⟩
  | 69 => ⟨S512, .f32⟩
  | 70 => ⟨S512, .f32⟩
  | 71 => ⟨S_, .f32⟩
  | 72 => ⟨S512, .f32⟩
  | 73 => ⟨S512, .f32⟩
  | 74 => ⟨S512, .f32⟩
  | 75 => ⟨S512, .f32⟩
  | 76 => ⟨S512, .f32⟩
  | 77 => ⟨S_, .f32⟩
  | 78 => ⟨S512, .f32⟩
  | 79 => ⟨S512, .f32⟩
  | 80 => ⟨S512x1, .f32⟩
  | 81 => ⟨S512x1, .f32⟩
  | 82 => ⟨S512x1, .f32⟩
  | 83 => ⟨S512x3, .f32⟩
  | 84 => ⟨S512, .f32⟩
  | 85 => ⟨S512, .f32⟩
  | 86 => ⟨S512, .f32⟩
  | 87 => ⟨S_, .f32⟩
  | 88 => ⟨S512, .f32⟩
  | 89 => ⟨S512, .f32⟩
  | 90 => ⟨S512, .f32⟩
  | 91 => ⟨S512, .f32⟩
  | 92 => ⟨S512, .f32⟩
  | 93 => ⟨S_, .f32⟩
  | 94 => ⟨S512, .f32⟩
  | 95 => ⟨S512, .f32⟩
  | 96 => ⟨S_, .f32⟩
  | 97 => ⟨S512, .f32⟩
  | 98 => ⟨S512, .f32⟩
  | 99 => ⟨S512, .f32⟩
  | 100 => ⟨S512, .f32⟩
  | 101 => ⟨S512, .f32⟩
  | 102 => ⟨S_, .f32⟩
  | 103 => ⟨S512, .f32⟩
  | 104 => ⟨S512, .f32⟩
  | 105 => ⟨S512x1, .f32⟩
  | 106 => ⟨S512x1, .f32⟩
  | 107 => ⟨S512x1, .f32⟩
  | 108 => ⟨S512x3, .f32⟩
  | 109 => ⟨S512, .f32⟩
  | 110 => ⟨S512, .f32⟩
  | 111 => ⟨S512, .f32⟩
  | 112 => ⟨S_, .f32⟩
  | 113 => ⟨S512, .f32⟩
  | 114 => ⟨S512, .f32⟩
  | 115 => ⟨S512, .f32⟩
  | 116 => ⟨S512, .f32⟩
  | 117 => ⟨S512, .f32⟩
  | 118 => ⟨S_, .f32⟩
  | 119 => ⟨S512, .f32⟩
  | 120 => ⟨S512, .f32⟩
  | 121 => ⟨S512, .f32⟩
  | 122 => ⟨S512, .f32⟩
  | 123 => ⟨S512, .f32⟩
  | 124 => ⟨S_, .f32⟩
  | 125 => ⟨S512, .f32⟩
  | 126 => ⟨S512, .f32⟩
  | 127 => ⟨S_, .f32⟩
  | _ => ⟨S512x3, .f32⟩

abbrev hbmTy0_1 (i : Nat) : BufTy := match i % 128 with
  | 0 => ⟨S512, .f32⟩
  | 1 => ⟨S512, .f32⟩
  | 2 => ⟨S512x1, .f32⟩
  | 3 => ⟨S512x1, .f32⟩
  | 4 => ⟨S512x1, .f32⟩
  | 5 => ⟨S512x3, .f32⟩
  | 6 => ⟨S512x1x3, .f32⟩
  | 7 => ⟨S512x1x3, .f32⟩
  | 8 => ⟨S512x1x3, .f32⟩
  | 9 => ⟨S512x3x3, .f32⟩
  | 10 => ⟨S512x1x3, .f32⟩
  | 11 => ⟨S512x3x3, .f32⟩
  | 12 => ⟨S512x3x3, .f32⟩
  | 13 => ⟨S512x3x3, .f32⟩
  | 14 => ⟨S512x3x3, .f32⟩
  | 15 => ⟨S_, .f32⟩
  | 16 => ⟨S512, .f32⟩
  | 17 => ⟨S_, .f32⟩
  | 18 => ⟨S512, .f32⟩
  | 19 => ⟨S512, .f32⟩
  | 20 => ⟨S_, .f32⟩
  | 21 => ⟨S512, .f32⟩
  | 22 => ⟨S512, .f32⟩
  | 23 => ⟨S512, .f32⟩
  | 24 => ⟨S512, .f32⟩
  | 25 => ⟨S512x1, .f32⟩
  | 26 => ⟨S512x1, .f32⟩
  | 27 => ⟨S512x1, .f32⟩
  | 28 => ⟨S512x3, .f32⟩
  | 29 => ⟨S_, .f32⟩
  | 30 => ⟨S512, .f32⟩
  | 31 => ⟨S512, .f32⟩
  | 32 => ⟨S_, .f32⟩
  | 33 => ⟨S512, .f32⟩
  | 34 => ⟨S512, .f32⟩
  | 35 => ⟨S512, .f32⟩
  | 36 => ⟨S512, .f32⟩
  | 37 => ⟨S512x1, .f32⟩
  | 38 => ⟨S512x1, .f32⟩
  | 39 => ⟨S512x1, .f32⟩
  | 40 => ⟨S512x3, .f32⟩
  | 41 => ⟨S512x1x3, .f32⟩
  | 42 => ⟨S512x1x3, .f32⟩
  | 43 => ⟨S512x2x3, .f32⟩
  | 44 => ⟨S512x2x3, .f32⟩
  | 45 => ⟨S512x3x2, .f32⟩
  | 46 => ⟨S512x2x2, .f32⟩
  | 47 => ⟨S2x2, .i32⟩
  | 48 => ⟨S2x2, .i32⟩
  | 49 => ⟨S_, .i32⟩
  | 50 => ⟨S2x2, .i32⟩
  | 51 => ⟨S2x2, .i32⟩
  | 52 => ⟨S2x2, .i1⟩
  | 53 => ⟨S2x2, .f32⟩
  | 54 => ⟨S_, .f32⟩
  | 55 => ⟨S2x2, .f32⟩
  | 56 => ⟨S2x2, .f32⟩
  | 57 => ⟨S1x2x2, .f32⟩
  | 58 => ⟨S512x2x2, .f32⟩
  | 59 => ⟨S512x2x2, .f32⟩
  | 60 => ⟨S512x1x1, .f32⟩
  | 61 => ⟨S512, .f32⟩
  | 62 => ⟨S512x1x1, .f32⟩
  | 63 => ⟨S512, .f32⟩
  | 64 => ⟨S512x1x1, .f32⟩
  | 65 => ⟨S512, .f32⟩
  | 66 => ⟨S512, .f32⟩
  | 67 => ⟨S512, .f32⟩
  | 68 => ⟨S512, .f32⟩
  | 69 => ⟨S_, .f32⟩
  | 70 => ⟨S512, .f32⟩
  | 71 => ⟨S512, .f32⟩
  | 72 => ⟨S_, .f32⟩
  | 73 => ⟨S512, .f32⟩
  | 74 => ⟨S512, .f32⟩
  | 75 => ⟨S512, .f32⟩
  | 76 => ⟨S512, .f32⟩
  | 77 => ⟨S512, .f32⟩
  | 78 => ⟨S512, .f32⟩
  | 79 => ⟨S512, .f32⟩
  | 80 => ⟨S_, .f32⟩
  | 81 => ⟨S512, .f32⟩
  | 82 => ⟨S512, .f32⟩
  | 83 => ⟨S512, .f32⟩
  | 84 => ⟨S512, .f32⟩
  | 85 => ⟨S_, .f32⟩
  | 86 => ⟨S512, .f32⟩
  | 87 => ⟨S512, .f32⟩
  | 88 => ⟨S512, .f32⟩
  | 89 => ⟨S512, .f32⟩
  | 90 => ⟨S512, .f32⟩
  | 91 => ⟨S_, .f32⟩
  | 92 => ⟨S512, .f32⟩
  | 93 => ⟨S512, .f32⟩
  | 94 => ⟨S512, .f32⟩
  | 95 => ⟨S512, .i32⟩
  | 96 => ⟨S_, .f32⟩
  | 97 => ⟨S512, .f32⟩
  | 98 => ⟨S512, .f32⟩
  | 99 => ⟨S512, .f32⟩
  | 100 => ⟨S_, .f32⟩
  | 101 => ⟨S512, .f32⟩
  | 102 => ⟨S512, .f32⟩
  | 103 => ⟨S_, .f32⟩
  | 104 => ⟨S512, .f32⟩
  | 105 => ⟨S512, .f32⟩
  | 106 => ⟨S_, .f32⟩
  | 107 => ⟨S512, .f32⟩
  | 108 => ⟨S512, .f32⟩
  | 109 => ⟨S512, .f32⟩
  | 110 => ⟨S_, .f32⟩
  | 111 => ⟨S512, .f32⟩
  | 112 => ⟨S512, .f32⟩
  | 113 => ⟨S_, .f32⟩
  | 114 => ⟨S512, .f32⟩
  | 115 => ⟨S512, .f32⟩
  | 116 => ⟨S_, .f32⟩
  | 117 => ⟨S512, .f32⟩
  | 118 => ⟨S512, .i1⟩
  | 119 => ⟨S_, .f32⟩
  | 120 => ⟨S512, .f32⟩
  | 121 => ⟨S512, .i1⟩
  | 122 => ⟨S512, .i1⟩
  | 123 => ⟨S512, .i32⟩
  | 124 => ⟨S512, .f32⟩
  | 125 => ⟨S512, .i32⟩
  | 126 => ⟨S_, .i32⟩
  | 127 => ⟨S512, .i32⟩
  | _ => ⟨S512x3, .f32⟩

abbrev hbmTy0_2 (i : Nat) : BufTy := match i % 128 with
  | 0 => ⟨S512, .i1⟩
  | 1 => ⟨S_, .i32⟩
  | 2 => ⟨S512, .i32⟩
  | 3 => ⟨S512, .i32⟩
  | 4 => ⟨S512, .i32⟩
  | 5 => ⟨S512x1, .i32⟩
  | 6 => ⟨S512, .f32⟩
  | 7 => ⟨S_, .i32⟩
  | 8 => ⟨S512, .i32⟩
  | 9 => ⟨S512, .i1⟩
  | 10 => ⟨S_, .i32⟩
  | 11 => ⟨S512, .i32⟩
  | 12 => ⟨S512, .i32⟩
  | 13 => ⟨S512, .i32⟩
  | 14 => ⟨S512x1, .i32⟩
  | 15 => ⟨S512, .f32⟩
  | 16 => ⟨S_, .i32⟩
  | 17 => ⟨S512, .i32⟩
  | 18 => ⟨S512, .i1⟩
  | 19 => ⟨S_, .i32⟩
  | 20 => ⟨S512, .i32⟩
  | 21 => ⟨S512, .i32⟩
  | 22 => ⟨S512, .i32⟩
  | 23 => ⟨S512x1, .i32⟩
  | 24 => ⟨S512, .f32⟩
  | 25 => ⟨S_, .i32⟩
  | 26 => ⟨S512, .i32⟩
  | 27 => ⟨S512, .i1⟩
  | 28 => ⟨S_, .i32⟩
  | 29 => ⟨S512, .i32⟩
  | 30 => ⟨S512, .i32⟩
  | 31 => ⟨S512, .i32⟩
  | 32 => ⟨S512x1, .i32⟩
  | 33 => ⟨S512, .f32⟩
  | 34 => ⟨S_, .i32⟩
  | 35 => ⟨S512, .i32⟩
  | 36 => ⟨S512, .i1⟩
  | 37 => ⟨S_, .i32⟩
  | 38 => ⟨S512, .i32⟩
  | 39 => ⟨S512, .i32⟩
  | 40 => ⟨S512, .i32⟩
  | 41 => ⟨S512x1, .i32⟩
  | 42 => ⟨S512, .f32⟩
  | 43 => ⟨S_, .i32⟩
  | 44 => ⟨S512, .i32⟩
  | 45 => ⟨S512, .i1⟩
  | 46 => ⟨S_, .i32⟩
  | 47 => ⟨S512, .i32⟩
  | 48 => ⟨S512, .i32⟩
  | 49 => ⟨S512, .i32⟩
  | 50 => ⟨S512x1, .i32⟩
  | 51 => ⟨S512, .f32⟩
  | 52 => ⟨S512, .f32⟩
  | 53 => ⟨S_, .i32⟩
  | 54 => ⟨S512, .i32⟩
  | 55 => ⟨S512, .i1⟩
  | 56 => ⟨S_, .i32⟩
  | 57 => ⟨S512, .i32⟩
  | 58 => ⟨S512, .i32⟩
  | 59 => ⟨S512, .i32⟩
  | 60 => ⟨S512x1, .i32⟩
  | 61 => ⟨S512, .f32⟩
  | 62 => ⟨S_, .i32⟩
  | 63 => ⟨S512, .i32⟩
  | 64 => ⟨S512, .i1⟩
  | 65 => ⟨S_, .i32⟩
  | 66 => ⟨S512, .i32⟩
  | 67 => ⟨S512, .i32⟩
  | 68 => ⟨S512, .i32⟩
  | 69 => ⟨S512x1, .i32⟩
  | 70 => ⟨S512x3, .f32⟩
  | 71 => ⟨S_, .i32⟩
  | 72 => ⟨S512, .i32⟩
  | 73 => ⟨S512, .i1⟩
  | 74 => ⟨S_, .i32⟩
  | 75 => ⟨S512, .i32⟩
  | 76 => ⟨S512, .i32⟩
  | 77 => ⟨S512, .i32⟩
  | 78 => ⟨S512x1, .i32⟩
  | 79 => ⟨S512, .i1⟩
  | 80 => ⟨S256, .f32⟩
  | 81 => ⟨S256, .f32⟩
  | 82 => ⟨S256x256, .f32⟩
  | 83 => ⟨S256x256, .f32⟩
  | 84 => ⟨S65536, .f32⟩
  | 85 => ⟨S65536, .f32⟩
  | 86 => ⟨S65536x1, .f32⟩
  | 87 => ⟨S1x512, .f32⟩
  | 88 => ⟨S65536x512, .f32⟩
  | 89 => ⟨S65536x512, .f32⟩
  | 90 => ⟨S65536x512, .f32⟩
  | 91 => ⟨S65536x1, .f32⟩
  | 92 => ⟨S1x512, .f32⟩
  | 93 => ⟨S65536x512, .f32⟩
  | 94 => ⟨S65536x512, .f32⟩
  | 95 => ⟨S65536x512, .f32⟩
  | 96 => ⟨S1x512, .f32⟩
  | 97 => ⟨S65536x512, .f32⟩
  | 98 => ⟨S65536x512, .f32⟩
  | 99 => ⟨S65536x512, .f32⟩
  | 100 => ⟨S1x512, .f32⟩
  | 101 => ⟨S65536x512, .f32⟩
  | 102 => ⟨S65536x512, .f32⟩
  | 103 => ⟨S65536x512, .f32⟩
  | 104 => ⟨S65536x512, .f32⟩
  | 105 => ⟨S_, .f32⟩
  | 106 => ⟨S65536x512, .f32⟩
  | 107 => ⟨S65536x512, .f32⟩
  | 108 => ⟨S1x512, .f32⟩
  | 109 => ⟨S65536x512, .f32⟩
  | 110 => ⟨S65536x512, .f32⟩
  | 111 => ⟨S65536x512, .f32⟩
  | 112 => ⟨S65536x512, .f32⟩
  | 113 => ⟨S1x512, .f32⟩
  | 114 => ⟨S_, .f32⟩
  | 115 => ⟨S65536x512, .f32⟩
  | 116 => ⟨S65536x512, .f32⟩
  | 117 => ⟨S65536x512, .f32⟩
  | 118 => ⟨S65536x512, .f32⟩
  | 119 => ⟨S65536x512, .f32⟩
  | 120 => ⟨S_, .f32⟩
  | 121 => ⟨S65536x512, .f32⟩
  | 122 => ⟨S65536x512, .f32⟩
  | 123 => ⟨S_, .f32⟩
  | 124 => ⟨S65536x512, .f32⟩
  | 125 => ⟨S65536x512, .i1⟩
  | 126 => ⟨S1x512, .i1⟩
  | 127 => ⟨S65536x512, .i1⟩
  | _ => ⟨S512x3, .f32⟩

abbrev hbmTy0_3 (i : Nat) : BufTy := match i % 128 with
  | 0 => ⟨S65536x512, .i1⟩
  | 1 => ⟨S_, .f32⟩
  | 2 => ⟨S65536x512, .f32⟩
  | 3 => ⟨S65536x512, .i1⟩
  | 4 => ⟨S65536x512, .i1⟩
  | 5 => ⟨S_, .f32⟩
  | 6 => ⟨S_, .f32⟩
  | 7 => ⟨S65536x512, .f32⟩
  | 8 => ⟨S65536x512, .f32⟩
  | 9 => ⟨S_, .f32⟩
  | 10 => ⟨S65536x512, .f32⟩
  | 11 => ⟨S65536x512, .f32⟩
  | 12 => ⟨S_, .f32⟩
  | 13 => ⟨S65536x1, .f32⟩
  | 14 => ⟨S65536x511, .f32⟩
  | 15 => ⟨S65536x512, .f32⟩
  | 16 => ⟨S65536x512, .f32⟩
  | 17 => ⟨S_, .f32⟩
  | 18 => ⟨S65536x2, .f32⟩
  | 19 => ⟨S65536x510, .f32⟩
  | 20 => ⟨S65536x512, .f32⟩
  | 21 => ⟨S65536x512, .f32⟩
  | 22 => ⟨S_, .f32⟩
  | 23 => ⟨S65536x4, .f32⟩
  | 24 => ⟨S65536x508, .f32⟩
  | 25 => ⟨S65536x512, .f32⟩
  | 26 => ⟨S65536x512, .f32⟩
  | 27 => ⟨S_, .f32⟩
  | 28 => ⟨S65536x8, .f32⟩
  | 29 => ⟨S65536x504, .f32⟩
  | 30 => ⟨S65536x512, .f32⟩
  | 31 => ⟨S65536x512, .f32⟩
  | 32 => ⟨S_, .f32⟩
  | 33 => ⟨S65536x16, .f32⟩
  | 34 => ⟨S65536x496, .f32⟩
  | 35 => ⟨S65536x512, .f32⟩
  | 36 => ⟨S65536x512, .f32⟩
  | 37 => ⟨S_, .f32⟩
  | 38 => ⟨S65536x32, .f32⟩
  | 39 => ⟨S65536x480, .f32⟩
  | 40 => ⟨S65536x512, .f32⟩
  | 41 => ⟨S65536x512, .f32⟩
  | 42 => ⟨S_, .f32⟩
  | 43 => ⟨S65536x64, .f32⟩
  | 44 => ⟨S65536x448, .f32⟩
  | 45 => ⟨S65536x512, .f32⟩
  | 46 => ⟨S65536x512, .f32⟩
  | 47 => ⟨S_, .f32⟩
  | 48 => ⟨S65536x128, .f32⟩
  | 49 => ⟨S65536x384, .f32⟩
  | 50 => ⟨S65536x512, .f32⟩
  | 51 => ⟨S65536x512, .f32⟩
  | 52 => ⟨S_, .f32⟩
  | 53 => ⟨S65536x256, .f32⟩
  | 54 => ⟨S65536x256, .f32⟩
  | 55 => ⟨S65536x512, .f32⟩
  | 56 => ⟨S65536x512, .f32⟩
  | 57 => ⟨S_, .f32⟩
  | 58 => ⟨S65536x1, .f32⟩
  | 59 => ⟨S65536x511, .f32⟩
  | 60 => ⟨S65536x512, .f32⟩
  | 61 => ⟨S65536x512, .f32⟩
  | 62 => ⟨S65536x3, .f32⟩
  | 63 => ⟨S65536x1, .f32⟩
  | 64 => ⟨S1x3, .f32⟩
  | 65 => ⟨S65536x3, .f32⟩
  | 66 => ⟨S65536x3, .f32⟩
  | 67 => ⟨S65536x3, .f32⟩
  | 68 => ⟨S65536x3, .f32⟩
  | 69 => ⟨S256x256x3, .f32⟩
  | 70 => ⟨S65536x1, .f32⟩
  | 71 => ⟨S65536, .f32⟩
  | 72 => ⟨S_, .f32⟩
  | 73 => ⟨S65536, .f32⟩
  | 74 => ⟨S65536, .f32⟩
  | 75 => ⟨S256x256, .f32⟩
  | 76 => ⟨S512x1, .f32⟩
  | 77 => ⟨S65536x1, .f32⟩
  | 78 => ⟨S65536, .f32⟩
  | 79 => ⟨S256x256, .f32⟩
  | 80 => ⟨S_, .f32⟩
  | 81 => ⟨S65536, .f32⟩
  | 82 => ⟨S256x256, .f32⟩
  | 83 => ⟨S65536x512, .i32⟩
  | 84 => ⟨S_, .i32⟩
  | 85 => ⟨S65536, .i32⟩
  | 86 => ⟨S256x256, .i32⟩
  | _ => ⟨S512x3, .f32⟩

abbrev hbmTy (i : Nat) : BufTy := match i / 128 with
  | 0 => hbmTy0_0 i
  | 1 => hbmTy0_1 i
  | 2 => hbmTy0_2 i
  | 3 => hbmTy0_3 i
  | _ => ⟨S512x3, .f32⟩

abbrev bufTy : (tb : Table) → Fin (tcTables nBuf tb) → BufTy
  | .hbm, ⟨i, _⟩ => hbmTy i
  | _, _ => ⟨S512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v20 : Ref sig .tc := ⟨.hbm, 42, rfl⟩
abbrev main_v21 : Ref sig .tc := ⟨.hbm, 43, rfl⟩
abbrev main_call2_v0 : Ref sig .tc := ⟨.hbm, 44, rfl⟩
abbrev main_call2_cst : Ref sig .tc := ⟨.hbm, 45, rfl⟩
abbrev main_call2_v1 : Ref sig .tc := ⟨.hbm, 46, rfl⟩
abbrev main_call2_v2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_8 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_11 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_12 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_13 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_14 : Ref sig .tc := ⟨.hbm, 124, rfl⟩
abbrev main_v88 : Ref sig .tc := ⟨.hbm, 125, rfl⟩
abbrev main_v89 : Ref sig .tc := ⟨.hbm, 126, rfl⟩
abbrev main_cst_15 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_16 : Ref sig .tc := ⟨.hbm, 143, rfl⟩
abbrev main_v105 : Ref sig .tc := ⟨.hbm, 144, rfl⟩
abbrev main_cst_17 : Ref sig .tc := ⟨.hbm, 145, rfl⟩
abbrev main_v106 : Ref sig .tc := ⟨.hbm, 146, rfl⟩
abbrev main_v107 : Ref sig .tc := ⟨.hbm, 147, rfl⟩
abbrev main_cst_18 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_19 : Ref sig .tc := ⟨.hbm, 157, rfl⟩
abbrev main_v116 : Ref sig .tc := ⟨.hbm, 158, rfl⟩
abbrev main_v117 : Ref sig .tc := ⟨.hbm, 159, rfl⟩
abbrev main_cst_20 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_c : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_cst_21 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_cst_22 : Ref sig .tc := ⟨.hbm, 197, rfl⟩
abbrev main_v152 : Ref sig .tc := ⟨.hbm, 198, rfl⟩
abbrev main_v153 : Ref sig .tc := ⟨.hbm, 199, rfl⟩
abbrev main_cst_23 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_cst_24 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_cst_25 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_cst_26 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_cst_27 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_cst_28 : Ref sig .tc := ⟨.hbm, 228, rfl⟩
abbrev main_v177 : Ref sig .tc := ⟨.hbm, 229, rfl⟩
abbrev main_v178 : Ref sig .tc := ⟨.hbm, 230, rfl⟩
abbrev main_cst_29 : Ref sig .tc := ⟨.hbm, 231, rfl⟩
abbrev main_v179 : Ref sig .tc := ⟨.hbm, 232, rfl⟩
abbrev main_v180 : Ref sig .tc := ⟨.hbm, 233, rfl⟩
abbrev main_cst_30 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_cst_31 : Ref sig .tc := ⟨.hbm, 238, rfl⟩
abbrev main_v184 : Ref sig .tc := ⟨.hbm, 239, rfl⟩
abbrev main_v185 : Ref sig .tc := ⟨.hbm, 240, rfl⟩
abbrev main_cst_32 : Ref sig .tc := ⟨.hbm, 241, rfl⟩
abbrev main_v186 : Ref sig .tc := ⟨.hbm, 242, rfl⟩
abbrev main_v187 : Ref sig .tc := ⟨.hbm, 243, rfl⟩
abbrev main_cst_33 : Ref sig .tc := ⟨.hbm, 244, rfl⟩
abbrev main_v188 : Ref sig .tc := ⟨.hbm, 245, rfl⟩
abbrev main_v189 : Ref sig .tc := ⟨.hbm, 246, rfl⟩
abbrev main_cst_34 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_call3_v0 : Ref sig .tc := ⟨.hbm, 251, rfl⟩
abbrev main_call3_v1_0 : Ref sig .tc := ⟨.hbm, 252, rfl⟩
abbrev main_v193 : Ref sig .tc := ⟨.hbm, 253, rfl⟩
abbrev main_c_35 : Ref sig .tc := ⟨.hbm, 254, rfl⟩
abbrev main_v194 : Ref sig .tc := ⟨.hbm, 255, rfl⟩
abbrev main_v195 : Ref sig .tc := ⟨.hbm, 256, rfl⟩
abbrev main_c_36 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_c_37 : Ref sig .tc := ⟨.hbm, 263, rfl⟩
abbrev main_v201 : Ref sig .tc := ⟨.hbm, 264, rfl⟩
abbrev main_v202 : Ref sig .tc := ⟨.hbm, 265, rfl⟩
abbrev main_c_38 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_c_39 : Ref sig .tc := ⟨.hbm, 272, rfl⟩
abbrev main_v208 : Ref sig .tc := ⟨.hbm, 273, rfl⟩
abbrev main_v209 : Ref sig .tc := ⟨.hbm, 274, rfl⟩
abbrev main_c_40 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_c_41 : Ref sig .tc := ⟨.hbm, 281, rfl⟩
abbrev main_v215 : Ref sig .tc := ⟨.hbm, 282, rfl⟩
abbrev main_v216 : Ref sig .tc := ⟨.hbm, 283, rfl⟩
abbrev main_c_42 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_c_43 : Ref sig .tc := ⟨.hbm, 290, rfl⟩
abbrev main_v222 : Ref sig .tc := ⟨.hbm, 291, rfl⟩
abbrev main_v223 : Ref sig .tc := ⟨.hbm, 292, rfl⟩
abbrev main_c_44 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_c_45 : Ref sig .tc := ⟨.hbm, 299, rfl⟩
abbrev main_v229 : Ref sig .tc := ⟨.hbm, 300, rfl⟩
abbrev main_v230 : Ref sig .tc := ⟨.hbm, 301, rfl⟩
abbrev main_c_46 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_c_47 : Ref sig .tc := ⟨.hbm, 309, rfl⟩
abbrev main_v237 : Ref sig .tc := ⟨.hbm, 310, rfl⟩
abbrev main_v238 : Ref sig .tc := ⟨.hbm, 311, rfl⟩
abbrev main_c_48 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_c_49 : Ref sig .tc := ⟨.hbm, 318, rfl⟩
abbrev main_v244 : Ref sig .tc := ⟨.hbm, 319, rfl⟩
abbrev main_v245 : Ref sig .tc := ⟨.hbm, 320, rfl⟩
abbrev main_c_50 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_c_51 : Ref sig .tc := ⟨.hbm, 327, rfl⟩
abbrev main_v251 : Ref sig .tc := ⟨.hbm, 328, rfl⟩
abbrev main_v252 : Ref sig .tc := ⟨.hbm, 329, rfl⟩
abbrev main_c_52 : Ref sig .tc := ⟨.hbm, 330, rfl⟩
abbrev main_v253 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_v260 : Ref sig .tc := ⟨.hbm, 338, rfl⟩
abbrev main_v261 : Ref sig .tc := ⟨.hbm, 339, rfl⟩
abbrev main_v262 : Ref sig .tc := ⟨.hbm, 340, rfl⟩
abbrev main_v263 : Ref sig .tc := ⟨.hbm, 341, rfl⟩
abbrev main_v264 : Ref sig .tc := ⟨.hbm, 342, rfl⟩
abbrev main_v265 : Ref sig .tc := ⟨.hbm, 343, rfl⟩
abbrev main_v266 : Ref sig .tc := ⟨.hbm, 344, rfl⟩
abbrev main_v267 : Ref sig .tc := ⟨.hbm, 345, rfl⟩
abbrev main_v268 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_v275 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_cst_53 : Ref sig .tc := ⟨.hbm, 361, rfl⟩
abbrev main_v283 : Ref sig .tc := ⟨.hbm, 362, rfl⟩
abbrev main_v284 : Ref sig .tc := ⟨.hbm, 363, rfl⟩
abbrev main_v285 : Ref sig .tc := ⟨.hbm, 364, rfl⟩
abbrev main_v286 : Ref sig .tc := ⟨.hbm, 365, rfl⟩
abbrev main_v287 : Ref sig .tc := ⟨.hbm, 366, rfl⟩
abbrev main_v288 : Ref sig .tc := ⟨.hbm, 367, rfl⟩
abbrev main_v289 : Ref sig .tc := ⟨.hbm, 368, rfl⟩
abbrev main_v290 : Ref sig .tc := ⟨.hbm, 369, rfl⟩
abbrev main_cst_54 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_v294 : Ref sig .tc := ⟨.hbm, 374, rfl⟩
abbrev main_v295 : Ref sig .tc := ⟨.hbm, 375, rfl⟩
abbrev main_cst_55 : Ref sig .tc := ⟨.hbm, 376, rfl⟩
abbrev main_v296 : Ref sig .tc := ⟨.hbm, 377, rfl⟩
abbrev main_v297 : Ref sig .tc := ⟨.hbm, 378, rfl⟩
abbrev main_cst_56 : Ref sig .tc := ⟨.hbm, 379, rfl⟩
abbrev main_v298 : Ref sig .tc := ⟨.hbm, 380, rfl⟩
abbrev main_v299 : Ref sig .tc := ⟨.hbm, 381, rfl⟩
abbrev main_v300 : Ref sig .tc := ⟨.hbm, 382, rfl⟩
abbrev main_v301 : Ref sig .tc := ⟨.hbm, 383, rfl⟩
abbrev main_v302 : Ref sig .tc := ⟨.hbm, 384, rfl⟩
abbrev main_cst_57 : Ref sig .tc := ⟨.hbm, 385, rfl⟩
abbrev main_v303 : Ref sig .tc := ⟨.hbm, 386, rfl⟩
abbrev main_v304 : Ref sig .tc := ⟨.hbm, 387, rfl⟩
abbrev main_v305 : Ref sig .tc := ⟨.hbm, 388, rfl⟩
abbrev main_cst_58 : Ref sig .tc := ⟨.hbm, 389, rfl⟩
abbrev main_call4_v0 : Ref sig .tc := ⟨.hbm, 390, rfl⟩
abbrev main_call4_v1 : Ref sig .tc := ⟨.hbm, 391, rfl⟩
abbrev main_v306 : Ref sig .tc := ⟨.hbm, 392, rfl⟩
abbrev main_cst_59 : Ref sig .tc := ⟨.hbm, 393, rfl⟩
abbrev main_v307 : Ref sig .tc := ⟨.hbm, 394, rfl⟩
abbrev main_v308 : Ref sig .tc := ⟨.hbm, 395, rfl⟩
abbrev main_cst_60 : Ref sig .tc := ⟨.hbm, 396, rfl⟩
abbrev main_v309 : Ref sig .tc := ⟨.hbm, 397, rfl⟩
abbrev main_v310 : Ref sig .tc := ⟨.hbm, 398, rfl⟩
abbrev main_v311 : Ref sig .tc := ⟨.hbm, 399, rfl⟩
abbrev main_v312 : Ref sig .tc := ⟨.hbm, 400, rfl⟩
abbrev main_cst_61 : Ref sig .tc := ⟨.hbm, 401, rfl⟩
abbrev main_v313 : Ref sig .tc := ⟨.hbm, 402, rfl⟩
abbrev main_v314 : Ref sig .tc := ⟨.hbm, 403, rfl⟩
abbrev main_v315 : Ref sig .tc := ⟨.hbm, 404, rfl⟩
abbrev main_v316 : Ref sig .tc := ⟨.hbm, 405, rfl⟩
abbrev main_cst_62 : Ref sig .tc := ⟨.hbm, 406, rfl⟩
abbrev main_v317 : Ref sig .tc := ⟨.hbm, 407, rfl⟩
abbrev main_v318 : Ref sig .tc := ⟨.hbm, 408, rfl⟩
abbrev main_v319 : Ref sig .tc := ⟨.hbm, 409, rfl⟩
abbrev main_v320 : Ref sig .tc := ⟨.hbm, 410, rfl⟩
abbrev main_cst_63 : Ref sig .tc := ⟨.hbm, 411, rfl⟩
abbrev main_v321 : Ref sig .tc := ⟨.hbm, 412, rfl⟩
abbrev main_v322 : Ref sig .tc := ⟨.hbm, 413, rfl⟩
abbrev main_v323 : Ref sig .tc := ⟨.hbm, 414, rfl⟩
abbrev main_v324 : Ref sig .tc := ⟨.hbm, 415, rfl⟩
abbrev main_cst_64 : Ref sig .tc := ⟨.hbm, 416, rfl⟩
abbrev main_v325 : Ref sig .tc := ⟨.hbm, 417, rfl⟩
abbrev main_v326 : Ref sig .tc := ⟨.hbm, 418, rfl⟩
abbrev main_v327 : Ref sig .tc := ⟨.hbm, 419, rfl⟩
abbrev main_v328 : Ref sig .tc := ⟨.hbm, 420, rfl⟩
abbrev main_cst_65 : Ref sig .tc := ⟨.hbm, 421, rfl⟩
abbrev main_v329 : Ref sig .tc := ⟨.hbm, 422, rfl⟩
abbrev main_v330 : Ref sig .tc := ⟨.hbm, 423, rfl⟩
abbrev main_v331 : Ref sig .tc := ⟨.hbm, 424, rfl⟩
abbrev main_v332 : Ref sig .tc := ⟨.hbm, 425, rfl⟩
abbrev main_cst_66 : Ref sig .tc := ⟨.hbm, 426, rfl⟩
abbrev main_v333 : Ref sig .tc := ⟨.hbm, 427, rfl⟩
abbrev main_v334 : Ref sig .tc := ⟨.hbm, 428, rfl⟩
abbrev main_v335 : Ref sig .tc := ⟨.hbm, 429, rfl⟩
abbrev main_v336 : Ref sig .tc := ⟨.hbm, 430, rfl⟩
abbrev main_cst_67 : Ref sig .tc := ⟨.hbm, 431, rfl⟩
abbrev main_v337 : Ref sig .tc := ⟨.hbm, 432, rfl⟩
abbrev main_v338 : Ref sig .tc := ⟨.hbm, 433, rfl⟩
abbrev main_v339 : Ref sig .tc := ⟨.hbm, 434, rfl⟩
abbrev main_v340 : Ref sig .tc := ⟨.hbm, 435, rfl⟩
abbrev main_cst_68 : Ref sig .tc := ⟨.hbm, 436, rfl⟩
abbrev main_v341 : Ref sig .tc := ⟨.hbm, 437, rfl⟩
abbrev main_v342 : Ref sig .tc := ⟨.hbm, 438, rfl⟩
abbrev main_v343 : Ref sig .tc := ⟨.hbm, 439, rfl⟩
abbrev main_v344 : Ref sig .tc := ⟨.hbm, 440, rfl⟩
abbrev main_cst_69 : Ref sig .tc := ⟨.hbm, 441, rfl⟩
abbrev main_v345 : Ref sig .tc := ⟨.hbm, 442, rfl⟩
abbrev main_v346 : Ref sig .tc := ⟨.hbm, 443, rfl⟩
abbrev main_v347 : Ref sig .tc := ⟨.hbm, 444, rfl⟩
abbrev main_v348 : Ref sig .tc := ⟨.hbm, 445, rfl⟩
abbrev main_v349 : Ref sig .tc := ⟨.hbm, 446, rfl⟩
abbrev main_v350 : Ref sig .tc := ⟨.hbm, 447, rfl⟩
abbrev main_v351 : Ref sig .tc := ⟨.hbm, 448, rfl⟩
abbrev main_v352 : Ref sig .tc := ⟨.hbm, 449, rfl⟩
abbrev main_v353 : Ref sig .tc := ⟨.hbm, 450, rfl⟩
abbrev main_v354 : Ref sig .tc := ⟨.hbm, 451, rfl⟩
abbrev main_v355 : Ref sig .tc := ⟨.hbm, 452, rfl⟩
abbrev main_v356 : Ref sig .tc := ⟨.hbm, 453, rfl⟩
abbrev main_v357 : Ref sig .tc := ⟨.hbm, 454, rfl⟩
abbrev main_v358 : Ref sig .tc := ⟨.hbm, 455, rfl⟩
abbrev main_cst_70 : Ref sig .tc := ⟨.hbm, 456, rfl⟩
abbrev main_v359 : Ref sig .tc := ⟨.hbm, 457, rfl⟩
abbrev main_v360 : Ref sig .tc := ⟨.hbm, 458, rfl⟩
abbrev main_v361 : Ref sig .tc := ⟨.hbm, 459, rfl⟩
abbrev main_v362 : Ref sig .tc := ⟨.hbm, 460, rfl⟩
abbrev main_v363 : Ref sig .tc := ⟨.hbm, 461, rfl⟩
abbrev main_v364 : Ref sig .tc := ⟨.hbm, 462, rfl⟩
abbrev main_v365 : Ref sig .tc := ⟨.hbm, 463, rfl⟩
abbrev main_cst_71 : Ref sig .tc := ⟨.hbm, 464, rfl⟩
abbrev main_v366 : Ref sig .tc := ⟨.hbm, 465, rfl⟩
abbrev main_v367 : Ref sig .tc := ⟨.hbm, 466, rfl⟩
abbrev main_v368 : Ref sig .tc := ⟨.hbm, 467, rfl⟩
abbrev main_c_72 : Ref sig .tc := ⟨.hbm, 468, rfl⟩
abbrev main_v369 : Ref sig .tc := ⟨.hbm, 469, rfl⟩
abbrev main_v370 : Ref sig .tc := ⟨.hbm, 470, rfl⟩

abbrev nD : Nat := 1
abbrev τ : Topo := Topo.v7x

variable {F : FTy → Type} [FloatOps F]
-- ==== Proof.Ideal.Prepass.lean ====
/- The first call: what its body leaves in its two output blocks, and its region of the run. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! # REGION 0 of @main: custom_call 0, `cc0__prepass_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): by
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): by
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S16x512 .f32 := (Memref.whole cc0_stg2_0 : Memref sig .tc .vmem S16x512 .f32).view
/-- One staging buffer of output window 3, through which its contents are stated (`View.read_writes_of_cover`: the
    choice does not matter). -/
abbrev VO0_3 : View sig .tc .vmem S1x512 .i32 := (Memref.whole cc0_stg3_0 : Memref sig .tc .vmem S1x512 .i32).view
/-- Each window's current staging memref at point `t`, spelled as the pipeline passes it (`bodyAt0`), and its wholeness. -/
abbrev ms0_0 (t : Fin cfg0.N) : Memref sig .tc .vmem S14x512 .f32 := win0_0.stage (cfg0.slots t 0)
abbrev hs0_0 (t : Fin cfg0.N) : (ms0_0 t).IsWhole := hstage0_0 0
abbrev ms0_1 (t : Fin cfg0.N) : Memref sig .tc .smem S4x4 .f32 := win0_1.stage (cfg0.slots t 1)
abbrev hs0_1 (t : Fin cfg0.N) : (ms0_1 t).IsWhole := hstage0_1 0
abbrev ms0_2 (t : Fin cfg0.N) : Memref sig .tc .vmem S16x512 .f32 := win0_2.stage (cfg0.slots t 2)
abbrev hs0_2 (t : Fin cfg0.N) : (ms0_2 t).IsWhole := hstage0_2 0
abbrev ms0_3 (t : Fin cfg0.N) : Memref sig .tc .vmem S1x512 .i32 := win0_3.stage (cfg0.slots t 3)
abbrev hs0_3 (t : Fin cfg0.N) : (ms0_3 t).IsWhole := hstage0_3 0

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs; the pieces are
    the witness that run finds (assigned when `iexact` hands the buffer to the continuation). -/
noncomputable def kernelRun0_A (c : Dev nD) (arg0 : Memref sig .tc .vmem S14x512 .f32) (harg0 : arg0.IsWhole) (arg1 : Memref sig .tc .smem S4x4 .f32) (harg1 : arg1.IsWhole) (arg2 : Memref sig .tc .vmem S16x512 .f32) (harg2 : arg2.IsWhole) (arg3 : Memref sig .tc .vmem S1x512 .i32) (harg3 : arg3.IsWhole)
    (x0 : Vec F S14x512 .f32) (x1 : Vec F S4x4 .f32) :
    Σ' (L2 : List (View.Piece (Elt F) S16x512 .f32)), { L3 : List (View.Piece (Elt F) S1x512 .i32) //
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d)
            ∗ (iprop(owns (c : Thread nD τ) arg0 fullShare x0 ∗ owns (c : Thread nD τ) arg1 fullShare x1 ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3)) -∗ K ⟨⟩))
          ⊢ wp frame (wpE (defs₀ (F := F)) Variants.none c none) E (cc0__prepass_body arg0 harg0 arg1 harg1 arg2 harg2 arg3 harg3) K } := by
  refine ⟨?_, ?_, fun E K => ?run⟩
  case run =>
    simp only [cc0__prepass_body_eq_skeleton]; unfold cc0__prepass_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%d2, %f2, -, H2⟩, ⟨%d3, %f3, -, H3⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]; · iexists _; iexact H2
    iexists _; iexact H3

/-- The run's pieces for output 2 are of SEVERAL sizes (11 stores of `S1x512`, `S3x512`, `S4x512`): cut into blocks of `![1, 512]` they tile its block (checked by the kernel's evaluation: by `Piece.tiledBy`), so they cover it. -/
theorem cover0_A_2 (c : Dev nD) (arg0 : Memref sig .tc .vmem S14x512 .f32) (harg0 : arg0.IsWhole) (arg1 : Memref sig .tc .smem S4x4 .f32) (harg1 : arg1.IsWhole) (arg2 : Memref sig .tc .vmem S16x512 .f32) (harg2 : arg2.IsWhole) (arg3 : Memref sig .tc .vmem S1x512 .i32) (harg3 : arg3.IsWhole)
    (x0 : Vec F S14x512 .f32) (x1 : Vec F S4x4 .f32) (y : S16x512.Idx) :
    ∃ pc ∈ (kernelRun0_A c arg0 harg0 arg1 harg1 arg2 harg2 arg3 harg3 x0 x1).1, y ∈ pc.1.set :=
  View.cover_of_tiledBy (kernelRun0_A c arg0 harg0 arg1 harg1 arg2 harg2 arg3 harg3 x0 x1).1 ![1, 512] (by sl_kernel_rfl) y

/-- What the run leaves in output 2's staging buffer: its pieces read back over junk. -/
def out0_A_2 (c : Dev nD) (arg0 : Memref sig .tc .vmem S14x512 .f32) (harg0 : arg0.IsWhole) (arg1 : Memref sig .tc .smem S4x4 .f32) (harg1 : arg1.IsWhole) (arg2 : Memref sig .tc .vmem S16x512 .f32) (harg2 : arg2.IsWhole) (arg3 : Memref sig .tc .vmem S1x512 .i32) (harg3 : arg3.IsWhole)
    (x0 : Vec F S14x512 .f32) (x1 : Vec F S4x4 .f32) : Vec F S16x512 .f32 :=
  VO0_2.read (Elt F) (VO0_2.writes (Elt F) VO0_2.junk (kernelRun0_A c arg0 harg0 arg1 harg1 arg2 harg2 arg3 harg3 x0 x1).1)

/-- The run's pieces for output 3 tile its block (1 store of `S1x512`, checked by the kernel's evaluation: by `Piece.tiledL`, linear in the pieces, through a loop's `@[irreducible]` trip theorem too), so they cover it. -/
theorem cover0_A_3 (c : Dev nD) (arg0 : Memref sig .tc .vmem S14x512 .f32) (harg0 : arg0.IsWhole) (arg1 : Memref sig .tc .smem S4x4 .f32) (harg1 : arg1.IsWhole) (arg2 : Memref sig .tc .vmem S16x512 .f32) (harg2 : arg2.IsWhole) (arg3 : Memref sig .tc .vmem S1x512 .i32) (harg3 : arg3.IsWhole)
    (x0 : Vec F S14x512 .f32) (x1 : Vec F S4x4 .f32) (y : S1x512.Idx) :
    ∃ pc ∈ (kernelRun0_A c arg0 harg0 arg1 harg1 arg2 harg2 arg3 harg3 x0 x1).2.1, y ∈ pc.1.set :=
  View.cover_of_tiledL (kernelRun0_A c arg0 harg0 arg1 harg1 arg2 harg2 arg3 harg3 x0 x1).2.1 S1x512.size (by sl_kernel_rfl) y

/-- What the run leaves in output 3's staging buffer: its pieces read back over junk. -/
def out0_A_3 (c : Dev nD) (arg0 : Memref sig .tc .vmem S14x512 .f32) (harg0 : arg0.IsWhole) (arg1 : Memref sig .tc .smem S4x4 .f32) (harg1 : arg1.IsWhole) (arg2 : Memref sig .tc .vmem S16x512 .f32) (harg2 : arg2.IsWhole) (arg3 : Memref sig .tc .vmem S1x512 .i32) (harg3 : arg3.IsWhole)
    (x0 : Vec F S14x512 .f32) (x1 : Vec F S4x4 .f32) : Vec F S1x512 .i32 :=
  VO0_3.read (Elt F) (VO0_3.writes (Elt F) VO0_3.junk (kernelRun0_A c arg0 harg0 arg1 harg1 arg2 harg2 arg3 harg3 x0 x1).2.1)

/-! ## What the outputs hold after each point -/

/-- What the outputs' staging buffers hold after the body at point `t` (as a tuple, in window order): the run's contents at
    the point's memrefs and input blocks. -/
def outsAt0 (c : Dev nD) (t : Fin cfg0.N) : Vec F S16x512 .f32 × Vec F S1x512 .i32 :=
  (out0_A_2 c (ms0_0 t) (hs0_0 t) (ms0_1 t) (hs0_1 t) (ms0_2 t) (hs0_2 t) (ms0_3 t) (hs0_3 t) (iblk0 V c 0 t) (iblk0 V c 1 t), out0_A_3 c (ms0_0 t) (hs0_0 t) (ms0_1 t) (hs0_1 t) (ms0_2 t) (hs0_2 t) (ms0_3 t) (hs0_3 t) (iblk0 V c 0 t) (iblk0 V c 1 t))

/-! ## The pipeline's proof data -/

/-- The proof data of pipeline 0 on core `c`: the arrays as the region finds them (`V`); after the body at
    point `t` each input's buffer at its block and the outputs' at `outsAt0`; the invariant the class's
   ; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  unfold outsAt0
  unfold out0_A_2 out0_A_3; (try dsimp only)
  iintro ⟨HΦ, Ho, ⟨%d0, H0⟩, ⟨%d1, H1⟩, ⟨%d2, H2⟩, ⟨%d3, H3⟩⟩
  iapply ((kernelRun0_A c _ _ _ _ _ _ _ _ (iblk0 V c 0 t) (iblk0 V c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _)
  unfold owns; iexists _; isplitr
  swap; · iexact H3
  ipureintro; exact View.read_writes_of_cover _ _ _ _ _ (cover0_A_3 c _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Own

end
-- ==== Proof.Ideal.SortBin.lean ====
/- The second call: what its body leaves in its two output blocks, and its region of the run. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! # REGION 1 of @main: custom_call 1, `cc1__sortbin_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): by
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): by
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S16x512 := Rect.unit (s := S16x512) ![7, 0] S1x512.size inb_S16x512_S1x512_7_0
abbrev r1_1 : Rect S512x16 := Rect.unit (s := S512x16) ![0, 7] S512x1.size inb_S512x16_S512x1_0_7
abbrev r1_2 : Rect S512x16 := Rect.unit (s := S512x16) ![0, 0] S512x16.size inb_S512x16_S512x16_0_0

/-! ## What the body leaves in each output window's buffer -/

/-! ### Values of the body that the stores' payloads, spelt out, would write more than once

    Each is a vector the body binds (often a part call's result), stated over the input windows' blocks and
    numbered on from the skeleton's payload functions (`k1_pay3` …, after `k1_pay2`), so that
    `out1_W` and the values after it name it instead of spelling it out (`unfold_out out1_W` opens a canon
    with them, `unfold_payloads` opens them with the payloads); the comment after each is the printed function's
    name for the value (a count appended where that name is bound again). -/

def k1_pay3 (x0 : Vec F S16x512 .f32) (x1 : Vec F S512x16 .f32) : FVec F S512x16 .f32 :=
  k1_pay2 (View.ld x0 r1_0) (View.ld x1 r1_1) (View.ld x1 r1_2) -- `v42`

/-- Window 2's staging buffer after the body, from the input windows' blocks: its 1 store as pieces, LAST
    FIRST. -/
def out1_2 (x0 : Vec F S16x512 .f32) (x1 : Vec F S512x16 .f32) : Vec F S512x16 .f32 :=
  View.canon [⟨r1_2, k1_pay3 x0 x1⟩]

/-- Its stores tile the buffer (checked by evaluation), so they cover it. -/
theorem cover1_2 (p0 : Vec F S512x16 .f32) (y : S512x16.Idx) :
    ∃ pc ∈ ([⟨r1_2, p0⟩] : List (View.Piece (Elt F) S512x16 .f32)), y ∈ pc.1.set :=
  View.cover_of_tiled [⟨r1_2, p0⟩] S512x16.size (by rfl) y

/-- Window 3's staging buffer after the body, from the input windows' blocks: its 1 store as pieces, LAST
    FIRST. -/
def out1_3 (x0 : Vec F S16x512 .f32) (x1 : Vec F S512x16 .f32) : Vec F S512x16 .i32 :=
  View.canon [⟨r1_2, k1_pay1 (iota .tc S512x512 32 [0] iota_S512x512_d0_w32) (iota .tc S512x512 32 [1] iota_S512x512_d1_w32) (k1_pay3 x0 x1)⟩]

/-- Its stores tile the buffer (checked by evaluation), so they cover it. -/
theorem cover1_3 (p0 : Vec F S512x16 .i32) (y : S512x16.Idx) :
    ∃ pc ∈ ([⟨r1_2, p0⟩] : List (View.Piece (Elt F) S512x16 .i32)), y ∈ pc.1.set :=
  View.cover_of_tiled [⟨r1_2, p0⟩] S512x16.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs, through every part call. -/
theorem sound_kernel1 (c : Dev nD) (E : Set ℕ) (arg0 : Memref sig .tc .vmem S16x512 .f32) (harg0 : arg0.IsWhole) (arg1 : Memref sig .tc .vmem S512x16 .f32) (harg1 : arg1.IsWhole) (arg2 : Memref sig .tc .vmem S512x16 .f32) (harg2 : arg2.IsWhole) (arg3 : Memref sig .tc .vmem S512x16 .i32) (harg3 : arg3.IsWhole)
    (x0 : Vec F S16x512 .f32) (x1 : Vec F S512x16 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (out1_2 x0 x1) ∗ owns (c : Thread nD τ) arg3 fullShare (out1_3 x0 x1)) -∗ K ⟨⟩))
      ⊢ wp frame (wpE (defs₀ (F := F)) Variants.none c none) E (cc1__sortbin_body arg0 harg0 arg1 harg1 arg2 harg2 arg3 harg3) K := by
  simp only [cc1__sortbin_body_eq_skeleton]; unfold cc1__sortbin_body_skel
  simp only [k1_part1_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover1_2 _)).trans ?_
    rfl
  iexists _; isplitr
  swap; · iexact H3
  ipureintro
  refine (View.read_writes_eq_canon _ _ _ (cover1_3 _)).trans ?_
  rfl

/-! ## The pipeline's proof data -/

/-- The proof data of pipeline 1 on core `c`: the arrays as the region finds them (`V`); after the body at
    point `t` each input's buffer at its block and each output's at `out1_W` of the input blocks; the invariant the
    class's; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: by `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Own

end
-- ==== Proof.Ideal.Chunks.lean ====
/- The third call's body, one grid point: four chunks of 128 gaussians, each guarded by the tile's count, update the
   four scratch buffers (sums, transmittance, greatest weight, number seen). A guarded chunk is a step of the four
   buffers' contents; the body's two outputs are read from the contents after the four steps. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the four scratch buffers hold: the weighted sums, the transmittance, the greatest weight, the number of
    gaussians seen. -/
structure Acc (F : FTy → Type) [FloatOps F] where
  sums : Vec F S8x4096 .f32
  trans : Vec F S1x4096 .f32
  wmax : Vec F S1x4096 .f32
  seen : Vec F S1x4096 .f32

/-- The contents the body starts each grid point with. -/
def acc0 : Acc F := ⟨k2_pay62, k2_pay63, k2_pay64, k2_pay65⟩

/-- The four scratch buffers at the contents `s`. -/
def held4 (c : Dev nD) (arg6 : Memref sig .tc .vmem S8x4096 .f32) (arg7 arg8 arg9 : Memref sig .tc .vmem S1x4096 .f32) (s : Acc F) : sProp 𝕄 :=
  iprop(owns (c : Thread nD τ) arg6 fullShare s.sums ∗ owns (c : Thread nD τ) arg7 fullShare s.trans
    ∗ owns (c : Thread nD τ) arg8 fullShare s.wmax ∗ owns (c : Thread nD τ) arg9 fullShare s.seen)

theorem z2 : (![0, 0] : Fin 2 → Nat) = fun _ => 0 := by decide
theorem cover8 (p0 : Vec F S8x4096 .f32) (y : S8x4096.Idx) :
    ∃ pc ∈ ([⟨Rect.unit (s := S8x4096) ![0, 0] S8x4096.size inb_S8x4096_S8x4096_0_0, p0⟩] : List (View.Piece (Elt F) S8x4096 .f32)), y ∈ pc.1.set :=
  View.cover_of_tiled [⟨Rect.unit (s := S8x4096) ![0, 0] S8x4096.size inb_S8x4096_S8x4096_0_0, p0⟩] S8x4096.size (by rfl) y
theorem coverF (p0 : Vec F S1x4096 .f32) (y : S1x4096.Idx) :
    ∃ pc ∈ ([⟨Rect.unit (s := S1x4096) ![0, 0] S1x4096.size inb_S1x4096_S1x4096_0_0, p0⟩] : List (View.Piece (Elt F) S1x4096 .f32)), y ∈ pc.1.set :=
  View.cover_of_tiled [⟨Rect.unit (s := S1x4096) ![0, 0] S1x4096.size inb_S1x4096_S1x4096_0_0, p0⟩] S1x4096.size (by rfl) y
theorem coverI (p0 : Vec F S1x4096 .i32) (y : S1x4096.Idx) :
    ∃ pc ∈ ([⟨Rect.unit (s := S1x4096) ![0, 0] S1x4096.size inb_S1x4096_S1x4096_0_0, p0⟩] : List (View.Piece (Elt F) S1x4096 .i32)), y ∈ pc.1.set :=
  View.cover_of_tiled [⟨Rect.unit (s := S1x4096) ![0, 0] S1x4096.size inb_S1x4096_S1x4096_0_0, p0⟩] S1x4096.size (by rfl) y

/-- Chunk 0's step of the scratch contents: the pixel coordinates `v6`, `v9`, the tile's compacted rows `v40`, the
    strictly lower triangle `v47`. -/
def chunk0 (v6 v9 : FVec F S1x4096 .f32) (v40 : FVec F S512x16 .f32) (v47 : FVec F S128x128 .bf16) (s : Acc F) : Acc F where
  sums := k2_pay12 v40 (k2_pay6 v6 v9 v40) (k2_pay9 v6 v9 v40 v47) (k2_pay10 s.trans) s.sums
  trans := k2_pay15 (k2_pay7 v6 v9 v40) (k2_pay8 v6 v9 v40 v47) s.trans
  wmax := k2_pay14 (k2_pay6 v6 v9 v40) (k2_pay9 v6 v9 v40 v47) (k2_pay10 s.trans) s.wmax
  seen := k2_pay13 (k2_pay5 v6 v9 v40) s.seen

/-- The printed chunk 0 steps the scratch contents. -/
theorem chunk0_run (c : Dev nD) (E : Set ℕ) (i : grid2.Coords) (arg1 : Memref sig .tc .vmem S512x16 .f32) (harg1 : arg1.IsWhole) (arg2 : Memref sig .tc .vmem S512x16 .i32) (harg2 : arg2.IsWhole) (arg3 : Memref sig .tc .smem S3 .f32) (harg3 : arg3.IsWhole) (arg4 : Memref sig .tc .vmem S8x4096 .f32) (harg4 : arg4.IsWhole) (arg5 : Memref sig .tc .vmem S1x4096 .i32) (harg5 : arg5.IsWhole) (arg6 : Memref sig .tc .vmem S8x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole)
    (v6 v9 : FVec F S1x4096 .f32) (v40 : FVec F S512x16 .f32) (v47 : FVec F S128x128 .bf16) (s : Acc F) (K : PUnit → sProp 𝕄) :
    iprop(held4 c arg6 arg7 arg8 arg9 s ∗ (held4 c arg6 arg7 arg8 arg9 (chunk0 v6 v9 v40 v47 s) -∗ K ⟨⟩))
      ⊢ wp frame (wpE (defs₀ (F := F)) Variants.none c none) E (k2_part2 i arg1 harg1 arg2 harg2 arg3 harg3 arg4 harg4 arg5 harg5 arg6 harg6 arg7 harg7 arg8 harg8 arg9 harg9 v6 v9 v40 v47) K := by
  obtain ⟨x6, x7, x8, x9⟩ := s
  rw [k2_part2_eq_skeleton]; unfold k2_part2_skel
  simp only [k2_part1_eq_skeleton]
  unfold held4 owns chunk0
  dsimp only
  iintro ⟨⟨⟨%f6, %hf6, H6⟩, ⟨%f7, %hf7, H7⟩, ⟨%f8, %hf8, H8⟩, ⟨%f9, %hf9, H9⟩⟩, Hk⟩
  subst hf6 hf7 hf8 hf9
  sl_exec
  sl_step
  iapply Hk
  isplitl [H6]
  · iexists _; isplitr
    swap; · iexact H6
    ipureintro
    refine (View.read_writes_eq_canon _ _ _ (cover8 _)).trans ((View.canon_unit_zero z2 _ _).trans ?_)
    have e6 := View.ld_unit_zero (Val := Elt F) z2 inb_S8x4096_S8x4096_0_0 (arg6.view.read (Elt F) f6)
    have e7 := View.ld_unit_zero (Val := Elt F) z2 inb_S1x4096_S1x4096_0_0 (arg7.view.read (Elt F) f7)
    conv_rhs => rw [← e6, ← e7]
    rfl
  isplitl [H7]
  · iexists _; isplitr
    swap; · iexact H7
    ipureintro
    refine (View.read_writes_eq_canon _ _ _ (coverF _)).trans ((View.canon_unit_zero z2 _ _).trans ?_)
    have e7 := View.ld_unit_zero (Val := Elt F) z2 inb_S1x4096_S1x4096_0_0 (arg7.view.read (Elt F) f7)
    conv_rhs => rw [← e7]
    rfl
  isplitl [H8]
  · iexists _; isplitr
    swap; · iexact H8
    ipureintro
    refine (View.read_writes_eq_canon _ _ _ (coverF _)).trans ((View.canon_unit_zero z2 _ _).trans ?_)
    have e7 := View.ld_unit_zero (Val := Elt F) z2 inb_S1x4096_S1x4096_0_0 (arg7.view.read (Elt F) f7)
    have e8 := View.ld_unit_zero (Val := Elt F) z2 inb_S1x4096_S1x4096_0_0 (arg8.view.read (Elt F) f8)
    conv_rhs => rw [← e7, ← e8]
    rfl
  iexists _; isplitr
  swap; · iexact H9
  ipureintro
  refine (View.read_writes_eq_canon _ _ _ (coverF _)).trans ((View.canon_unit_zero z2 _ _).trans ?_)
  have e9 := View.ld_unit_zero (Val := Elt F) z2 inb_S1x4096_S1x4096_0_0 (arg9.view.read (Elt F) f9)
  conv_rhs => rw [← e9]
  rfl

/-- The guarded chunk 0, before any rest of the body, steps the scratch contents where its guard holds and leaves them elsewhere. -/
theorem guarded0_run (c : Dev nD) (E : Set ℕ) (i : grid2.Coords) (arg1 : Memref sig .tc .vmem S512x16 .f32) (harg1 : arg1.IsWhole) (arg2 : Memref sig .tc .vmem S512x16 .i32) (harg2 : arg2.IsWhole) (arg3 : Memref sig .tc .smem S3 .f32) (harg3 : arg3.IsWhole) (arg4 : Memref sig .tc .vmem S8x4096 .f32) (harg4 : arg4.IsWhole) (arg5 : Memref sig .tc .vmem S1x4096 .i32) (harg5 : arg5.IsWhole) (arg6 : Memref sig .tc .vmem S8x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole)
    (v6 v9 : FVec F S1x4096 .f32) (v40 : FVec F S512x16 .f32) (v47 : FVec F S128x128 .bf16) (b : BitVec 1) (s : Acc F)
    {α : Type} (rest : Prog (TpuEff nD τ sig (Elt F) Λ₀ .tc) α) (Q : α → sProp 𝕄) :
    iprop(held4 c arg6 arg7 arg8 arg9 s ∗ (held4 c arg6 arg7 arg8 arg9 (if b = 1#1 then chunk0 v6 v9 v40 v47 s else s)
        -∗ wp frame (wpE (defs₀ (F := F)) Variants.none c none) E rest Q))
      ⊢ wp frame (wpE (defs₀ (F := F)) Variants.none c none) E
          (if b = 1#1 then do
            k2_part2 i arg1 harg1 arg2 harg2 arg3 harg3 arg4 harg4 arg5 harg5 arg6 harg6 arg7 harg7 arg8 harg8 arg9 harg9 v6 v9 v40 v47
            rest
          else rest) Q := by
  by_cases hb : b = 1#1
  · rw [if_pos hb, if_pos hb, wp_bind]
    exact chunk0_run c E i arg1 harg1 arg2 harg2 arg3 harg3 arg4 harg4 arg5 harg5 arg6 harg6 arg7 harg7 arg8 harg8 arg9 harg9 v6 v9 v40 v47 s (fun _ => wp frame (wpE (defs₀ (F := F)) Variants.none c none) E rest Q)
  · rw [if_neg hb, if_neg hb]
    iintro ⟨H, Hk⟩
    iapply Hk
    iexact H

/-- Chunk 1's step of the scratch contents: the pixel coordinates `v6`, `v9`, the tile's compacted rows `v40`, the
    strictly lower triangle `v47`. -/
def chunk1 (v6 v9 : FVec F S1x4096 .f32) (v40 : FVec F S512x16 .f32) (v47 : FVec F S128x128 .bf16) (s : Acc F) : Acc F where
  sums := k2_pay25 v40 (k2_pay19 v6 v9 v40) (k2_pay22 v6 v9 v40 v47) (k2_pay23 s.trans) s.sums
  trans := k2_pay28 (k2_pay20 v6 v9 v40) (k2_pay21 v6 v9 v40 v47) s.trans
  wmax := k2_pay27 (k2_pay19 v6 v9 v40) (k2_pay22 v6 v9 v40 v47) (k2_pay23 s.trans) s.wmax
  seen := k2_pay26 (k2_pay18 v6 v9 v40) s.seen

/-- The printed chunk 1 steps the scratch contents. -/
theorem chunk1_run (c : Dev nD) (E : Set ℕ) (i : grid2.Coords) (arg1 : Memref sig .tc .vmem S512x16 .f32) (harg1 : arg1.IsWhole) (arg2 : Memref sig .tc .vmem S512x16 .i32) (harg2 : arg2.IsWhole) (arg3 : Memref sig .tc .smem S3 .f32) (harg3 : arg3.IsWhole) (arg4 : Memref sig .tc .vmem S8x4096 .f32) (harg4 : arg4.IsWhole) (arg5 : Memref sig .tc .vmem S1x4096 .i32) (harg5 : arg5.IsWhole) (arg6 : Memref sig .tc .vmem S8x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole)
    (v6 v9 : FVec F S1x4096 .f32) (v40 : FVec F S512x16 .f32) (v47 : FVec F S128x128 .bf16) (s : Acc F) (K : PUnit → sProp 𝕄) :
    iprop(held4 c arg6 arg7 arg8 arg9 s ∗ (held4 c arg6 arg7 arg8 arg9 (chunk1 v6 v9 v40 v47 s) -∗ K ⟨⟩))
      ⊢ wp frame (wpE (defs₀ (F := F)) Variants.none c none) E (k2_part4 i arg1 harg1 arg2 harg2 arg3 harg3 arg4 harg4 arg5 harg5 arg6 harg6 arg7 harg7 arg8 harg8 arg9 harg9 v6 v9 v40 v47) K := by
  obtain ⟨x6, x7, x8, x9⟩ := s
  rw [k2_part4_eq_skeleton]; unfold k2_part4_skel
  simp only [k2_part3_eq_skeleton]
  unfold held4 owns chunk1
  dsimp only
  iintro ⟨⟨⟨%f6, %hf6, H6⟩, ⟨%f7, %hf7, H7⟩, ⟨%f8, %hf8, H8⟩, ⟨%f9, %hf9, H9⟩⟩, Hk⟩
  subst hf6 hf7 hf8 hf9
  sl_exec
  sl_step
  iapply Hk
  isplitl [H6]
  · iexists _; isplitr
    swap; · iexact H6
    ipureintro
    refine (View.read_writes_eq_canon _ _ _ (cover8 _)).trans ((View.canon_unit_zero z2 _ _).trans ?_)
    have e6 := View.ld_unit_zero (Val := Elt F) z2 inb_S8x4096_S8x4096_0_0 (arg6.view.read (Elt F) f6)
    have e7 := View.ld_unit_zero (Val := Elt F) z2 inb_S1x4096_S1x4096_0_0 (arg7.view.read (Elt F) f7)
    conv_rhs => rw [← e6, ← e7]
    rfl
  isplitl [H7]
  · iexists _; isplitr
    swap; · iexact H7
    ipureintro
    refine (View.read_writes_eq_canon _ _ _ (coverF _)).trans ((View.canon_unit_zero z2 _ _).trans ?_)
    have e7 := View.ld_unit_zero (Val := Elt F) z2 inb_S1x4096_S1x4096_0_0 (arg7.view.read (Elt F) f7)
    conv_rhs => rw [← e7]
    rfl
  isplitl [H8]
  · iexists _; isplitr
    swap; · iexact H8
    ipureintro
    refine (View.read_writes_eq_canon _ _ _ (coverF _)).trans ((View.canon_unit_zero z2 _ _).trans ?_)
    have e7 := View.ld_unit_zero (Val := Elt F) z2 inb_S1x4096_S1x4096_0_0 (arg7.view.read (Elt F) f7)
    have e8 := View.ld_unit_zero (Val := Elt F) z2 inb_S1x4096_S1x4096_0_0 (arg8.view.read (Elt F) f8)
    conv_rhs => rw [← e7, ← e8]
    rfl
  iexists _; isplitr
  swap; · iexact H9
  ipureintro
  refine (View.read_writes_eq_canon _ _ _ (coverF _)).trans ((View.canon_unit_zero z2 _ _).trans ?_)
  have e9 := View.ld_unit_zero (Val := Elt F) z2 inb_S1x4096_S1x4096_0_0 (arg9.view.read (Elt F) f9)
  conv_rhs => rw [← e9]
  rfl

/-- The guarded chunk 1, before any rest of the body, steps the scratch contents where its guard holds and leaves them elsewhere. -/
theorem guarded1_run (c : Dev nD) (E : Set ℕ) (i : grid2.Coords) (arg1 : Memref sig .tc .vmem S512x16 .f32) (harg1 : arg1.IsWhole) (arg2 : Memref sig .tc .vmem S512x16 .i32) (harg2 : arg2.IsWhole) (arg3 : Memref sig .tc .smem S3 .f32) (harg3 : arg3.IsWhole) (arg4 : Memref sig .tc .vmem S8x4096 .f32) (harg4 : arg4.IsWhole) (arg5 : Memref sig .tc .vmem S1x4096 .i32) (harg5 : arg5.IsWhole) (arg6 : Memref sig .tc .vmem S8x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole)
    (v6 v9 : FVec F S1x4096 .f32) (v40 : FVec F S512x16 .f32) (v47 : FVec F S128x128 .bf16) (b : BitVec 1) (s : Acc F)
    {α : Type} (rest : Prog (TpuEff nD τ sig (Elt F) Λ₀ .tc) α) (Q : α → sProp 𝕄) :
    iprop(held4 c arg6 arg7 arg8 arg9 s ∗ (held4 c arg6 arg7 arg8 arg9 (if b = 1#1 then chunk1 v6 v9 v40 v47 s else s)
        -∗ wp frame (wpE (defs₀ (F := F)) Variants.none c none) E rest Q))
      ⊢ wp frame (wpE (defs₀ (F := F)) Variants.none c none) E
          (if b = 1#1 then do
            k2_part4 i arg1 harg1 arg2 harg2 arg3 harg3 arg4 harg4 arg5 harg5 arg6 harg6 arg7 harg7 arg8 harg8 arg9 harg9 v6 v9 v40 v47
            rest
          else rest) Q := by
  by_cases hb : b = 1#1
  · rw [if_pos hb, if_pos hb, wp_bind]
    exact chunk1_run c E i arg1 harg1 arg2 harg2 arg3 harg3 arg4 harg4 arg5 harg5 arg6 harg6 arg7 harg7 arg8 harg8 arg9 harg9 v6 v9 v40 v47 s (fun _ => wp frame (wpE (defs₀ (F := F)) Variants.none c none) E rest Q)
  · rw [if_neg hb, if_neg hb]
    iintro ⟨H, Hk⟩
    iapply Hk
    iexact H

/-- Chunk 2's step of the scratch contents: the pixel coordinates `v6`, `v9`, the tile's compacted rows `v40`, the
    strictly lower triangle `v47`. -/
def chunk2 (v6 v9 : FVec F S1x4096 .f32) (v40 : FVec F S512x16 .f32) (v47 : FVec F S128x128 .bf16) (s : Acc F) : Acc F where
  sums := k2_pay38 v40 (k2_pay32 v6 v9 v40) (k2_pay35 v6 v9 v40 v47) (k2_pay36 s.trans) s.sums
  trans := k2_pay41 (k2_pay33 v6 v9 v40) (k2_pay34 v6 v9 v40 v47) s.trans
  wmax := k2_pay40 (k2_pay32 v6 v9 v40) (k2_pay35 v6 v9 v40 v47) (k2_pay36 s.trans) s.wmax
  seen := k2_pay39 (k2_pay31 v6 v9 v40) s.seen

/-- The printed chunk 2 steps the scratch contents. -/
theorem chunk2_run (c : Dev nD) (E : Set ℕ) (i : grid2.Coords) (arg1 : Memref sig .tc .vmem S512x16 .f32) (harg1 : arg1.IsWhole) (arg2 : Memref sig .tc .vmem S512x16 .i32) (harg2 : arg2.IsWhole) (arg3 : Memref sig .tc .smem S3 .f32) (harg3 : arg3.IsWhole) (arg4 : Memref sig .tc .vmem S8x4096 .f32) (harg4 : arg4.IsWhole) (arg5 : Memref sig .tc .vmem S1x4096 .i32) (harg5 : arg5.IsWhole) (arg6 : Memref sig .tc .vmem S8x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole)
    (v6 v9 : FVec F S1x4096 .f32) (v40 : FVec F S512x16 .f32) (v47 : FVec F S128x128 .bf16) (s : Acc F) (K : PUnit → sProp 𝕄) :
    iprop(held4 c arg6 arg7 arg8 arg9 s ∗ (held4 c arg6 arg7 arg8 arg9 (chunk2 v6 v9 v40 v47 s) -∗ K ⟨⟩))
      ⊢ wp frame (wpE (defs₀ (F := F)) Variants.none c none) E (k2_part6 i arg1 harg1 arg2 harg2 arg3 harg3 arg4 harg4 arg5 harg5 arg6 harg6 arg7 harg7 arg8 harg8 arg9 harg9 v6 v9 v40 v47) K := by
  obtain ⟨x6, x7, x8, x9⟩ := s
  rw [k2_part6_eq_skeleton]; unfold k2_part6_skel
  simp only [k2_part5_eq_skeleton]
  unfold held4 owns chunk2
  dsimp only
  iintro ⟨⟨⟨%f6, %hf6, H6⟩, ⟨%f7, %hf7, H7⟩, ⟨%f8, %hf8, H8⟩, ⟨%f9, %hf9, H9⟩⟩, Hk⟩
  subst hf6 hf7 hf8 hf9
  sl_exec
  sl_step
  iapply Hk
  isplitl [H6]
  · iexists _; isplitr
    swap; · iexact H6
    ipureintro
    refine (View.read_writes_eq_canon _ _ _ (cover8 _)).trans ((View.canon_unit_zero z2 _ _).trans ?_)
    have e6 := View.ld_unit_zero (Val := Elt F) z2 inb_S8x4096_S8x4096_0_0 (arg6.view.read (Elt F) f6)
    have e7 := View.ld_unit_zero (Val := Elt F) z2 inb_S1x4096_S1x4096_0_0 (arg7.view.read (Elt F) f7)
    conv_rhs => rw [← e6, ← e7]
    rfl
  isplitl [H7]
  · iexists _; isplitr
    swap; · iexact H7
    ipureintro
    refine (View.read_writes_eq_canon _ _ _ (coverF _)).trans ((View.canon_unit_zero z2 _ _).trans ?_)
    have e7 := View.ld_unit_zero (Val := Elt F) z2 inb_S1x4096_S1x4096_0_0 (arg7.view.read (Elt F) f7)
    conv_rhs => rw [← e7]
    rfl
  isplitl [H8]
  · iexists _; isplitr
    swap; · iexact H8
    ipureintro
    refine (View.read_writes_eq_canon _ _ _ (coverF _)).trans ((View.canon_unit_zero z2 _ _).trans ?_)
    have e7 := View.ld_unit_zero (Val := Elt F) z2 inb_S1x4096_S1x4096_0_0 (arg7.view.read (Elt F) f7)
    have e8 := View.ld_unit_zero (Val := Elt F) z2 inb_S1x4096_S1x4096_0_0 (arg8.view.read (Elt F) f8)
    conv_rhs => rw [← e7, ← e8]
    rfl
  iexists _; isplitr
  swap; · iexact H9
  ipureintro
  refine (View.read_writes_eq_canon _ _ _ (coverF _)).trans ((View.canon_unit_zero z2 _ _).trans ?_)
  have e9 := View.ld_unit_zero (Val := Elt F) z2 inb_S1x4096_S1x4096_0_0 (arg9.view.read (Elt F) f9)
  conv_rhs => rw [← e9]
  rfl

/-- The guarded chunk 2, before any rest of the body, steps the scratch contents where its guard holds and leaves them elsewhere. -/
theorem guarded2_run (c : Dev nD) (E : Set ℕ) (i : grid2.Coords) (arg1 : Memref sig .tc .vmem S512x16 .f32) (harg1 : arg1.IsWhole) (arg2 : Memref sig .tc .vmem S512x16 .i32) (harg2 : arg2.IsWhole) (arg3 : Memref sig .tc .smem S3 .f32) (harg3 : arg3.IsWhole) (arg4 : Memref sig .tc .vmem S8x4096 .f32) (harg4 : arg4.IsWhole) (arg5 : Memref sig .tc .vmem S1x4096 .i32) (harg5 : arg5.IsWhole) (arg6 : Memref sig .tc .vmem S8x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole)
    (v6 v9 : FVec F S1x4096 .f32) (v40 : FVec F S512x16 .f32) (v47 : FVec F S128x128 .bf16) (b : BitVec 1) (s : Acc F)
    {α : Type} (rest : Prog (TpuEff nD τ sig (Elt F) Λ₀ .tc) α) (Q : α → sProp 𝕄) :
    iprop(held4 c arg6 arg7 arg8 arg9 s ∗ (held4 c arg6 arg7 arg8 arg9 (if b = 1#1 then chunk2 v6 v9 v40 v47 s else s)
        -∗ wp frame (wpE (defs₀ (F := F)) Variants.none c none) E rest Q))
      ⊢ wp frame (wpE (defs₀ (F := F)) Variants.none c none) E
          (if b = 1#1 then do
            k2_part6 i arg1 harg1 arg2 harg2 arg3 harg3 arg4 harg4 arg5 harg5 arg6 harg6 arg7 harg7 arg8 harg8 arg9 harg9 v6 v9 v40 v47
            rest
          else rest) Q := by
  by_cases hb : b = 1#1
  · rw [if_pos hb, if_pos hb, wp_bind]
    exact chunk2_run c E i arg1 harg1 arg2 harg2 arg3 harg3 arg4 harg4 arg5 harg5 arg6 harg6 arg7 harg7 arg8 harg8 arg9 harg9 v6 v9 v40 v47 s (fun _ => wp frame (wpE (defs₀ (F := F)) Variants.none c none) E rest Q)
  · rw [if_neg hb, if_neg hb]
    iintro ⟨H, Hk⟩
    iapply Hk
    iexact H

/-- Chunk 3's step of the scratch contents: the pixel coordinates `v6`, `v9`, the tile's compacted rows `v40`, the
    strictly lower triangle `v47`. -/
def chunk3 (v6 v9 : FVec F S1x4096 .f32) (v40 : FVec F S512x16 .f32) (v47 : FVec F S128x128 .bf16) (s : Acc F) : Acc F where
  sums := k2_pay51 v40 (k2_pay45 v6 v9 v40) (k2_pay48 v6 v9 v40 v47) (k2_pay49 s.trans) s.sums
  trans := k2_pay54 (k2_pay46 v6 v9 v40) (k2_pay47 v6 v9 v40 v47) s.trans
  wmax := k2_pay53 (k2_pay45 v6 v9 v40) (k2_pay48 v6 v9 v40 v47) (k2_pay49 s.trans) s.wmax
  seen := k2_pay52 (k2_pay44 v6 v9 v40) s.seen

/-- The printed chunk 3 steps the scratch contents. -/
theorem chunk3_run (c : Dev nD) (E : Set ℕ) (i : grid2.Coords) (arg1 : Memref sig .tc .vmem S512x16 .f32) (harg1 : arg1.IsWhole) (arg2 : Memref sig .tc .vmem S512x16 .i32) (harg2 : arg2.IsWhole) (arg3 : Memref sig .tc .smem S3 .f32) (harg3 : arg3.IsWhole) (arg4 : Memref sig .tc .vmem S8x4096 .f32) (harg4 : arg4.IsWhole) (arg5 : Memref sig .tc .vmem S1x4096 .i32) (harg5 : arg5.IsWhole) (arg6 : Memref sig .tc .vmem S8x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole)
    (v6 v9 : FVec F S1x4096 .f32) (v40 : FVec F S512x16 .f32) (v47 : FVec F S128x128 .bf16) (s : Acc F) (K : PUnit → sProp 𝕄) :
    iprop(held4 c arg6 arg7 arg8 arg9 s ∗ (held4 c arg6 arg7 arg8 arg9 (chunk3 v6 v9 v40 v47 s) -∗ K ⟨⟩))
      ⊢ wp frame (wpE (defs₀ (F := F)) Variants.none c none) E (k2_part8 i arg1 harg1 arg2 harg2 arg3 harg3 arg4 harg4 arg5 harg5 arg6 harg6 arg7 harg7 arg8 harg8 arg9 harg9 v6 v9 v40 v47) K := by
  obtain ⟨x6, x7, x8, x9⟩ := s
  rw [k2_part8_eq_skeleton]; unfold k2_part8_skel
  simp only [k2_part7_eq_skeleton]
  unfold held4 owns chunk3
  dsimp only
  iintro ⟨⟨⟨%f6, %hf6, H6⟩, ⟨%f7, %hf7, H7⟩, ⟨%f8, %hf8, H8⟩, ⟨%f9, %hf9, H9⟩⟩, Hk⟩
  subst hf6 hf7 hf8 hf9
  sl_exec
  sl_step
  iapply Hk
  isplitl [H6]
  · iexists _; isplitr
    swap; · iexact H6
    ipureintro
    refine (View.read_writes_eq_canon _ _ _ (cover8 _)).trans ((View.canon_unit_zero z2 _ _).trans ?_)
    have e6 := View.ld_unit_zero (Val := Elt F) z2 inb_S8x4096_S8x4096_0_0 (arg6.view.read (Elt F) f6)
    have e7 := View.ld_unit_zero (Val := Elt F) z2 inb_S1x4096_S1x4096_0_0 (arg7.view.read (Elt F) f7)
    conv_rhs => rw [← e6, ← e7]
    rfl
  isplitl [H7]
  · iexists _; isplitr
    swap; · iexact H7
    ipureintro
    refine (View.read_writes_eq_canon _ _ _ (coverF _)).trans ((View.canon_unit_zero z2 _ _).trans ?_)
    have e7 := View.ld_unit_zero (Val := Elt F) z2 inb_S1x4096_S1x4096_0_0 (arg7.view.read (Elt F) f7)
    conv_rhs => rw [← e7]
    rfl
  isplitl [H8]
  · iexists _; isplitr
    swap; · iexact H8
    ipureintro
    refine (View.read_writes_eq_canon _ _ _ (coverF _)).trans ((View.canon_unit_zero z2 _ _).trans ?_)
    have e7 := View.ld_unit_zero (Val := Elt F) z2 inb_S1x4096_S1x4096_0_0 (arg7.view.read (Elt F) f7)
    have e8 := View.ld_unit_zero (Val := Elt F) z2 inb_S1x4096_S1x4096_0_0 (arg8.view.read (Elt F) f8)
    conv_rhs => rw [← e7, ← e8]
    rfl
  iexists _; isplitr
  swap; · iexact H9
  ipureintro
  refine (View.read_writes_eq_canon _ _ _ (coverF _)).trans ((View.canon_unit_zero z2 _ _).trans ?_)
  have e9 := View.ld_unit_zero (Val := Elt F) z2 inb_S1x4096_S1x4096_0_0 (arg9.view.read (Elt F) f9)
  conv_rhs => rw [← e9]
  rfl

/-- The guarded chunk 3, before any rest of the body, steps the scratch contents where its guard holds and leaves them elsewhere. -/
theorem guarded3_run (c : Dev nD) (E : Set ℕ) (i : grid2.Coords) (arg1 : Memref sig .tc .vmem S512x16 .f32) (harg1 : arg1.IsWhole) (arg2 : Memref sig .tc .vmem S512x16 .i32) (harg2 : arg2.IsWhole) (arg3 : Memref sig .tc .smem S3 .f32) (harg3 : arg3.IsWhole) (arg4 : Memref sig .tc .vmem S8x4096 .f32) (harg4 : arg4.IsWhole) (arg5 : Memref sig .tc .vmem S1x4096 .i32) (harg5 : arg5.IsWhole) (arg6 : Memref sig .tc .vmem S8x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole)
    (v6 v9 : FVec F S1x4096 .f32) (v40 : FVec F S512x16 .f32) (v47 : FVec F S128x128 .bf16) (b : BitVec 1) (s : Acc F)
    {α : Type} (rest : Prog (TpuEff nD τ sig (Elt F) Λ₀ .tc) α) (Q : α → sProp 𝕄) :
    iprop(held4 c arg6 arg7 arg8 arg9 s ∗ (held4 c arg6 arg7 arg8 arg9 (if b = 1#1 then chunk3 v6 v9 v40 v47 s else s)
        -∗ wp frame (wpE (defs₀ (F := F)) Variants.none c none) E rest Q))
      ⊢ wp frame (wpE (defs₀ (F := F)) Variants.none c none) E
          (if b = 1#1 then do
            k2_part8 i arg1 harg1 arg2 harg2 arg3 harg3 arg4 harg4 arg5 harg5 arg6 harg6 arg7 harg7 arg8 harg8 arg9 harg9 v6 v9 v40 v47
            rest
          else rest) Q := by
  by_cases hb : b = 1#1
  · rw [if_pos hb, if_pos hb, wp_bind]
    exact chunk3_run c E i arg1 harg1 arg2 harg2 arg3 harg3 arg4 harg4 arg5 harg5 arg6 harg6 arg7 harg7 arg8 harg8 arg9 harg9 v6 v9 v40 v47 s (fun _ => wp frame (wpE (defs₀ (F := F)) Variants.none c none) E rest Q)
  · rw [if_neg hb, if_neg hb]
    iintro ⟨H, Hk⟩
    iapply Hk
    iexact H

end Cert.KernelIdeal.Own

end
-- ==== Proof.Ideal.Raster.lean ====
/- The third call's body at one grid point: the four guarded chunks one after another from the starting contents, and the two
   outputs read from what they leave. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value
public import Idealize.ShloMosaic.Lib.Pointwise
public import Idealize.ShloMosaic.Lib.WholeRead
public import proofs.«01_k».proof.Proof.Ideal.Chunks

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One more than the greatest compacted position of the tile: how many gaussians touch it. -/
def count (i : grid2.Coords) (x2 : Vec F S512x16 .i32) : BitVec 32 :=
  Scalar.addi (extractAt ![0, 0, 0] (k2_pay66 (k2_pay58 (F := F) i x2)) inpos_S1x1x1_p0_0_0) 1#32
/-- The guard of the chunk that starts at `w`. -/
def guard (n w : BitVec 32) : BitVec 1 := Scalar.cmpi .ne (Scalar.extui (Scalar.cmpi .sgt n w) : BitVec 32) 0#32
/-- The strictly lower triangle of ones. -/
def lower : FVec F S128x128 .bf16 := k2_pay61 k2_pay60 (Scalar.ofBits .f32 0x3F800000#32)

/-- Reading word 0 of a whole scalar-memory buffer of three words. -/
theorem smem_at0 {arg3 : Memref sig .tc .smem S3 .f32} (harg3 : arg3.IsWhole) (x3 : Vec F S3 .f32) (h) :
    View.readAt (Elt F) arg3.view (Rect.unit (s := S3) ![0] S1.size inb_S3_S1_0).toLoadRect (harg3.unread x3) (Shape.Idx.first h) = x3 (ix1 0) := by
  refine (harg3.readAt_unread _ _ _).trans (congrArg x3 ?_)
  funext a
  refine Fin.ext ?_
  obtain ⟨a, ha⟩ := a
  obtain rfl : a = 0 := by change a < 1 at ha; omega
  rfl
/-- Reading word 1 of a whole scalar-memory buffer of three words. -/
theorem smem_at1 {arg3 : Memref sig .tc .smem S3 .f32} (harg3 : arg3.IsWhole) (x3 : Vec F S3 .f32) (h) :
    View.readAt (Elt F) arg3.view (Rect.unit (s := S3) ![1] S1.size inb_S3_S1_1).toLoadRect (harg3.unread x3) (Shape.Idx.first h) = x3 (ix1 1) := by
  refine (harg3.readAt_unread _ _ _).trans (congrArg x3 ?_)
  funext a
  refine Fin.ext ?_
  obtain ⟨a, ha⟩ := a
  obtain rfl : a = 0 := by change a < 1 at ha; omega
  rfl
/-- Reading word 2 of a whole scalar-memory buffer of three words. -/
theorem smem_at2 {arg3 : Memref sig .tc .smem S3 .f32} (harg3 : arg3.IsWhole) (x3 : Vec F S3 .f32) (h) :
    View.readAt (Elt F) arg3.view (Rect.unit (s := S3) ![2] S1.size inb_S3_S1_2).toLoadRect (harg3.unread x3) (Shape.Idx.first h) = x3 (ix1 2) := by
  refine (harg3.readAt_unread _ _ _).trans (congrArg x3 ?_)
  funext a
  refine Fin.ext ?_
  obtain ⟨a, ha⟩ := a
  obtain rfl : a = 0 := by change a < 1 at ha; omega
  rfl
/-- The scratch contents after chunks 0, 1, 2, 3 (each skipped where its guard fails). -/
def after0 (i : grid2.Coords) (x1 : Vec F S512x16 .f32) (x2 : Vec F S512x16 .i32) : Acc F :=
  if guard (count (F := F) i x2) 0#32 = 1#1 then chunk0 (k2_pay56 i) (k2_pay57 i) (k2_pay59 i x2 x1) lower (acc0) else acc0
def after1 (i : grid2.Coords) (x1 : Vec F S512x16 .f32) (x2 : Vec F S512x16 .i32) : Acc F :=
  if guard (count (F := F) i x2) 128#32 = 1#1 then chunk1 (k2_pay56 i) (k2_pay57 i) (k2_pay59 i x2 x1) lower (after0 i x1 x2) else after0 i x1 x2
def after2 (i : grid2.Coords) (x1 : Vec F S512x16 .f32) (x2 : Vec F S512x16 .i32) : Acc F :=
  if guard (count (F := F) i x2) 256#32 = 1#1 then chunk2 (k2_pay56 i) (k2_pay57 i) (k2_pay59 i x2 x1) lower (after1 i x1 x2) else after1 i x1 x2
def after3 (i : grid2.Coords) (x1 : Vec F S512x16 .f32) (x2 : Vec F S512x16 .i32) : Acc F :=
  if guard (count (F := F) i x2) 384#32 = 1#1 then chunk3 (k2_pay56 i) (k2_pay57 i) (k2_pay59 i x2 x1) lower (after2 i x1 x2) else after2 i x1 x2

/-- The eight rows written to the first output: colours with the background blended in, depth, opacity sum, the greatest
    weight, the transmittance. -/
def sums4 (i : grid2.Coords) (x1 : Vec F S512x16 .f32) (x2 : Vec F S512x16 .i32) (x3 : Vec F S3 .f32) : Vec F S8x4096 .f32 :=
  k2_pay1 (after3 i x1 x2).trans (after3 i x1 x2).sums
    (x3 (ix1 0)) (x3 (ix1 1)) (x3 (ix1 2)) (after3 i x1 x2).wmax
/-- The row of counts written to the second output. -/
def seen5 (i : grid2.Coords) (x1 : Vec F S512x16 .f32) (x2 : Vec F S512x16 .i32) : Vec F S1x4096 .i32 := k2_pay2 (after3 i x1 x2).seen

set_option maxHeartbeats 1000000 in
theorem raster_run (c : Dev nD) (E : Set ℕ) (i : grid2.Coords) (arg1 : Memref sig .tc .vmem S512x16 .f32) (harg1 : arg1.IsWhole) (arg2 : Memref sig .tc .vmem S512x16 .i32) (harg2 : arg2.IsWhole) (arg3 : Memref sig .tc .smem S3 .f32) (harg3 : arg3.IsWhole) (arg4 : Memref sig .tc .vmem S8x4096 .f32) (harg4 : arg4.IsWhole) (arg5 : Memref sig .tc .vmem S1x4096 .i32) (harg5 : arg5.IsWhole) (arg6 : Memref sig .tc .vmem S8x4096 .f32) (harg6 : arg6.IsWhole) (arg7 : Memref sig .tc .vmem S1x4096 .f32) (harg7 : arg7.IsWhole) (arg8 : Memref sig .tc .vmem S1x4096 .f32) (harg8 : arg8.IsWhole) (arg9 : Memref sig .tc .vmem S1x4096 .f32) (harg9 : arg9.IsWhole)
    (x1 : Vec F S512x16 .f32) (x2 : Vec F S512x16 .i32) (x3 : Vec F S3 .f32) (K : PUnit → sProp 𝕄) :
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ ((owns (c : Thread nD τ) arg1 fullShare x1 ∗ owns (c : Thread nD τ) arg2 fullShare x2 ∗ owns (c : Thread nD τ) arg3 fullShare x3
            ∗ owns (c : Thread nD τ) arg4 fullShare (sums4 i x1 x2 x3) ∗ owns (c : Thread nD τ) arg5 fullShare (seen5 i x1 x2)
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)) -∗ K ⟨⟩))
      ⊢ wp frame (wpE (defs₀ (F := F)) Variants.none c none) E (cc2__raster_body i arg1 harg1 arg2 harg2 arg3 harg3 arg4 harg4 arg5 harg5 arg6 harg6 arg7 harg7 arg8 harg8 arg9 harg9) K := by
  rw [cc2__raster_body_eq_skeleton]; unfold cc2__raster_body_skel
  simp -zeta only [k2_part9_eq_skeleton, k2_part10_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf1 hf2
  obtain rfl := harg3.eq_unread hf3
  set_option sl_exec.stopBefore "k2_part2" in sl_exec
  have e1 := View.ld_unit_zero (Val := Elt F) z2 inb_S512x16_S512x16_0_0 (arg1.view.read (Elt F) f1)
  have e2 := View.ld_unit_zero (Val := Elt F) z2 inb_S512x16_S512x16_0_0 (arg2.view.read (Elt F) f2)
  have hr : raster_run.sl.r_1 c i arg1 arg2 f1 f2 = k2_pay59 i (arg2.view.read (Elt F) f2) (arg1.view.read (Elt F) f1) := by
    conv_rhs => rw [← e1, ← e2]
    rfl
  have hn : raster_run.sl.v68 c i arg2 f2 = count (F := F) i (arg2.view.read (Elt F) f2) := by
    conv_rhs => rw [← e2]
    rfl
  have hv : raster_run.sl.v71 c i arg2 f2 = guard (count (F := F) i (arg2.view.read (Elt F) f2)) 0#32 := by
    rw [← hn]; rfl
  have hl : k2_pay61 k2_pay60 raster_run.sl.cst_8 = lower (F := F) := rfl
  rw [hv, hr, hl, hn]
  iapply (guarded0_run (F := F) c E i arg1 harg1 arg2 harg2 arg3 harg3 arg4 harg4 arg5 harg5 arg6 harg6 arg7 harg7 arg8 harg8 arg9 harg9 _ _ _ _ _ acc0 _ _)
  isplitl [H6 H7 H8 H9]
  · unfold held4 owns acc0
    isplitl [H6]
    · iexists _; isplitr
      swap; · iexact H6
      ipureintro
      exact (View.read_writes_eq_canon _ _ _ (cover8 _)).trans (View.canon_unit_zero z2 _ _)
    isplitl [H7]
    · iexists _; isplitr
      swap; · iexact H7
      ipureintro
      exact (View.read_writes_eq_canon _ _ _ (coverF _)).trans (View.canon_unit_zero z2 _ _)
    isplitl [H8]
    · iexists _; isplitr
      swap; · iexact H8
      ipureintro
      exact (View.read_writes_eq_canon _ _ _ (coverF _)).trans (View.canon_unit_zero z2 _ _)
    iexists _; isplitr
    swap; · iexact H9
    ipureintro
    exact (View.read_writes_eq_canon _ _ _ (coverF _)).trans (View.canon_unit_zero z2 _ _)
  generalize hx1 : arg1.view.read (Elt F) f1 = x1
  generalize hx2 : arg2.view.read (Elt F) f2 = x2
  iintro HS
  rw [show (if guard (count (F := F) i x2) 0#32 = 1#1 then chunk0 (k2_pay56 i) (k2_pay57 i) (k2_pay59 i x2 x1) lower acc0 else acc0) = after0 i x1 x2 from rfl]
  dsimp only
  iapply (guarded1_run (F := F) c E i arg1 harg1 arg2 harg2 arg3 harg3 arg4 harg4 arg5 harg5 arg6 harg6 arg7 harg7 arg8 harg8 arg9 harg9 _ _ _ _ _ _ _ _)
  isplitl [HS]; · iexact HS
  iintro HS
  rw [show (if Scalar.cmpi .ne (Scalar.extui (Scalar.cmpi .sgt (count (F := F) i x2) 128#32) : BitVec 32) 0#32 = 1#1 then chunk1 (k2_pay56 i) (k2_pay57 i) (k2_pay59 i x2 x1) lower (after0 i x1 x2) else after0 i x1 x2) = after1 i x1 x2 from rfl]
  sl_step
  dsimp only
  iapply (guarded2_run (F := F) c E i arg1 harg1 arg2 harg2 arg3 harg3 arg4 harg4 arg5 harg5 arg6 harg6 arg7 harg7 arg8 harg8 arg9 harg9 _ _ _ _ _ _ _ _)
  isplitl [HS]; · iexact HS
  iintro HS
  rw [show (if Scalar.cmpi .ne (Scalar.extui (Scalar.cmpi .sgt (count (F := F) i x2) 256#32) : BitVec 32) 0#32 = 1#1 then chunk2 (k2_pay56 i) (k2_pay57 i) (k2_pay59 i x2 x1) lower (after1 i x1 x2) else after1 i x1 x2) = after2 i x1 x2 from rfl]
  dsimp only
  iapply (guarded3_run (F := F) c E i arg1 harg1 arg2 harg2 arg3 harg3 arg4 harg4 arg5 harg5 arg6 harg6 arg7 harg7 arg8 harg8 arg9 harg9 _ _ _ _ _ _ _ _)
  isplitl [HS]; · iexact HS
  iintro HS
  rw [show (if Scalar.cmpi .ne (Scalar.extui (Scalar.cmpi .sgt (count (F := F) i x2) 384#32) : BitVec 32) 0#32 = 1#1 then chunk3 (k2_pay56 i) (k2_pay57 i) (k2_pay59 i x2 x1) lower (after2 i x1 x2) else after2 i x1 x2) = after3 i x1 x2 from rfl]
  dsimp only
  unfold sums4 seen5
  generalize hs : after3 i x1 x2 = s
  obtain ⟨x6, x7, x8, x9⟩ := s
  unfold held4 owns
  icases HS with ⟨⟨%f6', %hf6, H6⟩, ⟨%f7', %hf7, H7⟩, ⟨%f8', %hf8, H8⟩, ⟨%f9', %hf9, H9⟩⟩
  dsimp only at hf6 hf7 hf8 hf9
  subst hf6 hf7 hf8 hf9
  sl_exec
  sl_step
  iapply Hk
  have b0 : raster_run.sl.r_2 arg3 harg3 x3 = x3 (ix1 0) := smem_at0 harg3 x3 _
  have b1 : raster_run.sl.r_3 arg3 harg3 x3 = x3 (ix1 1) := smem_at1 harg3 x3 _
  have b2 : raster_run.sl.r_4 arg3 harg3 x3 = x3 (ix1 2) := smem_at2 harg3 x3 _
  rw [b0, b1, b2]
  have e6 := View.ld_unit_zero (Val := Elt F) z2 inb_S8x4096_S8x4096_0_0 (arg6.view.read (Elt F) f6')
  have e7 := View.ld_unit_zero (Val := Elt F) z2 inb_S1x4096_S1x4096_0_0 (arg7.view.read (Elt F) f7')
  have e8 := View.ld_unit_zero (Val := Elt F) z2 inb_S1x4096_S1x4096_0_0 (arg8.view.read (Elt F) f8')
  have e9 := View.ld_unit_zero (Val := Elt F) z2 inb_S1x4096_S1x4096_0_0 (arg9.view.read (Elt F) f9')
  isplitl [H1]
  · iexists f1; isplitr; · ipureintro; exact hx1
    iexact H1
  isplitl [H2]
  · iexists f2; isplitr; · ipureintro; exact hx2
    iexact H2
  isplitl [H3]
  · iexists (harg3.unread x3); isplitr; · ipureintro; exact hf3
    iexact H3
  isplitl [H4]
  · iexists _; isplitr
    swap; · iexact H4
    ipureintro
    refine (View.read_writes_eq_canon _ _ _ (cover8 _)).trans ((View.canon_unit_zero z2 _ _).trans ?_)
    dsimp only
    conv_rhs => rw [← e6, ← e7, ← e8]
    rfl
  isplitl [H5]
  · iexists _; isplitr
    swap; · iexact H5
    ipureintro
    refine (View.read_writes_eq_canon _ _ _ (coverI _)).trans ((View.canon_unit_zero z2 _ _).trans ?_)
    dsimp only
    conv_rhs => rw [← e9]
    rfl
  isplitl [H6]
  · iexists _, _; isplitr
    swap; · iexact H6
    ipureintro; rfl
  isplitl [H7]
  · iexists _, _; isplitr
    swap; · iexact H7
    ipureintro; rfl
  isplitl [H8]
  · iexists _, _; isplitr
    swap; · iexact H8
    ipureintro; rfl
  iexists _, _; isplitr
  swap; · iexact H9
  ipureintro; rfl

end Cert.KernelIdeal.Own

end
-- ==== Proof.Ideal.RasterData.lean ====
/- The third call: its proof data over the 16 tiles, the scratch buffers taken out of the scoped rest at each point and put back. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Ideal.Raster

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The proof data of the third call: inputs at their blocks, the outputs at the body's values of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => sums4 (grid2.coords t) (iblk2 V c 0 t) (iblk2 V c 1 t) (iblk2 V c 2 t)
    | ⟨4, _⟩ => seen5 (grid2.coords t) (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = sums4 (grid2.coords t) (iblk2 V c 0 t) (iblk2 V c 1 t) (iblk2 V c 2 t) := by dsimp only [dat2]
theorem after2_4 (c : Dev nD) (t : Fin cfg2.N) : (dat2 V c).after 4 t = seen5 (grid2.coords t) (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 1000000 in
/-- The body at any point: the four scratch buffers come out of the scoped rest at whatever they hold and go back. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = Pipeline.ΦA spec2 c from rfl, show (dat2 V c).Φ t.castSucc = Pipeline.ΦA spec2 c from rfl,
    show (dat2 V c).owesAt () t.succ = (dat2 V c).owesAt () t.castSucc from rfl,
    after2_0, after2_1, after2_2, after2_3, after2_4]
  unfold Pipeline.ΦA
  rw [scopedRest2_eq]
  have w0 := fun f => owns_whole (Val := Elt F) (Ix := Unit) (Name := ℕ) (U := UR sig nD τ) (Lvl := ℕ) (c : Thread nD τ) cc2_scratch0 fullShare f
  have w1 := fun f => owns_whole (Val := Elt F) (Ix := Unit) (Name := ℕ) (U := UR sig nD τ) (Lvl := ℕ) (c : Thread nD τ) cc2_scratch1 fullShare f
  have w2 := fun f => owns_whole (Val := Elt F) (Ix := Unit) (Name := ℕ) (U := UR sig nD τ) (Lvl := ℕ) (c : Thread nD τ) cc2_scratch2 fullShare f
  have w3 := fun f => owns_whole (Val := Elt F) (Ix := Unit) (Name := ℕ) (U := UR sig nD τ) (Lvl := ℕ) (c : Thread nD τ) cc2_scratch3 fullShare f
  simp only [← w0, ← w1, ← w2, ← w3]
  iintro ⟨⟨⟨G0, G1, G2, G3, G4, G5, G6, S0, S1, S2, S3, G7⟩, Hp⟩, Ho, ⟨%d0, H0⟩, ⟨%d1, H1⟩, ⟨%d2, H2⟩, ⟨%d3, H3⟩, ⟨%d4, H4⟩⟩
  iapply (raster_run c Set.univ (grid2.coords t) _ _ _ _ _ _ _ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  isplitl [S0]; · iexact S0
  isplitl [S1]; · iexact S1
  isplitl [S2]; · iexact S2
  isplitl [S3]; · iexact S3
  iintro ⟨H0, H1, H2, H3, H4, S0, S1, S2, S3⟩
  isplitl [G0 G1 G2 G3 G4 G5 G6 G7 S0 S1 S2 S3 Hp]
  · isplitl [G0 G1 G2 G3 G4 G5 G6 G7 S0 S1 S2 S3]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [S0]; · iexact S0
      isplitl [S1]; · iexact S1
      isplitl [S2]; · iexact S2
      isplitl [S3]; · iexact S3
      iexact G7
    iexact Hp
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The body obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Own

end
-- ==== Proof.Ideal.Run.lean ====
/- The whole program's run: the three calls and the host stretches between them, from the launch to the return. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Ideal.Prepass
public import proofs.«01_k».proof.Proof.Ideal.SortBin
public import proofs.«01_k».proof.Proof.Ideal.RasterData
public import Idealize.ShloMosaic.Lib.Pipeline.Regions
public import Idealize.ShloMosaic.Adequacy
public import Idealize.ShloMosaic.Init

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6]

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v10, main_v11, main_v12, main_v13, main_v14, main_v15, main_v16, main_v17, main_v18, main_v19, main_v20, main_v21, main_v22, main_v23]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (the next boundary). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (for the next item). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3` (the next boundary). -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- The same read at the TensorCore's references (for the next item). -/
abbrev V6 : (c : Dev nD) → (b : Ref sig .tc) → Buf (Elt F) ((c : Thread nD τ).loc b) := fun c b => W6 m ρ c b

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]

/-- @main is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the launch theorem's implicit arguments are found by unifying its conclusion with this one, through plain definitions
set_option backward.isDefEq.respectTransparency.types false in
/-- The run: every fair execution ends with every unscoped buffer at the last boundary's contents and every counter at zero. -/
theorem run_all : θ_run defs (onTc (τ := τ) (main (F := F))) ⟨m, fun _ => 0, ρ⟩ (fun r => (∀ c : Dev nD,
      ∀ b ∈ Pipeline.ucRefs τ sig, r.2.mem ((c : Thread nD τ).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      refine BI.Entails.trans (show _ ⊢ iprop(StableHlo.held (c : Thread nD τ) (Pipeline.ucRefs τ sig) (W6 m ρ c) ∗ R c) from .rfl) ?_
      show _ ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c => h c, funext fun g => hz g (.inr (no_unscoped g.2))⟩)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧       r.2.mem ((c.tc : Thread nD τ).loc main_arg1) = m ((c.tc : Thread nD τ).loc main_arg1) ∧       r.2.mem ((c.tc : Thread nD τ).loc main_arg2) = m ((c.tc : Thread nD τ).loc main_arg2) ∧       r.2.mem ((c.tc : Thread nD τ).loc main_arg3) = m ((c.tc : Thread nD τ).loc main_arg3) ∧       r.2.mem ((c.tc : Thread nD τ).loc main_arg4) = m ((c.tc : Thread nD τ).loc main_arg4) ∧       r.2.mem ((c.tc : Thread nD τ).loc main_arg5) = m ((c.tc : Thread nD τ).loc main_arg5) ∧       r.2.mem ((c.tc : Thread nD τ).loc main_arg6) = m ((c.tc : Thread nD τ).loc main_arg6))
      ∧ r.2.sem = fun _ => 0) :=
  (θ_run defs _ _).mono (fun _ h => ⟨fun c =>
      ⟨(h.1 c _ (mem_uc main_arg0 (by decide))).trans (W6_args m ρ c main_arg0 (by decide)),
       (h.1 c _ (mem_uc main_arg1 (by decide))).trans (W6_args m ρ c main_arg1 (by decide)),
       (h.1 c _ (mem_uc main_arg2 (by decide))).trans (W6_args m ρ c main_arg2 (by decide)),
       (h.1 c _ (mem_uc main_arg3 (by decide))).trans (W6_args m ρ c main_arg3 (by decide)),
       (h.1 c _ (mem_uc main_arg4 (by decide))).trans (W6_args m ρ c main_arg4 (by decide)),
       (h.1 c _ (mem_uc main_arg5 (by decide))).trans (W6_args m ρ c main_arg5 (by decide)),
       (h.1 c _ (mem_uc main_arg6 (by decide))).trans (W6_args m ρ c main_arg6 (by decide))⟩, h.2⟩) (run_all m ρ)

end Cert.KernelIdeal.Own

end
-- ==== Proof.Value.Real.lean ====
/- The extended reals' operations at finite values, as the reals' own: the lemmas every later module rewrites with. -/
module

public import Idealize.ShloMosaic.Lib.Pointwise
public import Mathlib.Analysis.SpecialFunctions.Log.Basic

@[expose] public section

noncomputable section

namespace Cert.Splat

open Idealize.ShloMosaic

/-- The real a float constant's pattern denotes. -/
def k (b : BitVec 32) : ℝ := (Ideal.ofBits .f32 b).toReal

theorem ofBits_k (b : BitVec 32) (h : (b.extractLsb' 23 8).toNat ≠ 255) : Ideal.ofBits .f32 b = (k b : EReal) := by
  unfold k
  have h' : ∃ r : ℝ, Ideal.ofBits .f32 b = (r : EReal) := by
    show ∃ r : ℝ, Ideal.ieee 8 23 b = (r : EReal)
    unfold Ideal.ieee
    dsimp only
    rw [if_neg (by simpa using h)]
    split <;> exact ⟨_, rfl⟩
  obtain ⟨r, hr⟩ := h'
  rw [hr, EReal.toReal_coe]

/-! ## The constants of the two programs -/

theorem o38D1B717 : Ideal.ofBits .f32 0x38D1B717#32 = (k 0x38D1B717#32 : EReal) := ofBits_k _ (by decide)
theorem o3F68F5C3 : Ideal.ofBits .f32 0x3F68F5C3#32 = (k 0x3F68F5C3#32 : EReal) := ofBits_k _ (by decide)
theorem oBF68F5C3 : Ideal.ofBits .f32 0xBF68F5C3#32 = (k 0xBF68F5C3#32 : EReal) := ofBits_k _ (by decide)
theorem o40000000 : Ideal.ofBits .f32 0x40000000#32 = (k 0x40000000#32 : EReal) := ofBits_k _ (by decide)
theorem o4336DB6E : Ideal.ofBits .f32 0x4336DB6E#32 = (k 0x4336DB6E#32 : EReal) := ofBits_k _ (by decide)
theorem oC336DB6E : Ideal.ofBits .f32 0xC336DB6E#32 = (k 0xC336DB6E#32 : EReal) := ofBits_k _ (by decide)
theorem o3E99999A : Ideal.ofBits .f32 0x3E99999A#32 = (k 0x3E99999A#32 : EReal) := ofBits_k _ (by decide)
theorem o2B8CBCCC : Ideal.ofBits .f32 0x2B8CBCCC#32 = (k 0x2B8CBCCC#32 : EReal) := ofBits_k _ (by decide)
theorem o40400000 : Ideal.ofBits .f32 0x40400000#32 = (k 0x40400000#32 : EReal) := ofBits_k _ (by decide)
theorem o3F000000 : Ideal.ofBits .f32 0x3F000000#32 = (k 0x3F000000#32 : EReal) := ofBits_k _ (by decide)
theorem oBF000000 : Ideal.ofBits .f32 0xBF000000#32 = (k 0xBF000000#32 : EReal) := ofBits_k _ (by decide)
theorem o3DCCCCCD : Ideal.ofBits .f32 0x3DCCCCCD#32 = (k 0x3DCCCCCD#32 : EReal) := ofBits_k _ (by decide)
theorem o43000000 : Ideal.ofBits .f32 0x43000000#32 = (k 0x43000000#32 : EReal) := ofBits_k _ (by decide)
theorem o3E4CCCCD : Ideal.ofBits .f32 0x3E4CCCCD#32 = (k 0x3E4CCCCD#32 : EReal) := ofBits_k _ (by decide)
theorem o0DA24260 : Ideal.ofBits .f32 0x0DA24260#32 = (k 0x0DA24260#32 : EReal) := ofBits_k _ (by decide)
theorem o3B808078 : Ideal.ofBits .f32 0x3B808078#32 = (k 0x3B808078#32 : EReal) := ofBits_k _ (by decide)
theorem o3F800054 : Ideal.ofBits .f32 0x3F800054#32 = (k 0x3F800054#32 : EReal) := ofBits_k _ (by decide)
theorem o3C23D70A : Ideal.ofBits .f32 0x3C23D70A#32 = (k 0x3C23D70A#32 : EReal) := ofBits_k _ (by decide)
theorem oBC23D70A : Ideal.ofBits .f32 0xBC23D70A#32 = (k 0xBC23D70A#32 : EReal) := ofBits_k _ (by decide)
theorem o437F028F : Ideal.ofBits .f32 0x437F028F#32 = (k 0x437F028F#32 : EReal) := ofBits_k _ (by decide)
theorem oCE6E6B28 : Ideal.ofBits .f32 0xCE6E6B28#32 = (k 0xCE6E6B28#32 : EReal) := ofBits_k _ (by decide)
theorem o3F7D70A4 : Ideal.ofBits .f32 0x3F7D70A4#32 = (k 0x3F7D70A4#32 : EReal) := ofBits_k _ (by decide)
theorem o3B808081 : Ideal.ofBits .f32 0x3B808081#32 = (k 0x3B808081#32 : EReal) := ofBits_k _ (by decide)

theorem k38D1B717 : k 0x38D1B717#32 = (13743895) / 137438953472 := by
  simp [k, Ideal.ofBits, Ideal.ieee, -EReal.coe_mul, -EReal.coe_neg, EReal.toReal_coe]; norm_num
theorem k3F68F5C3 : k 0x3F68F5C3#32 = (15267267) / 16777216 := by
  simp [k, Ideal.ofBits, Ideal.ieee, -EReal.coe_mul, -EReal.coe_neg, EReal.toReal_coe]; norm_num
theorem kBF68F5C3 : k 0xBF68F5C3#32 = (-15267267) / 16777216 := by
  simp [k, Ideal.ofBits, Ideal.ieee, -EReal.coe_mul, -EReal.coe_neg, EReal.toReal_coe]; norm_num
theorem k40000000 : k 0x40000000#32 = 2 := by
  simp [k, Ideal.ofBits, Ideal.ieee, -EReal.coe_mul, -EReal.coe_neg, EReal.toReal_coe]; norm_num
theorem k4336DB6E : k 0x4336DB6E#32 = (5991863) / 32768 := by
  simp [k, Ideal.ofBits, Ideal.ieee, -EReal.coe_mul, -EReal.coe_neg, EReal.toReal_coe]; norm_num
theorem kC336DB6E : k 0xC336DB6E#32 = (-5991863) / 32768 := by
  simp [k, Ideal.ofBits, Ideal.ieee, -EReal.coe_mul, -EReal.coe_neg, EReal.toReal_coe]; norm_num
theorem k3E99999A : k 0x3E99999A#32 = (5033165) / 16777216 := by
  simp [k, Ideal.ofBits, Ideal.ieee, -EReal.coe_mul, -EReal.coe_neg, EReal.toReal_coe]; norm_num
theorem k2B8CBCCC : k 0x2B8CBCCC#32 = (2305843) / 2305843009213693952 := by
  simp [k, Ideal.ofBits, Ideal.ieee, -EReal.coe_mul, -EReal.coe_neg, EReal.toReal_coe]; norm_num
theorem k40400000 : k 0x40400000#32 = 3 := by
  simp [k, Ideal.ofBits, Ideal.ieee, -EReal.coe_mul, -EReal.coe_neg, EReal.toReal_coe]; norm_num
theorem k3F000000 : k 0x3F000000#32 = (1) / 2 := by
  simp [k, Ideal.ofBits, Ideal.ieee, -EReal.coe_mul, -EReal.coe_neg, EReal.toReal_coe]; norm_num
theorem kBF000000 : k 0xBF000000#32 = (-1) / 2 := by
  simp [k, Ideal.ofBits, Ideal.ieee, -EReal.coe_mul, -EReal.coe_neg, EReal.toReal_coe]; norm_num
theorem k3DCCCCCD : k 0x3DCCCCCD#32 = (13421773) / 134217728 := by
  simp [k, Ideal.ofBits, Ideal.ieee, -EReal.coe_mul, -EReal.coe_neg, EReal.toReal_coe]; norm_num
theorem k43000000 : k 0x43000000#32 = 128 := by
  simp [k, Ideal.ofBits, Ideal.ieee, -EReal.coe_mul, -EReal.coe_neg, EReal.toReal_coe]; norm_num
theorem k3E4CCCCD : k 0x3E4CCCCD#32 = (13421773) / 67108864 := by
  simp [k, Ideal.ofBits, Ideal.ieee, -EReal.coe_mul, -EReal.coe_neg, EReal.toReal_coe]; norm_num
theorem k0DA24260 : k 0x0DA24260#32 = (332307) / 332306998946228968225951765070086144 := by
  simp [k, Ideal.ofBits, Ideal.ieee, -EReal.coe_mul, -EReal.coe_neg, EReal.toReal_coe]; norm_num
theorem k3B808078 : k 0x3B808078#32 = (1052687) / 268435456 := by
  simp [k, Ideal.ofBits, Ideal.ieee, -EReal.coe_mul, -EReal.coe_neg, EReal.toReal_coe]; norm_num
theorem k3F800054 : k 0x3F800054#32 = (2097173) / 2097152 := by
  simp [k, Ideal.ofBits, Ideal.ieee, -EReal.coe_mul, -EReal.coe_neg, EReal.toReal_coe]; norm_num
theorem k3C23D70A : k 0x3C23D70A#32 = (5368709) / 536870912 := by
  simp [k, Ideal.ofBits, Ideal.ieee, -EReal.coe_mul, -EReal.coe_neg, EReal.toReal_coe]; norm_num
theorem kBC23D70A : k 0xBC23D70A#32 = (-5368709) / 536870912 := by
  simp [k, Ideal.ofBits, Ideal.ieee, -EReal.coe_mul, -EReal.coe_neg, EReal.toReal_coe]; norm_num
theorem k437F028F : k 0x437F028F#32 = (16712335) / 65536 := by
  simp [k, Ideal.ofBits, Ideal.ieee, -EReal.coe_mul, -EReal.coe_neg, EReal.toReal_coe]; norm_num
theorem kCE6E6B28 : k 0xCE6E6B28#32 = -1000000000 := by
  simp [k, Ideal.ofBits, Ideal.ieee, -EReal.coe_mul, -EReal.coe_neg, EReal.toReal_coe]; norm_num
theorem k3F7D70A4 : k 0x3F7D70A4#32 = (4152361) / 4194304 := by
  simp [k, Ideal.ofBits, Ideal.ieee, -EReal.coe_mul, -EReal.coe_neg, EReal.toReal_coe]; norm_num
theorem k3B808081 : k 0x3B808081#32 = (8421505) / 2147483648 := by
  simp [k, Ideal.ofBits, Ideal.ieee, -EReal.coe_mul, -EReal.coe_neg, EReal.toReal_coe]; norm_num

/-! ## Operations at real arguments -/

theorem up_add (a b : ℝ) : (a : EReal) + (b : EReal) = ((a + b : ℝ) : EReal) := (EReal.coe_add a b).symm
theorem up_sub (a b : ℝ) : (a : EReal) - (b : EReal) = ((a - b : ℝ) : EReal) := (EReal.coe_sub a b).symm
theorem up_mul (a b : ℝ) : (a : EReal) * (b : EReal) = ((a * b : ℝ) : EReal) := (EReal.coe_mul a b).symm
theorem up_neg (a : ℝ) : -(a : EReal) = ((-a : ℝ) : EReal) := (EReal.coe_neg a).symm
theorem up_max (a b : ℝ) : max (a : EReal) (b : EReal) = ((max a b : ℝ) : EReal) :=
  (EReal.coe_strictMono.monotone.map_max (a := a) (b := b)).symm
theorem up_min (a b : ℝ) : min (a : EReal) (b : EReal) = ((min a b : ℝ) : EReal) :=
  (EReal.coe_strictMono.monotone.map_min (a := a) (b := b)).symm
theorem up_zero : (0 : EReal) = ((0 : ℝ) : EReal) := rfl
theorem up_one : (1 : EReal) = ((1 : ℝ) : EReal) := rfl
theorem up_div {b : ℝ} (hb : b ≠ 0) (a : ℝ) : Ideal.div (a : EReal) (b : EReal) = ((a / b : ℝ) : EReal) := by
  rw [Ideal.div_coe hb, up_mul, mul_one_div]
theorem up_sqrt {a : ℝ} (ha : 0 ≤ a) : Ideal.sqrt (a : EReal) = ((Real.sqrt a : ℝ) : EReal) := by
  rw [Ideal.sqrt_coe, if_neg (not_lt.mpr ha)]
theorem up_log {a : ℝ} (ha : 0 < a) : Ideal.log (a : EReal) = ((Real.log a : ℝ) : EReal) := by
  rw [Ideal.log_coe, if_neg (not_le.mpr ha)]
theorem up_exp (a : ℝ) : Ideal.exp (a : EReal) = ((Real.exp a : ℝ) : EReal) := rfl
theorem up_if (p : Prop) [Decidable p] (a b : ℝ) :
    (if p then (a : EReal) else (b : EReal)) = ((if p then a else b : ℝ) : EReal) := by split <;> rfl
theorem up_lt (a b : ℝ) : (a : EReal) < (b : EReal) ↔ a < b := EReal.coe_lt_coe_iff
theorem up_le (a b : ℝ) : (a : EReal) ≤ (b : EReal) ↔ a ≤ b := EReal.coe_le_coe_iff
theorem sel_if {α : Type} (p : Prop) [Decidable p] (a b : α) :
    Scalar.select (BitVec.ofBool (decide p)) a b = if p then a else b := by
  by_cases hp : p <;> simp [Scalar.select, hp]
theorem and_bits (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]
theorem or_bits (p q : Prop) [Decidable p] [Decidable q] :
    IntOp.ori (BitVec.ofBool (decide p)) (BitVec.ofBool (decide q)) = BitVec.ofBool (decide (p ∨ q)) := by
  by_cases hp : p <;> by_cases hq : q <;> simp [IntOp.ori, hp, hq]
theorem up_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, up_add]

end Cert.Splat

end

end
-- ==== Proof.Value.Model.lean ====
/- One gaussian under one camera, over the reals: the projected mean, the image-plane covariance and its inverse, the
   radius. Both programs' per-gaussian values are shown to be these; the covariance's determinant is positive. -/
module

public import proofs.«01_k».proof.Proof.Value.Real

@[expose] public section

noncomputable section

namespace Cert.Splat

/-- One gaussian (mean, scale, quaternion, opacity, colour) and the camera's first three rows. -/
structure Gauss where
  m : Fin 3 → ℝ
  s : Fin 3 → ℝ
  q : Fin 4 → ℝ
  o : ℝ
  col : Fin 3 → ℝ
  v : Fin 3 → Fin 4 → ℝ

namespace Gauss
variable (g : Gauss)

/-- Camera-space coordinate `i`. -/
def p (i : Fin 3) : ℝ := g.m 0 * g.v i 0 + g.m 1 * g.v i 1 + g.m 2 * g.v i 2 + g.v i 3
def z : ℝ := g.p 2
/-- Depth bounded below. -/
def zc : ℝ := max g.z (k 0x38D1B717#32)
/-- The clamped camera-space coordinates. -/
def tx : ℝ := min (k 0x3F68F5C3#32) (max (k 0xBF68F5C3#32) (g.p 0 / g.zc)) * g.zc
def ty : ℝ := min (k 0x3F68F5C3#32) (max (k 0xBF68F5C3#32) (g.p 1 / g.zc)) * g.zc
def qn : ℝ := Real.sqrt (g.q 0 * g.q 0 + g.q 1 * g.q 1 + g.q 2 * g.q 2 + g.q 3 * g.q 3)
/-- The unit quaternion. -/
def u (i : Fin 4) : ℝ := g.q i / g.qn
/-- The rotation matrix. -/
def R : Fin 3 → Fin 3 → ℝ :=
  ![![1 - k 0x40000000#32 * (g.u 2 * g.u 2 + g.u 3 * g.u 3), k 0x40000000#32 * (g.u 1 * g.u 2 - g.u 0 * g.u 3), k 0x40000000#32 * (g.u 1 * g.u 3 + g.u 0 * g.u 2)],
    ![k 0x40000000#32 * (g.u 1 * g.u 2 + g.u 0 * g.u 3), 1 - k 0x40000000#32 * (g.u 1 * g.u 1 + g.u 3 * g.u 3), k 0x40000000#32 * (g.u 2 * g.u 3 - g.u 0 * g.u 1)],
    ![k 0x40000000#32 * (g.u 1 * g.u 3 - g.u 0 * g.u 2), k 0x40000000#32 * (g.u 2 * g.u 3 + g.u 0 * g.u 1), 1 - k 0x40000000#32 * (g.u 1 * g.u 1 + g.u 2 * g.u 2)]]
/-- Rotation times scale. -/
def M (i j : Fin 3) : ℝ := g.R i j * g.s j
/-- The covariance in space. -/
def sg (i j : Fin 3) : ℝ := g.M i 0 * g.M j 0 + g.M i 1 * g.M j 1 + g.M i 2 * g.M j 2
def j0 : ℝ := k 0x4336DB6E#32 / g.zc
def jx : ℝ := k 0xC336DB6E#32 * g.tx / (g.zc * g.zc)
def jy : ℝ := k 0xC336DB6E#32 * g.ty / (g.zc * g.zc)
/-- The two rows of the projection's derivative times the camera's rotation. -/
def t0 (i : Fin 3) : ℝ := g.j0 * g.v 0 i.castSucc + g.jx * g.v 2 i.castSucc
def t1 (i : Fin 3) : ℝ := g.j0 * g.v 1 i.castSucc + g.jy * g.v 2 i.castSucc
def w0 (i : Fin 3) : ℝ := g.t0 0 * g.sg 0 i + g.t0 1 * g.sg 1 i + g.t0 2 * g.sg 2 i
def w1 (i : Fin 3) : ℝ := g.t1 0 * g.sg 0 i + g.t1 1 * g.sg 1 i + g.t1 2 * g.sg 2 i
/-- The image-plane covariance `[[a, b], [b, c]]`. -/
def a : ℝ := g.w0 0 * g.t0 0 + g.w0 1 * g.t0 1 + g.w0 2 * g.t0 2 + k 0x3E99999A#32
def b : ℝ := g.w0 0 * g.t1 0 + g.w0 1 * g.t1 1 + g.w0 2 * g.t1 2
def c : ℝ := g.w1 0 * g.t1 0 + g.w1 1 * g.t1 1 + g.w1 2 * g.t1 2 + k 0x3E99999A#32
def det : ℝ := g.a * g.c - g.b * g.b
def inv : ℝ := 1 / max g.det (k 0x2B8CBCCC#32)
def ca : ℝ := g.c * g.inv
def cb : ℝ := (0 - g.b) * g.inv
def cc : ℝ := g.a * g.inv
def mid : ℝ := k 0x3F000000#32 * (g.a + g.c)
def lam : ℝ := g.mid + Real.sqrt (max (g.mid * g.mid - g.det) (k 0x3DCCCCCD#32))
def rad : ℝ := k 0x40400000#32 * Real.sqrt g.lam
def mx : ℝ := k 0x4336DB6E#32 * g.p 0 / g.zc + k 0x43000000#32 - k 0x3F000000#32
def my : ℝ := k 0x4336DB6E#32 * g.p 1 / g.zc + k 0x43000000#32 - k 0x3F000000#32
/-- The opacity of a gaussian in front of the camera, and zero of one that is not. -/
def oe : ℝ := if k 0x3E4CCCCD#32 < g.z then g.o else 0
def qmax : ℝ := k 0x40000000#32 * Real.log (max g.oe (k 0x0DA24260#32) / k 0x3B808078#32)
def ry : ℝ := if 0 < g.qmax then Real.sqrt (max g.qmax 0 * g.c) * k 0x3F800054#32 + k 0x3C23D70A#32 else k 0xCE6E6B28#32
def rx : ℝ := Real.sqrt (max g.qmax 0 * g.a) * k 0x3F800054#32 + k 0x3C23D70A#32
/-- How far from its mean a gaussian reaches over the rows (negative: nowhere). -/
def reach : ℝ := if k 0xBC23D70A#32 ≤ g.mx + g.rx ∧ g.mx - g.rx ≤ k 0x437F028F#32 then g.ry else k 0xCE6E6B28#32

/-- The sixteen rows the projection leaves per gaussian. -/
def prm : Fin 16 → ℝ := ![g.mx, g.my, g.ca, g.cb, g.cc, g.oe, g.reach, g.z, g.col 0, g.col 1, g.col 2, g.z, 0, 0, 0, 0]

theorem qq_nonneg : 0 ≤ g.q 0 * g.q 0 + g.q 1 * g.q 1 + g.q 2 * g.q 2 + g.q 3 * g.q 3 := by
  nlinarith [mul_self_nonneg (g.q 0), mul_self_nonneg (g.q 1), mul_self_nonneg (g.q 2), mul_self_nonneg (g.q 3)]

theorem zc_pos : 0 < g.zc := lt_of_lt_of_le (by rw [k38D1B717]; norm_num) (le_max_right _ _)

theorem a_eq : g.a = (g.t0 0 * g.M 0 0 + g.t0 1 * g.M 1 0 + g.t0 2 * g.M 2 0) ^ 2 + (g.t0 0 * g.M 0 1 + g.t0 1 * g.M 1 1 + g.t0 2 * g.M 2 1) ^ 2
    + (g.t0 0 * g.M 0 2 + g.t0 1 * g.M 1 2 + g.t0 2 * g.M 2 2) ^ 2 + k 0x3E99999A#32 := by
  unfold a w0 sg; ring

theorem c_eq : g.c = (g.t1 0 * g.M 0 0 + g.t1 1 * g.M 1 0 + g.t1 2 * g.M 2 0) ^ 2 + (g.t1 0 * g.M 0 1 + g.t1 1 * g.M 1 1 + g.t1 2 * g.M 2 1) ^ 2
    + (g.t1 0 * g.M 0 2 + g.t1 1 * g.M 1 2 + g.t1 2 * g.M 2 2) ^ 2 + k 0x3E99999A#32 := by
  unfold c w1 sg; ring

theorem b_eq : g.b = (g.t0 0 * g.M 0 0 + g.t0 1 * g.M 1 0 + g.t0 2 * g.M 2 0) * (g.t1 0 * g.M 0 0 + g.t1 1 * g.M 1 0 + g.t1 2 * g.M 2 0)
    + (g.t0 0 * g.M 0 1 + g.t0 1 * g.M 1 1 + g.t0 2 * g.M 2 1) * (g.t1 0 * g.M 0 1 + g.t1 1 * g.M 1 1 + g.t1 2 * g.M 2 1)
    + (g.t0 0 * g.M 0 2 + g.t0 1 * g.M 1 2 + g.t0 2 * g.M 2 2) * (g.t1 0 * g.M 0 2 + g.t1 1 * g.M 1 2 + g.t1 2 * g.M 2 2) := by
  unfold b w0 sg; ring

/-- A Gram matrix with `e` added on its diagonal has determinant at least `e²`. -/
theorem gram (x y z x' y' z' e : ℝ) (he : 0 ≤ e) :
    e ^ 2 ≤ (x ^ 2 + y ^ 2 + z ^ 2 + e) * (x' ^ 2 + y' ^ 2 + z' ^ 2 + e) - (x * x' + y * y' + z * z') * (x * x' + y * y' + z * z') := by
  nlinarith [sq_nonneg (x * y' - y * x'), sq_nonneg (x * z' - z * x'), sq_nonneg (y * z' - z * y'),
    mul_nonneg he (sq_nonneg x), mul_nonneg he (sq_nonneg y), mul_nonneg he (sq_nonneg z),
    mul_nonneg he (sq_nonneg x'), mul_nonneg he (sq_nonneg y'), mul_nonneg he (sq_nonneg z')]

theorem blur_pos : 0 < k 0x3E99999A#32 := by rw [k3E99999A]; norm_num

theorem a_pos : 0 < g.a := by rw [a_eq]; have := blur_pos; positivity
theorem c_pos : 0 < g.c := by rw [c_eq]; have := blur_pos; positivity
theorem det_ge : (k 0x3E99999A#32) ^ 2 ≤ g.det := by
  unfold det; rw [a_eq, b_eq, c_eq]; exact gram _ _ _ _ _ _ _ blur_pos.le
theorem det_pos : 0 < g.det := lt_of_lt_of_le (by have := blur_pos; positivity) g.det_ge
theorem max_det : max g.det (k 0x2B8CBCCC#32) = g.det :=
  max_eq_left (le_trans (by rw [k2B8CBCCC, k3E99999A]; norm_num) g.det_ge)
theorem inv_eq : g.inv = 1 / g.det := by unfold inv; rw [max_det]
theorem mid_pos : 0 < g.mid := by
  unfold mid; exact mul_pos (by rw [k3F000000]; norm_num) (add_pos g.a_pos g.c_pos)
theorem lam_pos : 0 < g.lam := add_pos_of_pos_of_nonneg g.mid_pos (Real.sqrt_nonneg _)
theorem oe_arg : 0 < max g.oe (k 0x0DA24260#32) / k 0x3B808078#32 :=
  div_pos (lt_of_lt_of_le (by rw [k0DA24260]; norm_num) (le_max_right _ _)) (by rw [k3B808078]; norm_num)
theorem min_ne : k 0x3B808078#32 ≠ 0 := by rw [k3B808078]; norm_num
theorem qc_nonneg : 0 ≤ max g.qmax 0 * g.c := mul_nonneg (le_max_right _ _) g.c_pos.le
theorem qa_nonneg : 0 ≤ max g.qmax 0 * g.a := mul_nonneg (le_max_right _ _) g.a_pos.le
theorem disc_nonneg : 0 ≤ max (g.mid * g.mid - g.det) (k 0x3DCCCCCD#32) :=
  le_trans (by rw [k3DCCCCCD]; norm_num) (le_max_right _ _)

end Gauss

end Cert.Splat

end

end
-- ==== Proof.Value.PrepassReads.lean ====
/- Region 0 (projection): its body's intermediate rows, read at one gaussian, are that gaussian's values over the reals. -/
module

public import proofs.«01_k».proof.Proof.Ideal.Prepass
public import proofs.«01_k».proof.Proof.Value.Model
public import Idealize.ShloMosaic.Lib.WholeRead

@[expose] public section

noncomputable section

set_option maxRecDepth 16384

namespace Cert.KernelIdeal.Own

open Idealize.ShloMosaic Idealize.ShloMosaic.TcCoe Idealize.SL.Sem
open Cert.KernelIdeal Cert.KernelIdeal.Gen Cert.Splat

/-- Column `j` of the packed gaussians and the camera matrix hold gaussian `g`. -/
structure Holds (x0 : Vec Ideal S14x512 .f32) (x1 : Vec Ideal S4x4 .f32) (j : Fin 512) (g : Gauss) : Prop where
  m : ∀ i : Fin 3, x0 (ix2 ⟨i, by omega⟩ j) = (g.m i : EReal)
  s : ∀ i : Fin 3, x0 (ix2 ⟨3 + i, by omega⟩ j) = (g.s i : EReal)
  q : ∀ i : Fin 4, x0 (ix2 ⟨6 + i, by omega⟩ j) = (g.q i : EReal)
  o : x0 (ix2 10 j) = (g.o : EReal)
  col : ∀ i : Fin 3, x0 (ix2 ⟨11 + i, by omega⟩ j) = (g.col i : EReal)
  v : ∀ (i : Fin 3) (l : Fin 4), x1 (ix2 ⟨i, by omega⟩ l) = (g.v i l : EReal)
  qn : g.qn ≠ 0

section
variable (c : Dev nD) (arg0 : Memref sig .tc .vmem S14x512 .f32) (harg0 : arg0.IsWhole) (arg1 : Memref sig .tc .smem S4x4 .f32) (harg1 : arg1.IsWhole)
  (x0 : Vec Ideal S14x512 .f32) (x1 : Vec Ideal S4x4 .f32)

theorem read_r : kernelRun0_A.sl.r c arg1 harg1 x1 = x1 (ix2 0 0) := by
  unfold kernelRun0_A.sl.r
  rw [harg1.readAt_unread]
  pointwise

theorem read_r_1 : kernelRun0_A.sl.r_1 c arg1 harg1 x1 = x1 (ix2 0 1) := by
  unfold kernelRun0_A.sl.r_1
  rw [harg1.readAt_unread]
  pointwise

theorem read_r_2 : kernelRun0_A.sl.r_2 c arg1 harg1 x1 = x1 (ix2 0 2) := by
  unfold kernelRun0_A.sl.r_2
  rw [harg1.readAt_unread]
  pointwise

theorem read_r_3 : kernelRun0_A.sl.r_3 c arg1 harg1 x1 = x1 (ix2 0 3) := by
  unfold kernelRun0_A.sl.r_3
  rw [harg1.readAt_unread]
  pointwise

theorem read_r_4 : kernelRun0_A.sl.r_4 c arg1 harg1 x1 = x1 (ix2 1 0) := by
  unfold kernelRun0_A.sl.r_4
  rw [harg1.readAt_unread]
  pointwise

theorem read_r_16 : kernelRun0_A.sl.r_16 c arg1 harg1 x1 = x1 (ix2 1 1) := by
  unfold kernelRun0_A.sl.r_16
  rw [harg1.readAt_unread]
  pointwise

theorem read_r_17 : kernelRun0_A.sl.r_17 c arg1 harg1 x1 = x1 (ix2 1 2) := by
  unfold kernelRun0_A.sl.r_17
  rw [harg1.readAt_unread]
  pointwise

theorem read_r_18 : kernelRun0_A.sl.r_18 c arg1 harg1 x1 = x1 (ix2 1 3) := by
  unfold kernelRun0_A.sl.r_18
  rw [harg1.readAt_unread]
  pointwise

theorem read_r_19 : kernelRun0_A.sl.r_19 c arg1 harg1 x1 = x1 (ix2 2 0) := by
  unfold kernelRun0_A.sl.r_19
  rw [harg1.readAt_unread]
  pointwise

theorem read_r_20 : kernelRun0_A.sl.r_20 c arg1 harg1 x1 = x1 (ix2 2 1) := by
  unfold kernelRun0_A.sl.r_20
  rw [harg1.readAt_unread]
  pointwise

theorem read_r_21 : kernelRun0_A.sl.r_21 c arg1 harg1 x1 = x1 (ix2 2 2) := by
  unfold kernelRun0_A.sl.r_21
  rw [harg1.readAt_unread]
  pointwise

theorem read_r_22 : kernelRun0_A.sl.r_22 c arg1 harg1 x1 = x1 (ix2 2 3) := by
  unfold kernelRun0_A.sl.r_22
  rw [harg1.readAt_unread]
  pointwise

theorem read_r_5 (j : Fin 512) : kernelRun0_A.sl.r_5 c arg0 harg0 x0 (ix2 0 j) = x0 (ix2 0 j) := by
  unfold kernelRun0_A.sl.r_5 k0_pay1
  pointwise
  rw [harg0.readAt_unread]
  pointwise

theorem read_r_6 (j : Fin 512) : kernelRun0_A.sl.r_6 c arg0 harg0 x0 (ix2 0 j) = x0 (ix2 1 j) := by
  unfold kernelRun0_A.sl.r_6 k0_pay2
  pointwise
  rw [harg0.readAt_unread]
  pointwise

theorem read_r_7 (j : Fin 512) : kernelRun0_A.sl.r_7 c arg0 harg0 x0 (ix2 0 j) = x0 (ix2 2 j) := by
  unfold kernelRun0_A.sl.r_7 k0_pay3
  pointwise
  rw [harg0.readAt_unread]
  pointwise

theorem read_r_8 (j : Fin 512) : kernelRun0_A.sl.r_8 c arg0 harg0 x0 (ix2 0 j) = x0 (ix2 3 j) := by
  unfold kernelRun0_A.sl.r_8 k0_pay4
  pointwise
  rw [harg0.readAt_unread]
  pointwise

theorem read_r_9 (j : Fin 512) : kernelRun0_A.sl.r_9 c arg0 harg0 x0 (ix2 0 j) = x0 (ix2 4 j) := by
  unfold kernelRun0_A.sl.r_9 k0_pay5
  pointwise
  rw [harg0.readAt_unread]
  pointwise

theorem read_r_10 (j : Fin 512) : kernelRun0_A.sl.r_10 c arg0 harg0 x0 (ix2 0 j) = x0 (ix2 5 j) := by
  unfold kernelRun0_A.sl.r_10 k0_pay6
  pointwise
  rw [harg0.readAt_unread]
  pointwise

theorem read_r_11 (j : Fin 512) : kernelRun0_A.sl.r_11 c arg0 harg0 x0 (ix2 0 j) = x0 (ix2 6 j) := by
  unfold kernelRun0_A.sl.r_11 k0_pay7
  pointwise
  rw [harg0.readAt_unread]
  pointwise

theorem read_r_12 (j : Fin 512) : kernelRun0_A.sl.r_12 c arg0 harg0 x0 (ix2 0 j) = x0 (ix2 7 j) := by
  unfold kernelRun0_A.sl.r_12 k0_pay8
  pointwise
  rw [harg0.readAt_unread]
  pointwise

theorem read_r_13 (j : Fin 512) : kernelRun0_A.sl.r_13 c arg0 harg0 x0 (ix2 0 j) = x0 (ix2 8 j) := by
  unfold kernelRun0_A.sl.r_13 k0_pay9
  pointwise
  rw [harg0.readAt_unread]
  pointwise

theorem read_r_14 (j : Fin 512) : kernelRun0_A.sl.r_14 c arg0 harg0 x0 (ix2 0 j) = x0 (ix2 9 j) := by
  unfold kernelRun0_A.sl.r_14 k0_pay10
  pointwise
  rw [harg0.readAt_unread]
  pointwise

theorem read_r_15 (j : Fin 512) : kernelRun0_A.sl.r_15 c arg0 harg0 x0 (ix2 0 j) = x0 (ix2 10 j) := by
  unfold kernelRun0_A.sl.r_15 k0_pay11
  pointwise
  rw [harg0.readAt_unread]
  pointwise

variable {x0 x1} {j : Fin 512} {g : Gauss} (H : Holds x0 x1 j g)
include H

theorem at_r : kernelRun0_A.sl.r c arg1 harg1 x1 = ((g.v 0 0 : ℝ) : EReal) := (read_r c arg1 harg1 x1).trans (H.v 0 0)

theorem at_r_1 : kernelRun0_A.sl.r_1 c arg1 harg1 x1 = ((g.v 0 1 : ℝ) : EReal) := (read_r_1 c arg1 harg1 x1).trans (H.v 0 1)

theorem at_r_2 : kernelRun0_A.sl.r_2 c arg1 harg1 x1 = ((g.v 0 2 : ℝ) : EReal) := (read_r_2 c arg1 harg1 x1).trans (H.v 0 2)

theorem at_r_3 : kernelRun0_A.sl.r_3 c arg1 harg1 x1 = ((g.v 0 3 : ℝ) : EReal) := (read_r_3 c arg1 harg1 x1).trans (H.v 0 3)

theorem at_r_4 : kernelRun0_A.sl.r_4 c arg1 harg1 x1 = ((g.v 1 0 : ℝ) : EReal) := (read_r_4 c arg1 harg1 x1).trans (H.v 1 0)

theorem at_r_16 : kernelRun0_A.sl.r_16 c arg1 harg1 x1 = ((g.v 1 1 : ℝ) : EReal) := (read_r_16 c arg1 harg1 x1).trans (H.v 1 1)

theorem at_r_17 : kernelRun0_A.sl.r_17 c arg1 harg1 x1 = ((g.v 1 2 : ℝ) : EReal) := (read_r_17 c arg1 harg1 x1).trans (H.v 1 2)

theorem at_r_18 : kernelRun0_A.sl.r_18 c arg1 harg1 x1 = ((g.v 1 3 : ℝ) : EReal) := (read_r_18 c arg1 harg1 x1).trans (H.v 1 3)

theorem at_r_19 : kernelRun0_A.sl.r_19 c arg1 harg1 x1 = ((g.v 2 0 : ℝ) : EReal) := (read_r_19 c arg1 harg1 x1).trans (H.v 2 0)

theorem at_r_20 : kernelRun0_A.sl.r_20 c arg1 harg1 x1 = ((g.v 2 1 : ℝ) : EReal) := (read_r_20 c arg1 harg1 x1).trans (H.v 2 1)

theorem at_r_21 : kernelRun0_A.sl.r_21 c arg1 harg1 x1 = ((g.v 2 2 : ℝ) : EReal) := (read_r_21 c arg1 harg1 x1).trans (H.v 2 2)

theorem at_r_22 : kernelRun0_A.sl.r_22 c arg1 harg1 x1 = ((g.v 2 3 : ℝ) : EReal) := (read_r_22 c arg1 harg1 x1).trans (H.v 2 3)

theorem at_r_5 : kernelRun0_A.sl.r_5 c arg0 harg0 x0 (ix2 0 j) = ((g.m 0 : ℝ) : EReal) := (read_r_5 c arg0 harg0 x0 j).trans (H.m 0)

theorem at_r_6 : kernelRun0_A.sl.r_6 c arg0 harg0 x0 (ix2 0 j) = ((g.m 1 : ℝ) : EReal) := (read_r_6 c arg0 harg0 x0 j).trans (H.m 1)

theorem at_r_7 : kernelRun0_A.sl.r_7 c arg0 harg0 x0 (ix2 0 j) = ((g.m 2 : ℝ) : EReal) := (read_r_7 c arg0 harg0 x0 j).trans (H.m 2)

theorem at_r_8 : kernelRun0_A.sl.r_8 c arg0 harg0 x0 (ix2 0 j) = ((g.s 0 : ℝ) : EReal) := (read_r_8 c arg0 harg0 x0 j).trans (H.s 0)

theorem at_r_9 : kernelRun0_A.sl.r_9 c arg0 harg0 x0 (ix2 0 j) = ((g.s 1 : ℝ) : EReal) := (read_r_9 c arg0 harg0 x0 j).trans (H.s 1)

theorem at_r_10 : kernelRun0_A.sl.r_10 c arg0 harg0 x0 (ix2 0 j) = ((g.s 2 : ℝ) : EReal) := (read_r_10 c arg0 harg0 x0 j).trans (H.s 2)

theorem at_r_11 : kernelRun0_A.sl.r_11 c arg0 harg0 x0 (ix2 0 j) = ((g.q 0 : ℝ) : EReal) := (read_r_11 c arg0 harg0 x0 j).trans (H.q 0)

theorem at_r_12 : kernelRun0_A.sl.r_12 c arg0 harg0 x0 (ix2 0 j) = ((g.q 1 : ℝ) : EReal) := (read_r_12 c arg0 harg0 x0 j).trans (H.q 1)

theorem at_r_13 : kernelRun0_A.sl.r_13 c arg0 harg0 x0 (ix2 0 j) = ((g.q 2 : ℝ) : EReal) := (read_r_13 c arg0 harg0 x0 j).trans (H.q 2)

theorem at_r_14 : kernelRun0_A.sl.r_14 c arg0 harg0 x0 (ix2 0 j) = ((g.q 3 : ℝ) : EReal) := (read_r_14 c arg0 harg0 x0 j).trans (H.q 3)

theorem at_r_15 : kernelRun0_A.sl.r_15 c arg0 harg0 x0 (ix2 0 j) = ((g.o : ℝ) : EReal) := (read_r_15 c arg0 harg0 x0 j).trans (H.o)

theorem at_r_23 : kernelRun0_A.sl.r_23 c arg1 harg1 x1 = ((g.v 0 0 : ℝ) : EReal) := by
  unfold kernelRun0_A.sl.r_23 k0_pay12
  exact at_r c arg1 harg1 H

theorem at_r_24 : kernelRun0_A.sl.r_24 c arg1 harg1 x1 = ((g.v 0 1 : ℝ) : EReal) := by
  unfold kernelRun0_A.sl.r_24 k0_pay13
  exact at_r_1 c arg1 harg1 H

theorem at_r_25 : kernelRun0_A.sl.r_25 c arg1 harg1 x1 = ((g.v 0 2 : ℝ) : EReal) := by
  unfold kernelRun0_A.sl.r_25 k0_pay14
  exact at_r_2 c arg1 harg1 H

theorem at_r_26 : kernelRun0_A.sl.r_26 c arg1 harg1 x1 = ((g.v 1 0 : ℝ) : EReal) := by
  unfold kernelRun0_A.sl.r_26 k0_pay15
  exact at_r_4 c arg1 harg1 H

theorem at_r_27 : kernelRun0_A.sl.r_27 c arg1 harg1 x1 = ((g.v 1 1 : ℝ) : EReal) := by
  unfold kernelRun0_A.sl.r_27 k0_pay16
  exact at_r_16 c arg1 harg1 H

theorem at_r_28 : kernelRun0_A.sl.r_28 c arg1 harg1 x1 = ((g.v 1 2 : ℝ) : EReal) := by
  unfold kernelRun0_A.sl.r_28 k0_pay17
  exact at_r_17 c arg1 harg1 H

theorem at_r_29 : kernelRun0_A.sl.r_29 c arg1 harg1 x1 = ((g.v 2 0 : ℝ) : EReal) := by
  unfold kernelRun0_A.sl.r_29 k0_pay18
  exact at_r_19 c arg1 harg1 H

theorem at_r_30 : kernelRun0_A.sl.r_30 c arg1 harg1 x1 = ((g.v 2 1 : ℝ) : EReal) := by
  unfold kernelRun0_A.sl.r_30 k0_pay19
  exact at_r_20 c arg1 harg1 H

theorem at_r_31 : kernelRun0_A.sl.r_31 c arg1 harg1 x1 = ((g.v 2 2 : ℝ) : EReal) := by
  unfold kernelRun0_A.sl.r_31 k0_pay20
  exact at_r_21 c arg1 harg1 H

end

end Cert.KernelIdeal.Own

end

end
-- ==== Proof.Value.PrepassSpace.lean ====
/- Region 0 (projection): the camera-space mean, the rotation and the covariance in space, row by row at one gaussian. -/
module

public import proofs.«01_k».proof.Proof.Value.PrepassReads

@[expose] public section

noncomputable section

set_option maxRecDepth 16384

namespace Cert.KernelIdeal.Own

open Idealize.ShloMosaic Idealize.ShloMosaic.TcCoe Idealize.SL.Sem
open Cert.KernelIdeal Cert.KernelIdeal.Gen Cert.Splat

section
variable (c : Dev nD) (arg0 : Memref sig .tc .vmem S14x512 .f32) (harg0 : arg0.IsWhole) (arg1 : Memref sig .tc .smem S4x4 .f32) (harg1 : arg1.IsWhole)
  {x0 : Vec Ideal S14x512 .f32} {x1 : Vec Ideal S4x4 .f32} {j : Fin 512} {g : Gauss} (H : Holds x0 x1 j g)
include H

theorem at_r_32 : kernelRun0_A.sl.r_32 c arg0 harg0 x0 (ix2 0 j) = ((g.m 0 : ℝ) : EReal) := by
  unfold kernelRun0_A.sl.r_32
  pointwise [k0_pay21, at_r_5 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]

theorem at_r_33 : kernelRun0_A.sl.r_33 c arg0 harg0 x0 (ix2 0 j) = ((g.m 1 : ℝ) : EReal) := by
  unfold kernelRun0_A.sl.r_33
  pointwise [k0_pay22, at_r_6 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]

theorem at_r_34 : kernelRun0_A.sl.r_34 c arg0 harg0 x0 (ix2 0 j) = ((g.m 2 : ℝ) : EReal) := by
  unfold kernelRun0_A.sl.r_34
  pointwise [k0_pay23, at_r_7 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]

theorem at_r_35 : kernelRun0_A.sl.r_35 c arg0 harg0 arg1 harg1 x0 x1 (ix2 0 j) = ((g.p 0 : ℝ) : EReal) := by
  have er_32 := at_r_32 c arg0 harg0 H
  unfold kernelRun0_A.sl.r_32 at er_32
  have er_33 := at_r_33 c arg0 harg0 H
  unfold kernelRun0_A.sl.r_33 at er_33
  have er_34 := at_r_34 c arg0 harg0 H
  unfold kernelRun0_A.sl.r_34 at er_34
  unfold kernelRun0_A.sl.r_35
  pointwise [k0_pay24, k0_pay14, k0_pay13, k0_pay12, at_r_5 c arg0 harg0 H, at_r_6 c arg0 harg0 H, at_r_7 c arg0 harg0 H, at_r c arg1 harg1 H, at_r_1 c arg1 harg1 H, at_r_2 c arg1 harg1 H, at_r_3 c arg1 harg1 H, er_32, er_33, er_34, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_36 : kernelRun0_A.sl.r_36 c arg0 harg0 arg1 harg1 x0 x1 (ix2 0 j) = ((g.m 0 * g.v 1 0 + g.m 1 * g.v 1 1 : ℝ) : EReal) := by
  have er_32 := at_r_32 c arg0 harg0 H
  unfold kernelRun0_A.sl.r_32 at er_32
  have er_33 := at_r_33 c arg0 harg0 H
  unfold kernelRun0_A.sl.r_33 at er_33
  unfold kernelRun0_A.sl.r_36
  pointwise [k0_pay25, k0_pay16, k0_pay15, at_r_5 c arg0 harg0 H, at_r_6 c arg0 harg0 H, at_r_4 c arg1 harg1 H, at_r_16 c arg1 harg1 H, er_32, er_33, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_37 (i : S1x512.Idx) : kernelRun0_A.sl.r_37 c arg1 harg1 x1 i = ((g.v 1 2 : ℝ) : EReal) := by
  unfold kernelRun0_A.sl.r_37 k0_pay26
  exact at_r_17 c arg1 harg1 H

theorem at_r_38 : kernelRun0_A.sl.r_38 c arg0 harg0 arg1 harg1 x0 x1 (ix2 0 j) = ((g.p 1 : ℝ) : EReal) := by
  unfold kernelRun0_A.sl.r_38
  pointwise [k0_pay27, at_r_18 c arg1 harg1 H, at_r_34 c arg0 harg0 H, at_r_36 c arg0 harg0 arg1 harg1 H, at_r_37 c arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_39 : kernelRun0_A.sl.r_39 c arg0 harg0 arg1 harg1 x0 x1 (ix2 0 j) = ((g.z : ℝ) : EReal) := by
  unfold kernelRun0_A.sl.r_39
  pointwise [k0_pay28, at_r_22 c arg1 harg1 H, at_r_29 c arg1 harg1 H, at_r_30 c arg1 harg1 H, at_r_31 c arg1 harg1 H, at_r_32 c arg0 harg0 H, at_r_33 c arg0 harg0 H, at_r_34 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_40 : kernelRun0_A.sl.r_40 c arg0 harg0 arg1 harg1 x0 x1 (ix2 0 j) = ((g.zc : ℝ) : EReal) := by
  have er_39 := at_r_39 c arg0 harg0 arg1 harg1 H
  unfold kernelRun0_A.sl.r_39 at er_39
  simp only [at_r_22 c arg1 harg1 H, at_r_29 c arg1 harg1 H, at_r_30 c arg1 harg1 H, at_r_31 c arg1 harg1 H] at er_39
  unfold kernelRun0_A.sl.r_40
  pointwise [k0_pay29, at_r_22 c arg1 harg1 H, at_r_29 c arg1 harg1 H, at_r_30 c arg1 harg1 H, at_r_31 c arg1 harg1 H, at_r_32 c arg0 harg0 H, at_r_33 c arg0 harg0 H, at_r_34 c arg0 harg0 H, er_39, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_41 : kernelRun0_A.sl.r_41 c arg0 harg0 arg1 harg1 x0 x1 (ix2 0 j) = ((g.tx : ℝ) : EReal) := by
  have er_40 := at_r_40 c arg0 harg0 arg1 harg1 H
  unfold kernelRun0_A.sl.r_40 at er_40
  simp only [at_r_22 c arg1 harg1 H, at_r_29 c arg1 harg1 H, at_r_30 c arg1 harg1 H, at_r_31 c arg1 harg1 H] at er_40
  unfold kernelRun0_A.sl.r_41
  pointwise [k0_pay30, at_r_22 c arg1 harg1 H, at_r_29 c arg1 harg1 H, at_r_30 c arg1 harg1 H, at_r_31 c arg1 harg1 H, at_r_32 c arg0 harg0 H, at_r_33 c arg0 harg0 H, at_r_34 c arg0 harg0 H, at_r_35 c arg0 harg0 arg1 harg1 H, er_40, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_div g.zc_pos.ne']
  all_goals rfl

theorem at_r_42 : kernelRun0_A.sl.r_42 c arg0 harg0 arg1 harg1 x0 x1 (ix2 0 j) = ((g.ty : ℝ) : EReal) := by
  have er_38 := at_r_38 c arg0 harg0 arg1 harg1 H
  unfold kernelRun0_A.sl.r_38 at er_38
  simp only [at_r_18 c arg1 harg1 H] at er_38
  have er_40 := at_r_40 c arg0 harg0 arg1 harg1 H
  unfold kernelRun0_A.sl.r_40 at er_40
  simp only [at_r_22 c arg1 harg1 H, at_r_29 c arg1 harg1 H, at_r_30 c arg1 harg1 H, at_r_31 c arg1 harg1 H] at er_40
  unfold kernelRun0_A.sl.r_42
  pointwise [k0_pay31, at_r_18 c arg1 harg1 H, at_r_22 c arg1 harg1 H, at_r_29 c arg1 harg1 H, at_r_30 c arg1 harg1 H, at_r_31 c arg1 harg1 H, at_r_32 c arg0 harg0 H, at_r_33 c arg0 harg0 H, at_r_34 c arg0 harg0 H, at_r_36 c arg0 harg0 arg1 harg1 H, at_r_37 c arg1 harg1 H, er_38, er_40, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_div g.zc_pos.ne']
  all_goals rfl

theorem at_r_43 : kernelRun0_A.sl.r_43 c arg0 harg0 x0 (ix2 0 j) = ((g.u 0 : ℝ) : EReal) := by
  unfold kernelRun0_A.sl.r_43
  pointwise [k0_pay33, k0_pay32, at_r_11 c arg0 harg0 H, at_r_12 c arg0 harg0 H, at_r_13 c arg0 harg0 H, at_r_14 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_sqrt (show 0 ≤ g.q 0 * g.q 0 + g.q 1 * g.q 1 + g.q 2 * g.q 2 + g.q 3 * g.q 3 from g.qq_nonneg), up_div (show Real.sqrt (g.q 0 * g.q 0 + g.q 1 * g.q 1 + g.q 2 * g.q 2 + g.q 3 * g.q 3) ≠ 0 from H.qn)]
  all_goals rfl

theorem at_r_44 : kernelRun0_A.sl.r_44 c arg0 harg0 x0 (ix2 0 j) = ((g.u 1 : ℝ) : EReal) := by
  unfold kernelRun0_A.sl.r_44
  pointwise [k0_pay34, k0_pay32, at_r_11 c arg0 harg0 H, at_r_12 c arg0 harg0 H, at_r_13 c arg0 harg0 H, at_r_14 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_sqrt (show 0 ≤ g.q 0 * g.q 0 + g.q 1 * g.q 1 + g.q 2 * g.q 2 + g.q 3 * g.q 3 from g.qq_nonneg), up_div (show Real.sqrt (g.q 0 * g.q 0 + g.q 1 * g.q 1 + g.q 2 * g.q 2 + g.q 3 * g.q 3) ≠ 0 from H.qn)]
  all_goals rfl

theorem at_r_45 : kernelRun0_A.sl.r_45 c arg0 harg0 x0 (ix2 0 j) = ((g.u 2 : ℝ) : EReal) := by
  unfold kernelRun0_A.sl.r_45
  pointwise [k0_pay35, k0_pay32, at_r_11 c arg0 harg0 H, at_r_12 c arg0 harg0 H, at_r_13 c arg0 harg0 H, at_r_14 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_sqrt (show 0 ≤ g.q 0 * g.q 0 + g.q 1 * g.q 1 + g.q 2 * g.q 2 + g.q 3 * g.q 3 from g.qq_nonneg), up_div (show Real.sqrt (g.q 0 * g.q 0 + g.q 1 * g.q 1 + g.q 2 * g.q 2 + g.q 3 * g.q 3) ≠ 0 from H.qn)]
  all_goals rfl

theorem at_r_46 : kernelRun0_A.sl.r_46 c arg0 harg0 x0 (ix2 0 j) = ((g.u 3 : ℝ) : EReal) := by
  unfold kernelRun0_A.sl.r_46
  pointwise [k0_pay36, k0_pay32, at_r_11 c arg0 harg0 H, at_r_12 c arg0 harg0 H, at_r_13 c arg0 harg0 H, at_r_14 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_sqrt (show 0 ≤ g.q 0 * g.q 0 + g.q 1 * g.q 1 + g.q 2 * g.q 2 + g.q 3 * g.q 3 from g.qq_nonneg), up_div (show Real.sqrt (g.q 0 * g.q 0 + g.q 1 * g.q 1 + g.q 2 * g.q 2 + g.q 3 * g.q 3) ≠ 0 from H.qn)]
  all_goals rfl

theorem at_r_47 : kernelRun0_A.sl.r_47 c arg0 harg0 x0 (ix2 0 j) = ((g.R 0 0 : ℝ) : EReal) := by
  have er_45 := at_r_45 c arg0 harg0 H
  unfold kernelRun0_A.sl.r_45 at er_45
  have er_46 := at_r_46 c arg0 harg0 H
  unfold kernelRun0_A.sl.r_46 at er_46
  unfold kernelRun0_A.sl.r_47
  pointwise [k0_pay37, at_r_11 c arg0 harg0 H, at_r_12 c arg0 harg0 H, at_r_13 c arg0 harg0 H, at_r_14 c arg0 harg0 H, er_45, er_46, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_48 : kernelRun0_A.sl.r_48 c arg0 harg0 x0 (ix2 0 j) = ((g.R 0 1 : ℝ) : EReal) := by
  have er_43 := at_r_43 c arg0 harg0 H
  unfold kernelRun0_A.sl.r_43 at er_43
  have er_44 := at_r_44 c arg0 harg0 H
  unfold kernelRun0_A.sl.r_44 at er_44
  have er_45 := at_r_45 c arg0 harg0 H
  unfold kernelRun0_A.sl.r_45 at er_45
  have er_46 := at_r_46 c arg0 harg0 H
  unfold kernelRun0_A.sl.r_46 at er_46
  unfold kernelRun0_A.sl.r_48
  pointwise [k0_pay38, at_r_11 c arg0 harg0 H, at_r_12 c arg0 harg0 H, at_r_13 c arg0 harg0 H, at_r_14 c arg0 harg0 H, er_43, er_44, er_45, er_46, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_49 : kernelRun0_A.sl.r_49 c arg0 harg0 x0 (ix2 0 j) = ((g.R 1 1 : ℝ) : EReal) := by
  unfold kernelRun0_A.sl.r_49
  pointwise [k0_pay39, at_r_44 c arg0 harg0 H, at_r_46 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_50 : kernelRun0_A.sl.r_50 c arg0 harg0 x0 (ix2 0 j) = ((g.R 1 2 : ℝ) : EReal) := by
  unfold kernelRun0_A.sl.r_50
  pointwise [k0_pay40, at_r_43 c arg0 harg0 H, at_r_44 c arg0 harg0 H, at_r_45 c arg0 harg0 H, at_r_46 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_51 : kernelRun0_A.sl.r_51 c arg0 harg0 x0 (ix2 0 j) = ((g.R 2 0 : ℝ) : EReal) := by
  unfold kernelRun0_A.sl.r_51
  pointwise [k0_pay41, at_r_43 c arg0 harg0 H, at_r_44 c arg0 harg0 H, at_r_45 c arg0 harg0 H, at_r_46 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_52 : kernelRun0_A.sl.r_52 c arg0 harg0 x0 (ix2 0 j) = ((g.R 2 1 : ℝ) : EReal) := by
  unfold kernelRun0_A.sl.r_52
  pointwise [k0_pay42, at_r_43 c arg0 harg0 H, at_r_44 c arg0 harg0 H, at_r_45 c arg0 harg0 H, at_r_46 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_53 : kernelRun0_A.sl.r_53 c arg0 harg0 x0 (ix2 0 j) = ((g.R 2 2 : ℝ) : EReal) := by
  unfold kernelRun0_A.sl.r_53
  pointwise [k0_pay43, at_r_44 c arg0 harg0 H, at_r_45 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_54 : kernelRun0_A.sl.r_54 c arg0 harg0 x0 (ix2 0 j) = ((g.M 0 0 : ℝ) : EReal) := by
  unfold kernelRun0_A.sl.r_54
  pointwise [k0_pay44, at_r_8 c arg0 harg0 H, at_r_47 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_55 : kernelRun0_A.sl.r_55 c arg0 harg0 x0 (ix2 0 j) = ((g.M 0 1 : ℝ) : EReal) := by
  unfold kernelRun0_A.sl.r_55
  pointwise [k0_pay45, at_r_9 c arg0 harg0 H, at_r_48 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_56 : kernelRun0_A.sl.r_56 c arg0 harg0 x0 (ix2 0 j) = ((g.M 0 2 : ℝ) : EReal) := by
  unfold kernelRun0_A.sl.r_56
  pointwise [k0_pay46, at_r_10 c arg0 harg0 H, at_r_43 c arg0 harg0 H, at_r_44 c arg0 harg0 H, at_r_45 c arg0 harg0 H, at_r_46 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_57 : kernelRun0_A.sl.r_57 c arg0 harg0 x0 (ix2 0 j) = ((g.M 1 0 : ℝ) : EReal) := by
  unfold kernelRun0_A.sl.r_57
  pointwise [k0_pay47, at_r_8 c arg0 harg0 H, at_r_43 c arg0 harg0 H, at_r_44 c arg0 harg0 H, at_r_45 c arg0 harg0 H, at_r_46 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_58 : kernelRun0_A.sl.r_58 c arg0 harg0 x0 (ix2 0 j) = ((g.sg 0 0 : ℝ) : EReal) := by
  unfold kernelRun0_A.sl.r_58
  pointwise [k0_pay53, at_r_54 c arg0 harg0 H, at_r_55 c arg0 harg0 H, at_r_56 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_59 : kernelRun0_A.sl.r_59 c arg0 harg0 x0 (ix2 0 j) = ((g.sg 0 1 : ℝ) : EReal) := by
  unfold kernelRun0_A.sl.r_59
  pointwise [k0_pay54, k0_pay49, k0_pay48, at_r_9 c arg0 harg0 H, at_r_10 c arg0 harg0 H, at_r_49 c arg0 harg0 H, at_r_50 c arg0 harg0 H, at_r_54 c arg0 harg0 H, at_r_55 c arg0 harg0 H, at_r_56 c arg0 harg0 H, at_r_57 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_60 : kernelRun0_A.sl.r_60 c arg0 harg0 x0 (ix2 0 j) = ((g.sg 0 2 : ℝ) : EReal) := by
  unfold kernelRun0_A.sl.r_60
  pointwise [k0_pay55, k0_pay52, k0_pay51, k0_pay50, at_r_8 c arg0 harg0 H, at_r_9 c arg0 harg0 H, at_r_10 c arg0 harg0 H, at_r_51 c arg0 harg0 H, at_r_52 c arg0 harg0 H, at_r_53 c arg0 harg0 H, at_r_54 c arg0 harg0 H, at_r_55 c arg0 harg0 H, at_r_56 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_61 : kernelRun0_A.sl.r_61 c arg0 harg0 x0 (ix2 0 j) = ((g.sg 1 1 : ℝ) : EReal) := by
  unfold kernelRun0_A.sl.r_61
  pointwise [k0_pay56, k0_pay49, k0_pay48, at_r_9 c arg0 harg0 H, at_r_10 c arg0 harg0 H, at_r_49 c arg0 harg0 H, at_r_50 c arg0 harg0 H, at_r_57 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_62 : kernelRun0_A.sl.r_62 c arg0 harg0 x0 (ix2 0 j) = ((g.sg 1 2 : ℝ) : EReal) := by
  unfold kernelRun0_A.sl.r_62
  pointwise [k0_pay57, k0_pay52, k0_pay51, k0_pay50, k0_pay49, k0_pay48, at_r_8 c arg0 harg0 H, at_r_9 c arg0 harg0 H, at_r_10 c arg0 harg0 H, at_r_49 c arg0 harg0 H, at_r_50 c arg0 harg0 H, at_r_51 c arg0 harg0 H, at_r_52 c arg0 harg0 H, at_r_53 c arg0 harg0 H, at_r_57 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_63 : kernelRun0_A.sl.r_63 c arg0 harg0 x0 (ix2 0 j) = ((g.sg 2 2 : ℝ) : EReal) := by
  unfold kernelRun0_A.sl.r_63
  pointwise [k0_pay58, k0_pay52, k0_pay51, k0_pay50, at_r_8 c arg0 harg0 H, at_r_9 c arg0 harg0 H, at_r_10 c arg0 harg0 H, at_r_51 c arg0 harg0 H, at_r_52 c arg0 harg0 H, at_r_53 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

end

end Cert.KernelIdeal.Own

end

end
-- ==== Proof.Value.PrepassPlane.lean ====
/- Region 0 (projection): the image-plane covariance, its inverse and the pixel mean, row by row at one gaussian. -/
module

public import proofs.«01_k».proof.Proof.Value.PrepassSpace

@[expose] public section

noncomputable section

set_option maxRecDepth 16384

namespace Cert.KernelIdeal.Own

open Idealize.ShloMosaic Idealize.ShloMosaic.TcCoe Idealize.SL.Sem
open Cert.KernelIdeal Cert.KernelIdeal.Gen Cert.Splat

section
variable (c : Dev nD) (arg0 : Memref sig .tc .vmem S14x512 .f32) (harg0 : arg0.IsWhole) (arg1 : Memref sig .tc .smem S4x4 .f32) (harg1 : arg1.IsWhole)
  {x0 : Vec Ideal S14x512 .f32} {x1 : Vec Ideal S4x4 .f32} {j : Fin 512} {g : Gauss} (H : Holds x0 x1 j g)
include H

theorem at_r_64 : kernelRun0_A.sl.r_64 c arg0 harg0 arg1 harg1 x0 x1 (ix2 0 j) = ((g.j0 : ℝ) : EReal) := by
  unfold kernelRun0_A.sl.r_64
  pointwise [k0_pay59, at_r_40 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_div g.zc_pos.ne']
  all_goals rfl

theorem at_r_65 : kernelRun0_A.sl.r_65 c arg0 harg0 arg1 harg1 x0 x1 (ix2 0 j) = ((g.jx : ℝ) : EReal) := by
  unfold kernelRun0_A.sl.r_65
  pointwise [k0_pay60, at_r_40 c arg0 harg0 arg1 harg1 H, at_r_41 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_div (mul_pos g.zc_pos g.zc_pos).ne']
  all_goals rfl

theorem at_r_66 : kernelRun0_A.sl.r_66 c arg0 harg0 arg1 harg1 x0 x1 (ix2 0 j) = ((g.j0 : ℝ) : EReal) := by
  unfold kernelRun0_A.sl.r_66
  pointwise [k0_pay61, at_r_40 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_div g.zc_pos.ne']
  all_goals rfl

theorem at_r_67 : kernelRun0_A.sl.r_67 c arg0 harg0 arg1 harg1 x0 x1 (ix2 0 j) = ((g.t0 0 : ℝ) : EReal) := by
  unfold kernelRun0_A.sl.r_67
  pointwise [k0_pay64, at_r_23 c arg1 harg1 H, at_r_29 c arg1 harg1 H, at_r_64 c arg0 harg0 arg1 harg1 H, at_r_65 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_68 : kernelRun0_A.sl.r_68 c arg0 harg0 arg1 harg1 x0 x1 (ix2 0 j) = ((g.t0 1 : ℝ) : EReal) := by
  unfold kernelRun0_A.sl.r_68
  pointwise [k0_pay65, at_r_24 c arg1 harg1 H, at_r_30 c arg1 harg1 H, at_r_64 c arg0 harg0 arg1 harg1 H, at_r_65 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_69 : kernelRun0_A.sl.r_69 c arg0 harg0 arg1 harg1 x0 x1 (ix2 0 j) = ((g.t0 2 : ℝ) : EReal) := by
  unfold kernelRun0_A.sl.r_69
  pointwise [k0_pay66, at_r_25 c arg1 harg1 H, at_r_31 c arg1 harg1 H, at_r_64 c arg0 harg0 arg1 harg1 H, at_r_65 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_70 : kernelRun0_A.sl.r_70 c arg0 harg0 arg1 harg1 x0 x1 (ix2 0 j) = ((g.t1 0 : ℝ) : EReal) := by
  unfold kernelRun0_A.sl.r_70
  pointwise [k0_pay67, k0_pay63, k0_pay62, at_r_26 c arg1 harg1 H, at_r_29 c arg1 harg1 H, at_r_40 c arg0 harg0 arg1 harg1 H, at_r_42 c arg0 harg0 arg1 harg1 H, at_r_66 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_div (mul_pos g.zc_pos g.zc_pos).ne']
  all_goals rfl

theorem at_r_71 : kernelRun0_A.sl.r_71 c arg0 harg0 arg1 harg1 x0 x1 (ix2 0 j) = ((g.t1 1 : ℝ) : EReal) := by
  unfold kernelRun0_A.sl.r_71
  pointwise [k0_pay68, k0_pay63, k0_pay62, at_r_27 c arg1 harg1 H, at_r_30 c arg1 harg1 H, at_r_40 c arg0 harg0 arg1 harg1 H, at_r_42 c arg0 harg0 arg1 harg1 H, at_r_66 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_div (mul_pos g.zc_pos g.zc_pos).ne']
  all_goals rfl

theorem at_r_72 : kernelRun0_A.sl.r_72 c arg0 harg0 arg1 harg1 x0 x1 (ix2 0 j) = ((g.t1 2 : ℝ) : EReal) := by
  unfold kernelRun0_A.sl.r_72
  pointwise [k0_pay69, k0_pay63, k0_pay62, at_r_28 c arg1 harg1 H, at_r_31 c arg1 harg1 H, at_r_40 c arg0 harg0 arg1 harg1 H, at_r_42 c arg0 harg0 arg1 harg1 H, at_r_66 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_div (mul_pos g.zc_pos g.zc_pos).ne']
  all_goals rfl

theorem at_r_73 : kernelRun0_A.sl.r_73 c arg0 harg0 x0 (ix2 0 j) = ((g.sg 0 0 : ℝ) : EReal) := by
  unfold kernelRun0_A.sl.r_73
  pointwise [k0_pay70, at_r_58 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_74 : kernelRun0_A.sl.r_74 c arg0 harg0 x0 (ix2 0 j) = ((g.sg 0 1 : ℝ) : EReal) := by
  unfold kernelRun0_A.sl.r_74
  pointwise [k0_pay71, at_r_59 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_75 : kernelRun0_A.sl.r_75 c arg0 harg0 x0 (ix2 0 j) = ((g.sg 0 2 : ℝ) : EReal) := by
  unfold kernelRun0_A.sl.r_75
  pointwise [k0_pay72, at_r_60 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_76 : kernelRun0_A.sl.r_76 c arg0 harg0 x0 (ix2 0 j) = ((g.sg 0 1 : ℝ) : EReal) := by
  unfold kernelRun0_A.sl.r_76
  pointwise [k0_pay73, at_r_59 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_77 : kernelRun0_A.sl.r_77 c arg0 harg0 x0 (ix2 0 j) = ((g.sg 1 1 : ℝ) : EReal) := by
  unfold kernelRun0_A.sl.r_77
  pointwise [k0_pay74, at_r_61 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_78 : kernelRun0_A.sl.r_78 c arg0 harg0 arg1 harg1 x0 x1 (ix2 0 j) = ((g.w0 1 : ℝ) : EReal) := by
  unfold kernelRun0_A.sl.r_78
  pointwise [k0_pay81, k0_pay78, k0_pay75, at_r_62 c arg0 harg0 H, at_r_67 c arg0 harg0 arg1 harg1 H, at_r_68 c arg0 harg0 arg1 harg1 H, at_r_69 c arg0 harg0 arg1 harg1 H, at_r_74 c arg0 harg0 H, at_r_77 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  exact congrArg _ (by unfold Gauss.w0 Gauss.sg; ring)

theorem at_r_79 : kernelRun0_A.sl.r_79 c arg0 harg0 arg1 harg1 x0 x1 (ix2 0 j) = ((g.w0 2 : ℝ) : EReal) := by
  unfold kernelRun0_A.sl.r_79
  pointwise [k0_pay82, k0_pay79, k0_pay76, at_r_62 c arg0 harg0 H, at_r_63 c arg0 harg0 H, at_r_67 c arg0 harg0 arg1 harg1 H, at_r_68 c arg0 harg0 arg1 harg1 H, at_r_69 c arg0 harg0 arg1 harg1 H, at_r_75 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  exact congrArg _ (by unfold Gauss.w0 Gauss.sg; ring)

theorem at_r_80 : kernelRun0_A.sl.r_80 c arg0 harg0 arg1 harg1 x0 x1 (ix2 0 j) = ((g.w1 0 : ℝ) : EReal) := by
  unfold kernelRun0_A.sl.r_80
  pointwise [k0_pay83, k0_pay77, at_r_60 c arg0 harg0 H, at_r_70 c arg0 harg0 arg1 harg1 H, at_r_71 c arg0 harg0 arg1 harg1 H, at_r_72 c arg0 harg0 arg1 harg1 H, at_r_73 c arg0 harg0 H, at_r_76 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  exact congrArg _ (by unfold Gauss.w1 Gauss.sg; ring)

theorem at_r_81 : kernelRun0_A.sl.r_81 c arg0 harg0 arg1 harg1 x0 x1 (ix2 0 j) = ((g.w1 1 : ℝ) : EReal) := by
  unfold kernelRun0_A.sl.r_81
  pointwise [k0_pay84, k0_pay78, k0_pay75, at_r_62 c arg0 harg0 H, at_r_70 c arg0 harg0 arg1 harg1 H, at_r_71 c arg0 harg0 arg1 harg1 H, at_r_72 c arg0 harg0 arg1 harg1 H, at_r_74 c arg0 harg0 H, at_r_77 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  exact congrArg _ (by unfold Gauss.w1 Gauss.sg; ring)

theorem at_r_82 : kernelRun0_A.sl.r_82 c arg0 harg0 arg1 harg1 x0 x1 (ix2 0 j) = ((g.w1 2 : ℝ) : EReal) := by
  unfold kernelRun0_A.sl.r_82
  pointwise [k0_pay85, k0_pay79, k0_pay76, at_r_62 c arg0 harg0 H, at_r_63 c arg0 harg0 H, at_r_70 c arg0 harg0 arg1 harg1 H, at_r_71 c arg0 harg0 arg1 harg1 H, at_r_72 c arg0 harg0 arg1 harg1 H, at_r_75 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  exact congrArg _ (by unfold Gauss.w1 Gauss.sg; ring)

theorem at_r_83 : kernelRun0_A.sl.r_83 c arg0 harg0 arg1 harg1 x0 x1 (ix2 0 j) = ((g.a : ℝ) : EReal) := by
  have er_78 := at_r_78 c arg0 harg0 arg1 harg1 H
  unfold kernelRun0_A.sl.r_78 at er_78
  have er_79 := at_r_79 c arg0 harg0 arg1 harg1 H
  unfold kernelRun0_A.sl.r_79 at er_79
  unfold kernelRun0_A.sl.r_83
  pointwise [k0_pay86, k0_pay80, k0_pay77, at_r_60 c arg0 harg0 H, at_r_62 c arg0 harg0 H, at_r_63 c arg0 harg0 H, at_r_67 c arg0 harg0 arg1 harg1 H, at_r_68 c arg0 harg0 arg1 harg1 H, at_r_69 c arg0 harg0 arg1 harg1 H, at_r_73 c arg0 harg0 H, at_r_74 c arg0 harg0 H, at_r_75 c arg0 harg0 H, at_r_76 c arg0 harg0 H, at_r_77 c arg0 harg0 H, er_78, er_79, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  exact congrArg _ (by unfold Gauss.a Gauss.w0 Gauss.sg; ring)

theorem at_r_84 : kernelRun0_A.sl.r_84 c arg0 harg0 arg1 harg1 x0 x1 (ix2 0 j) = ((g.w0 0 * g.t1 0 : ℝ) : EReal) := by
  unfold kernelRun0_A.sl.r_84
  pointwise [k0_pay87, k0_pay80, k0_pay77, at_r_60 c arg0 harg0 H, at_r_67 c arg0 harg0 arg1 harg1 H, at_r_68 c arg0 harg0 arg1 harg1 H, at_r_69 c arg0 harg0 arg1 harg1 H, at_r_70 c arg0 harg0 arg1 harg1 H, at_r_73 c arg0 harg0 H, at_r_76 c arg0 harg0 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  exact congrArg _ (by unfold Gauss.w0 Gauss.sg; ring)

theorem at_r_85 : kernelRun0_A.sl.r_85 c arg0 harg0 arg1 harg1 x0 x1 (ix2 0 j) = ((g.c : ℝ) : EReal) := by
  unfold kernelRun0_A.sl.r_85
  pointwise [k0_pay89, at_r_70 c arg0 harg0 arg1 harg1 H, at_r_71 c arg0 harg0 arg1 harg1 H, at_r_72 c arg0 harg0 arg1 harg1 H, at_r_80 c arg0 harg0 arg1 harg1 H, at_r_81 c arg0 harg0 arg1 harg1 H, at_r_82 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_86 : kernelRun0_A.sl.r_86 c arg0 harg0 arg1 harg1 x0 x1 (ix2 0 j) = ((g.det : ℝ) : EReal) := by
  have er_85 := at_r_85 c arg0 harg0 arg1 harg1 H
  unfold kernelRun0_A.sl.r_85 at er_85
  unfold kernelRun0_A.sl.r_86
  pointwise [k0_pay90, k0_pay88, at_r_70 c arg0 harg0 arg1 harg1 H, at_r_71 c arg0 harg0 arg1 harg1 H, at_r_72 c arg0 harg0 arg1 harg1 H, at_r_78 c arg0 harg0 arg1 harg1 H, at_r_79 c arg0 harg0 arg1 harg1 H, at_r_80 c arg0 harg0 arg1 harg1 H, at_r_81 c arg0 harg0 arg1 harg1 H, at_r_82 c arg0 harg0 arg1 harg1 H, at_r_83 c arg0 harg0 arg1 harg1 H, at_r_84 c arg0 harg0 arg1 harg1 H, er_85, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

theorem at_r_87 : kernelRun0_A.sl.r_87 c arg0 harg0 arg1 harg1 x0 x1 (ix2 0 j) = ((g.ca : ℝ) : EReal) := by
  have er_85 := at_r_85 c arg0 harg0 arg1 harg1 H
  unfold kernelRun0_A.sl.r_85 at er_85
  have er_86 := at_r_86 c arg0 harg0 arg1 harg1 H
  unfold kernelRun0_A.sl.r_86 at er_86
  unfold kernelRun0_A.sl.r_87
  pointwise [k0_pay92, k0_pay91, at_r_70 c arg0 harg0 arg1 harg1 H, at_r_71 c arg0 harg0 arg1 harg1 H, at_r_72 c arg0 harg0 arg1 harg1 H, at_r_78 c arg0 harg0 arg1 harg1 H, at_r_79 c arg0 harg0 arg1 harg1 H, at_r_80 c arg0 harg0 arg1 harg1 H, at_r_81 c arg0 harg0 arg1 harg1 H, at_r_82 c arg0 harg0 arg1 harg1 H, at_r_83 c arg0 harg0 arg1 harg1 H, at_r_84 c arg0 harg0 arg1 harg1 H, er_85, er_86, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_div (show max g.det (k 0x2B8CBCCC#32) ≠ 0 from (lt_of_lt_of_le g.det_pos (le_max_left _ _)).ne')]
  all_goals rfl

theorem at_r_88 : kernelRun0_A.sl.r_88 c arg0 harg0 arg1 harg1 x0 x1 (ix2 0 j) = ((g.cb : ℝ) : EReal) := by
  have er_86 := at_r_86 c arg0 harg0 arg1 harg1 H
  unfold kernelRun0_A.sl.r_86 at er_86
  unfold kernelRun0_A.sl.r_88
  pointwise [k0_pay93, k0_pay91, k0_pay88, at_r_70 c arg0 harg0 arg1 harg1 H, at_r_71 c arg0 harg0 arg1 harg1 H, at_r_72 c arg0 harg0 arg1 harg1 H, at_r_78 c arg0 harg0 arg1 harg1 H, at_r_79 c arg0 harg0 arg1 harg1 H, at_r_80 c arg0 harg0 arg1 harg1 H, at_r_81 c arg0 harg0 arg1 harg1 H, at_r_82 c arg0 harg0 arg1 harg1 H, at_r_83 c arg0 harg0 arg1 harg1 H, at_r_84 c arg0 harg0 arg1 harg1 H, er_86, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_div (show max g.det (k 0x2B8CBCCC#32) ≠ 0 from (lt_of_lt_of_le g.det_pos (le_max_left _ _)).ne')]
  all_goals rfl

theorem at_r_89 : kernelRun0_A.sl.r_89 c arg0 harg0 arg1 harg1 x0 x1 (ix2 0 j) = ((g.cc : ℝ) : EReal) := by
  have er_86 := at_r_86 c arg0 harg0 arg1 harg1 H
  unfold kernelRun0_A.sl.r_86 at er_86
  unfold kernelRun0_A.sl.r_89
  pointwise [k0_pay94, k0_pay91, at_r_70 c arg0 harg0 arg1 harg1 H, at_r_71 c arg0 harg0 arg1 harg1 H, at_r_72 c arg0 harg0 arg1 harg1 H, at_r_78 c arg0 harg0 arg1 harg1 H, at_r_79 c arg0 harg0 arg1 harg1 H, at_r_80 c arg0 harg0 arg1 harg1 H, at_r_81 c arg0 harg0 arg1 harg1 H, at_r_82 c arg0 harg0 arg1 harg1 H, at_r_83 c arg0 harg0 arg1 harg1 H, at_r_84 c arg0 harg0 arg1 harg1 H, er_86, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_div (show max g.det (k 0x2B8CBCCC#32) ≠ 0 from (lt_of_lt_of_le g.det_pos (le_max_left _ _)).ne')]
  all_goals rfl

theorem at_r_91 : kernelRun0_A.sl.r_91 c arg0 harg0 arg1 harg1 x0 x1 (ix2 0 j) = ((g.mx : ℝ) : EReal) := by
  unfold kernelRun0_A.sl.r_91
  pointwise [k0_pay96, at_r_35 c arg0 harg0 arg1 harg1 H, at_r_40 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_div g.zc_pos.ne']
  all_goals rfl

theorem at_r_92 : kernelRun0_A.sl.r_92 c arg0 harg0 arg1 harg1 x0 x1 (ix2 0 j) = ((k 0x4336DB6E#32 * g.p 1 / g.zc : ℝ) : EReal) := by
  unfold kernelRun0_A.sl.r_92
  pointwise [k0_pay97, at_r_38 c arg0 harg0 arg1 harg1 H, at_r_40 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one, up_div g.zc_pos.ne']
  all_goals rfl

theorem at_r_93 : kernelRun0_A.sl.r_93 c arg0 harg0 arg1 harg1 x0 x1 (ix2 0 j) = ((g.my : ℝ) : EReal) := by
  unfold kernelRun0_A.sl.r_93
  pointwise [k0_pay98, k0_pay99, at_r_92 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  all_goals try simp only [up_add, up_sub, up_mul, up_max, up_min, up_zero, up_one]
  all_goals rfl

end

end Cert.KernelIdeal.Own

end

end
-- ==== Proof.Value.PrepassReach.lean ====
/- Region 0 (projection): the effective opacity, the reach and the radius at one gaussian. -/
module

public import proofs.«01_k».proof.Proof.Value.PrepassPlane

@[expose] public section

noncomputable section

set_option maxRecDepth 16384

namespace Cert.KernelIdeal.Own

open Idealize.ShloMosaic Idealize.ShloMosaic.TcCoe Idealize.SL.Sem
open Cert.KernelIdeal Cert.KernelIdeal.Gen Cert.Splat

section
variable (c : Dev nD) (arg0 : Memref sig .tc .vmem S14x512 .f32) (harg0 : arg0.IsWhole) (arg1 : Memref sig .tc .smem S4x4 .f32) (harg1 : arg1.IsWhole)
  {x0 : Vec Ideal S14x512 .f32} {x1 : Vec Ideal S4x4 .f32} {j : Fin 512} {g : Gauss} (H : Holds x0 x1 j g)
include H

theorem at_r_90 : kernelRun0_A.sl.r_90 c arg0 harg0 arg1 harg1 x0 x1 (ix2 0 j) = Ideal.fptosi 32 (Ideal.liftRound Int.ceil (g.rad : EReal)) := by
  have e85 := at_r_85 c arg0 harg0 arg1 harg1 H
  unfold kernelRun0_A.sl.r_85 at e85
  have e86 := at_r_86 c arg0 harg0 arg1 harg1 H
  unfold kernelRun0_A.sl.r_86 at e86
  unfold kernelRun0_A.sl.r_90
  pointwise [k0_pay95, e85, e86, at_r_83 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  have hm : (k 0x3F000000#32 : EReal) * ((g.a : EReal) + (g.c : EReal)) = (g.mid : EReal) := by rw [up_add, up_mul]; rfl
  rw [hm, up_mul, up_sub, up_max, up_sqrt g.disc_nonneg, up_add, up_sqrt (show 0 ≤ g.mid + Real.sqrt _ from g.lam_pos.le), up_mul]
  rfl

theorem at_r_94 : kernelRun0_A.sl.r_94 c arg0 harg0 arg1 harg1 x0 x1 (ix2 0 j) = (g.oe : EReal) := by
  unfold kernelRun0_A.sl.r_94
  pointwise [k0_pay100, at_r_15 c arg0 harg0 H, at_r_39 c arg0 harg0 arg1 harg1 H, at_r_86 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  rw [and_bits, sel_if]
  simp only [up_lt, up_zero, up_if, g.det_pos, and_true]
  rfl

theorem at_r_97 : kernelRun0_A.sl.r_97 c arg0 harg0 arg1 harg1 x0 x1 (ix2 0 j) = ((g.mx - g.rx : ℝ) : EReal) := by
  have e94 := at_r_94 c arg0 harg0 arg1 harg1 H
  unfold kernelRun0_A.sl.r_94 at e94
  unfold kernelRun0_A.sl.r_97
  have hq : (k 0x40000000#32 : EReal) * Ideal.log (Ideal.div (max (g.oe : EReal) (k 0x0DA24260#32 : EReal)) (k 0x3B808078#32 : EReal)) = (g.qmax : EReal) := by
    rw [up_max, up_div Gauss.min_ne, up_log g.oe_arg, up_mul]; rfl
  pointwise [k0_pay105, k0_pay103, k0_pay101, e94, at_r_83 c arg0 harg0 arg1 harg1 H, at_r_91 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  rw [hq, up_zero, up_max, up_mul, up_sqrt g.qa_nonneg, up_mul, up_add, up_sub]
  rfl

theorem at_reach : k0_pay106 (kernelRun0_A.sl.r_95 c arg0 harg0 arg1 harg1 x0 x1) (kernelRun0_A.sl.r_96 c arg0 harg0 arg1 harg1 x0 x1) (kernelRun0_A.sl.r_97 c arg0 harg0 arg1 harg1 x0 x1) (ix2 0 j) = (g.reach : EReal) := by
  have e94 := at_r_94 c arg0 harg0 arg1 harg1 H
  unfold kernelRun0_A.sl.r_94 at e94
  unfold kernelRun0_A.sl.r_95 kernelRun0_A.sl.r_96
  have hq : (k 0x40000000#32 : EReal) * Ideal.log (Ideal.div (max (g.oe : EReal) (k 0x0DA24260#32 : EReal)) (k 0x3B808078#32 : EReal)) = (g.qmax : EReal) := by
    rw [up_max, up_div Gauss.min_ne, up_log g.oe_arg, up_mul]; rfl
  pointwise [k0_pay106, k0_pay104, k0_pay102, k0_pay103, k0_pay101, e94, at_r_83 c arg0 harg0 arg1 harg1 H, at_r_85 c arg0 harg0 arg1 harg1 H, at_r_91 c arg0 harg0 arg1 harg1 H, at_r_97 c arg0 harg0 arg1 harg1 H, o38D1B717, o3F68F5C3, oBF68F5C3, o40000000, o4336DB6E, oC336DB6E, o3E99999A, o2B8CBCCC, o40400000, o3F000000, o3DCCCCCD, o43000000, o3E4CCCCD, o0DA24260, o3B808078, o3F800054, o3C23D70A, oBC23D70A, o437F028F, oCE6E6B28]
  simp only [hq]
  simp only [up_zero, up_max, up_mul, up_sqrt g.qa_nonneg, up_sqrt g.qc_nonneg, up_add, up_sub, and_bits, sel_if, up_lt, up_le, up_if]
  rfl

end

end Cert.KernelIdeal.Own

end

end
-- ==== Proof.Value.PrepassOut.lean ====
/- Region 0 (projection): its two output blocks at one gaussian. -/
module

public import proofs.«01_k».proof.Proof.Value.PrepassReach
public import Idealize.ShloMosaic.Lib.Pipeline.ValueKit

@[expose] public section

noncomputable section

set_option maxRecDepth 16384

namespace Cert.KernelIdeal.Own

open Idealize.ShloMosaic Idealize.ShloMosaic.TcCoe Idealize.SL.Sem
open Cert.KernelIdeal Cert.KernelIdeal.Gen Cert.Splat

section
variable (c : Dev nD) (arg0 : Memref sig .tc .vmem S14x512 .f32) (harg0 : arg0.IsWhole) (arg1 : Memref sig .tc .smem S4x4 .f32) (harg1 : arg1.IsWhole)
  (arg2 : Memref sig .tc .vmem S16x512 .f32) (harg2 : arg2.IsWhole) (arg3 : Memref sig .tc .vmem S1x512 .i32) (harg3 : arg3.IsWhole)
  {x0 : Vec Ideal S14x512 .f32} {x1 : Vec Ideal S4x4 .f32} {j : Fin 512} {g : Gauss} (H : Holds x0 x1 j g)
include H

theorem out_rad : out0_A_3 c arg0 harg0 arg1 harg1 arg2 harg2 arg3 harg3 x0 x1 (ix2 0 j) = Ideal.fptosi 32 (Ideal.liftRound Int.ceil (g.rad : EReal)) := by
  rw [← at_r_90 c arg0 harg0 arg1 harg1 H]
  unfold out0_A_3
  rw [View.read_writes_eq_canon _ _ _ (cover0_A_3 c arg0 harg0 arg1 harg1 arg2 harg2 arg3 harg3 x0 x1)]
  dsimp only [kernelRun0_A]
  canon_tiles y h
  idx_vars y
  obtain rfl : y0 = 0 := Fin.ext (by omega)
  obtain rfl : y1 = j := Fin.ext (by simpa using h1.symm)
  rfl

theorem out_prm (i : Fin 16) : out0_A_2 c arg0 harg0 arg1 harg1 arg2 harg2 arg3 harg3 x0 x1 (ix2 i j) = (g.prm i : EReal) := by
  unfold out0_A_2
  rw [View.read_writes_eq_canon _ _ _ (cover0_A_2 c arg0 harg0 arg1 harg1 arg2 harg2 arg3 harg3 x0 x1)]
  dsimp only [kernelRun0_A]
  have hc := cover0_A_2 c arg0 harg0 arg1 harg1 arg2 harg2 arg3 harg3 x0 x1 (ix2 i j)
  dsimp only [kernelRun0_A] at hc
  canon_tiles y h using hc
  all_goals idx_vars y
  all_goals clear hc
  all_goals obtain rfl : y1 = j := Fin.ext (by simpa using h1.symm)
  · pointwise [k0_pay108]
    obtain ⟨n, hn⟩ : ∃ n : Fin 4, i = ⟨12 + n, by omega⟩ := ⟨y0, Fin.ext h0⟩
    rw [hn]
    fin_cases n <;> rfl
  · obtain rfl : y0 = 0 := Fin.ext (by omega)
    obtain rfl : i = 11 := Fin.ext (by simpa using h0)
    exact at_r_39 c arg0 harg0 arg1 harg1 H
  · unfold k0_pay107
    pointwise
    rw [harg0.readAt_unread]
    pointwise
    obtain ⟨n, hn, hy⟩ : ∃ n : Fin 3, i = ⟨8 + n, by omega⟩ ∧ y0 = n := ⟨y0, Fin.ext h0, rfl⟩
    rw [hn, hy]
    refine (H.col n).trans ?_
    fin_cases n <;> rfl
  · obtain rfl : y0 = 0 := Fin.ext (by omega)
    obtain rfl : i = 7 := Fin.ext (by simpa using h0)
    exact at_r_39 c arg0 harg0 arg1 harg1 H
  · obtain rfl : y0 = 0 := Fin.ext (by omega)
    obtain rfl : i = 6 := Fin.ext (by simpa using h0)
    exact at_reach c arg0 harg0 arg1 harg1 H
  · obtain rfl : y0 = 0 := Fin.ext (by omega)
    obtain rfl : i = 5 := Fin.ext (by simpa using h0)
    exact at_r_94 c arg0 harg0 arg1 harg1 H
  · obtain rfl : y0 = 0 := Fin.ext (by omega)
    obtain rfl : i = 4 := Fin.ext (by simpa using h0)
    exact at_r_89 c arg0 harg0 arg1 harg1 H
  · obtain rfl : y0 = 0 := Fin.ext (by omega)
    obtain rfl : i = 3 := Fin.ext (by simpa using h0)
    exact at_r_88 c arg0 harg0 arg1 harg1 H
  · obtain rfl : y0 = 0 := Fin.ext (by omega)
    obtain rfl : i = 2 := Fin.ext (by simpa using h0)
    exact at_r_87 c arg0 harg0 arg1 harg1 H
  · obtain rfl : y0 = 0 := Fin.ext (by omega)
    obtain rfl : i = 1 := Fin.ext (by simpa using h0)
    exact at_r_93 c arg0 harg0 arg1 harg1 H
  · obtain rfl : y0 = 0 := Fin.ext (by omega)
    obtain rfl : i = 0 := Fin.ext (by simpa using h0)
    exact at_r_91 c arg0 harg0 arg1 harg1 H

end

end Cert.KernelIdeal.Own

end

end
-- ==== Proof.Value.BridgePrepass.lean ====
/- The first call's arrays after it: from the arguments to each gaussian's row of parameters and its radius. -/
module

public import proofs.«01_k».proof.Proof.Ideal.Run
public import proofs.«01_k».proof.Proof.Value.PrepassOut
public import Idealize.ShloMosaic.Lib.Pipeline.ValueKit

@[expose] public section

noncomputable section

set_option maxRecDepth 16384

namespace Cert.KernelIdeal.Own

open Idealize.ShloMosaic Idealize.ShloMosaic.TcCoe Idealize.SL.Sem
open Cert.KernelIdeal Cert.KernelIdeal.Gen Cert.Splat

/-- The kernel's arguments on core `c` hold the gaussians `G` and their camera. -/
structure Args (μ : (ℓ : Loc nD τ sig) → Buf (Elt Ideal) ℓ) (c : Dev nD) (G : Fin 512 → Gauss) : Prop where
  m : ∀ j i, (μ ((c : Thread nD τ).loc main_arg0) : Vec Ideal S512x3 .f32) (ix2 j i) = ((G j).m i : EReal)
  o : ∀ j, (μ ((c : Thread nD τ).loc main_arg1) : Vec Ideal S512x1 .f32) (ix2 j 0) = ((G j).o : EReal)
  col : ∀ j i, (μ ((c : Thread nD τ).loc main_arg2) : Vec Ideal S512x3 .f32) (ix2 j i) = ((G j).col i : EReal)
  s : ∀ j i, (μ ((c : Thread nD τ).loc main_arg3) : Vec Ideal S512x3 .f32) (ix2 j i) = ((G j).s i : EReal)
  q : ∀ j i, (μ ((c : Thread nD τ).loc main_arg4) : Vec Ideal S512x4 .f32) (ix2 j i) = ((G j).q i : EReal)
  v : ∀ (j : Fin 512) (i : Fin 3) (l : Fin 4), (μ ((c : Thread nD τ).loc main_arg6) : Vec Ideal S4x4 .f32) (ix2 i.castSucc l) = ((G j).v i l : EReal)
  qn : ∀ j, (G j).qn ≠ 0

/-- The packed rows: means, scales, quaternion, opacity, colours, one column a gaussian. -/
def packed (a0 : FVec Ideal S512x3 .f32) (a1 : FVec Ideal S512x1 .f32) (a2 a3 : FVec Ideal S512x3 .f32) (a4 : FVec Ideal S512x4 .f32) :
    FVec Ideal S14x512 .f32 :=
  concatenate S14x512 0 [⟨S3x512, transpose S3x512 [1, 0] a0 transposes_S512x3_S3x512_1_0⟩,
    ⟨S3x512, transpose S3x512 [1, 0] a3 transposes_S512x3_S3x512_1_0⟩,
    ⟨S4x512, transpose S4x512 [1, 0] a4 transposes_S512x4_S4x512_1_0⟩,
    ⟨S1x512, transpose S1x512 [1, 0] a1 transposes_S512x1_S1x512_1_0⟩,
    ⟨S3x512, transpose S3x512 [1, 0] a2 transposes_S512x3_S3x512_1_0⟩] concatenates_S3x512_S3x512_S4x512_S1x512_S3x512_S14x512_d0

section
variable (a0 : FVec Ideal S512x3 .f32) (a1 : FVec Ideal S512x1 .f32) (a2 a3 : FVec Ideal S512x3 .f32) (a4 : FVec Ideal S512x4 .f32) (j : Fin 512)

theorem packed_m (i : Fin 3) : packed a0 a1 a2 a3 a4 (ix2 ⟨i, by omega⟩ j) = a0 (ix2 j i) := by
  unfold packed
  fin_cases i <;> pointwise

theorem packed_s (i : Fin 3) : packed a0 a1 a2 a3 a4 (ix2 ⟨3 + i, by omega⟩ j) = a3 (ix2 j i) := by
  unfold packed
  fin_cases i <;> pointwise

theorem packed_q (i : Fin 4) : packed a0 a1 a2 a3 a4 (ix2 ⟨6 + i, by omega⟩ j) = a4 (ix2 j i) := by
  unfold packed
  fin_cases i <;> pointwise

theorem packed_o : packed a0 a1 a2 a3 a4 (ix2 10 j) = a1 (ix2 j 0) := by
  unfold packed
  pointwise

theorem packed_col (i : Fin 3) : packed a0 a1 a2 a3 a4 (ix2 ⟨11 + i, by omega⟩ j) = a2 (ix2 j i) := by
  unfold packed
  fin_cases i <;> pointwise
end

section
variable (m : (ℓ : Loc nD τ sig) → Buf (Elt Ideal) ℓ) (ρ : Dev nD → PrngReg) (c : Dev nD)

/-- What the host stretch before the first call leaves in its packed operand. -/
theorem W1_packed : (W1 m ρ c (Proc.devRef .tc main_v5) : FVec Ideal S14x512 .f32)
    = packed (m ((c : Thread nD τ).loc main_arg0)) (m ((c : Thread nD τ).loc main_arg1)) (m ((c : Thread nD τ).loc main_arg2))
        (m ((c : Thread nD τ).loc main_arg3)) (m ((c : Thread nD τ).loc main_arg4)) := by
  unfold_abbrev_sides
  after_results
  rfl

/-- Every block of the first call is its whole array. -/
theorem idx0 : ∀ t : Fin cfg0.N, win0_0.index t = ![0, 0] ∧ win0_1.index t = ![0, 0] ∧ win0_2.index t = ![0, 0] ∧ win0_3.index t = ![0, 0] := by
  decide +kernel

theorem blk0_0 (t : Fin cfg0.N) : iblk0 (V1 m ρ) c 0 t = W1 m ρ c (Proc.devRef .tc main_v5) := by
  blk_ext! [iblk0, idx0 t]

theorem blk0_1 (t : Fin cfg0.N) : iblk0 (V1 m ρ) c 1 t = m ((c : Thread nD τ).loc main_arg6) := by
  rw [← W1_args m ρ c main_arg6 (by decide)]
  blk_ext! [iblk0, idx0 t]

variable {m c} {G : Fin 512 → Gauss} (H : Args m c G)
include H

/-- The first call's operands hold the gaussians. -/
theorem holds (t : Fin cfg0.N) (j : Fin 512) : Holds (iblk0 (V1 m ρ) c 0 t) (iblk0 (V1 m ρ) c 1 t) j (G j) := by
  have e : iblk0 (V1 m ρ) c 0 t = packed (m ((c : Thread nD τ).loc main_arg0)) (m ((c : Thread nD τ).loc main_arg1)) (m ((c : Thread nD τ).loc main_arg2))
        (m ((c : Thread nD τ).loc main_arg3)) (m ((c : Thread nD τ).loc main_arg4)) := (blk0_0 m ρ c t).trans (W1_packed m ρ c)
  rw [e, blk0_1 m ρ c t]
  exact { m := fun i => (packed_m _ _ _ _ _ j i).trans (H.m j i), s := fun i => (packed_s _ _ _ _ _ j i).trans (H.s j i),
          q := fun i => (packed_q _ _ _ _ _ j i).trans (H.q j i), o := (packed_o _ _ _ _ _ j).trans (H.o j),
          col := fun i => (packed_col _ _ _ _ _ j i).trans (H.col j i), v := fun i l => H.v j i l, qn := H.qn j }

theorem outs_prm (t : Fin cfg0.N) (i : Fin 16) (j : Fin 512) : (outsAt0 (V1 m ρ) c t).1 (ix2 i j) = ((G j).prm i : EReal) := by
  have h := holds ρ H t j
  unfold outsAt0
  dsimp only
  exact out_prm c (ms0_0 t) (hs0_0 t) (ms0_1 t) (hs0_1 t) (ms0_2 t) (hs0_2 t) (ms0_3 t) (hs0_3 t) h i

theorem outs_rad (t : Fin cfg0.N) (j : Fin 512) : (outsAt0 (V1 m ρ) c t).2 (ix2 0 j) = Ideal.fptosi 32 (Ideal.liftRound Int.ceil ((G j).rad : EReal)) := by
  have h := holds ρ H t j
  unfold outsAt0
  dsimp only
  exact out_rad c (ms0_0 t) (hs0_0 t) (ms0_1 t) (hs0_1 t) (ms0_2 t) (hs0_2 t) (ms0_3 t) (hs0_3 t) h

/-- The first call's parameter array at its end. -/
theorem W2_prm (i : Fin 16) (j : Fin 512) : (W2 m ρ c (Proc.devRef .tc main_v6_0) : FVec Ideal S16x512 .f32) (ix2 i j) = ((G j).prm i : EReal) := by
  have e : W2 m ρ c (Proc.devRef .tc main_v6_0) = fun y : S16x512.Idx => (((G (y 1)).prm (y 0) : ℝ) : EReal) := by
    refine (W2_arr m ρ c 2).trans ((dat0 (V1 m ρ) c).arrAt_eq_of_covers 2 _ (by decide +kernel) fun t hf y => ?_)
    blk_simp
    rw [after0_2]
    have ey : ((win0_2.blk t).view.emb y : S16x512.Idx) = ix2 (y 0 : Fin 16) (y 1 : Fin 512) := by blk_ext [idx0 t]
    have ex : (y : S16x512.Idx) = ix2 (y 0 : Fin 16) (y 1 : Fin 512) := by blk_ext
    refine Eq.trans ?_ (congrArg (fun y : S16x512.Idx => (((G (y 1)).prm (y 0) : ℝ) : EReal)) ey).symm
    refine (congrArg (outsAt0 (V1 m ρ) c t).1 ex).trans ?_
    exact outs_prm ρ H t _ _
  exact congrFun e (ix2 i j)

/-- The first call's radii at its end. -/
theorem W2_rad (j : Fin 512) : (W2 m ρ c (Proc.devRef .tc main_v6_1) : Vec Ideal S1x512 .i32) (ix2 0 j)
    = Ideal.fptosi 32 (Ideal.liftRound Int.ceil ((G j).rad : EReal)) := by
  have e : W2 m ρ c (Proc.devRef .tc main_v6_1) = fun y : S1x512.Idx => Ideal.fptosi 32 (Ideal.liftRound Int.ceil ((G (y 1)).rad : EReal)) := by
    refine (W2_arr m ρ c 3).trans ((dat0 (V1 m ρ) c).arrAt_eq_of_covers 3 _ (by decide +kernel) fun t hf y => ?_)
    blk_simp
    rw [after0_3]
    have ey : ((win0_3.blk t).view.emb y : S1x512.Idx) = ix2 (0 : Fin 1) (y 1 : Fin 512) := by blk_ext [idx0 t]
    have ex : (y : S1x512.Idx) = ix2 (0 : Fin 1) (y 1 : Fin 512) := by blk_ext
    refine Eq.trans ?_ (congrArg (fun y : S1x512.Idx => Ideal.fptosi 32 (Ideal.liftRound Int.ceil ((G (y 1)).rad : EReal))) ey).symm
    refine (congrArg (outsAt0 (V1 m ρ) c t).2 ex).trans ?_
    exact outs_rad ρ H t _
  exact congrFun e (ix2 0 j)

end

end Cert.KernelIdeal.Own

end
-- ==== Proof.Value.Words.lean ====
/- Small words and whole numbers read as reals: comparisons, conversions, folds. -/
module

public import proofs.«01_k».proof.Proof.Value.Real
public import Idealize.ShloMosaic.Lib.WordCmp

@[expose] public section

noncomputable section

namespace Cert.Splat

open Idealize.ShloMosaic Idealize.ShloMosaic.WordCmp

theorem slt_nat {a b : ℕ} (ha : a < 2 ^ 31) (hb : b < 2 ^ 31) :
    IntOp.cmpi .slt (BitVec.ofNat 32 a) (BitVec.ofNat 32 b) = BitVec.ofBool (decide (a < b)) := cmpi_slt_ofNat ha hb
theorem sle_nat {a b : ℕ} (ha : a < 2 ^ 31) (hb : b < 2 ^ 31) :
    IntOp.cmpi .sle (BitVec.ofNat 32 a) (BitVec.ofNat 32 b) = BitVec.ofBool (decide (a ≤ b)) := cmpi_sle_ofNat ha hb
theorem eq_nat {a b : ℕ} (ha : a < 2 ^ 32) (hb : b < 2 ^ 32) :
    IntOp.cmpi .eq (BitVec.ofNat 32 a) (BitVec.ofNat 32 b) = BitVec.ofBool (decide (a = b)) := by
  rw [cmpi_eq_eq]
  congr 2
  exact propext (ofNat_eq_ofNat_iff ha hb)
theorem up_eq (a b : ℝ) : (a : EReal) = (b : EReal) ↔ a = b := EReal.coe_eq_coe_iff

theorem toReal_nat {a : ℕ} (ha : a < 2 ^ 31) : (((BitVec.ofNat 32 a).toInt : ℝ) : EReal) = ((a : ℝ) : EReal) := by
  rw [toInt_ofNat_of_lt ha]; norm_cast

theorem toInt_nat {a : ℕ} (ha : a < 2 ^ 31) : Ideal.fptosi 32 ((a : ℝ) : EReal) = BitVec.ofNat 32 a := by
  unfold Ideal.fptosi
  rw [Ideal.toIntClamped_coe, if_pos (Nat.cast_nonneg a), Int.floor_natCast, min_eq_right (by push_cast; omega), max_eq_right (by push_cast; omega)]
  exact BitVec.ofInt_natCast 32 a
theorem toInt_neg_one : Ideal.fptosi 32 ((-1 : ℝ) : EReal) = BitVec.ofInt 32 (-1) := by
  unfold Ideal.fptosi
  rw [Ideal.toIntClamped_coe, if_neg (by norm_num)]
  congr 1
  have : ⌈(-1 : ℝ)⌉ = -1 := by rw [Int.ceil_eq_iff]; norm_num
  rw [this]; norm_num
theorem fp_int (x : EReal) : (FloatOps.fptosi (F := Ideal) (φ := .f32) 32 x) = Ideal.fptosi 32 x := rfl
theorem int_fp (b : BitVec 32) : (FloatOps.sitofp (F := Ideal) .f32 b) = ((b.toInt : ℝ) : EReal) := rfl
theorem slt_fin {n : ℕ} (hn : n ≤ 2 ^ 31) (a b : Fin n) : IntOp.cmpi .slt (BitVec.ofNat 32 a.val) (BitVec.ofNat 32 b.val) = BitVec.ofBool (decide (a.val < b.val)) :=
  slt_nat (lt_of_lt_of_le a.isLt hn) (lt_of_lt_of_le b.isLt hn)
theorem sle_fin {n : ℕ} (hn : n ≤ 2 ^ 31) (a b : Fin n) : IntOp.cmpi .sle (BitVec.ofNat 32 a.val) (BitVec.ofNat 32 b.val) = BitVec.ofBool (decide (a.val ≤ b.val)) :=
  sle_nat (lt_of_lt_of_le a.isLt hn) (lt_of_lt_of_le b.isLt hn)
theorem o3F800000 : Ideal.ofBits .f32 0x3F800000#32 = ((1 : ℝ) : EReal) := by
  rw [ofBits_k _ (by decide)]
  exact congrArg _ (by simp [k, Ideal.ofBits, Ideal.ieee, -EReal.coe_mul, -EReal.coe_neg, EReal.toReal_coe]; try norm_num)
theorem o41700000 : Ideal.ofBits .f32 0x41700000#32 = ((15 : ℝ) : EReal) := by
  rw [ofBits_k _ (by decide)]
  exact congrArg _ (by simp [k, Ideal.ofBits, Ideal.ieee, -EReal.coe_mul, -EReal.coe_neg, EReal.toReal_coe]; try norm_num)
theorem oBF800000 : Ideal.ofBits .f32 0xBF800000#32 = ((-1 : ℝ) : EReal) := by
  rw [ofBits_k _ (by decide)]
  exact congrArg _ (by simp [k, Ideal.ofBits, Ideal.ieee, -EReal.coe_mul, -EReal.coe_neg, EReal.toReal_coe]; try norm_num)
theorem sum_ite_count {n : ℕ} (p : Fin n → Prop) [DecidablePred p] :
    (∑ i, if p i then (1 : ℝ) else 0) = (((Finset.univ.filter p).card : ℕ) : ℝ) := by
  rw [Finset.sum_boole]
/-- Adding words that are zero but at one place. -/
theorem fold_addi_single {ι : Type} [DecidableEq ι] (i : ι) (f : ι → BitVec 32) (s : Finset ι) :
    Finset.fold IntOp.addi 0#32 (fun x => if x = i then f x else 0#32) s = if i ∈ s then f i else 0#32 := by
  induction s using Finset.induction_on with
  | empty => rfl
  | insert a s ha ih =>
    rw [Finset.fold_insert ha, ih]
    by_cases h : a = i
    · subst h; simp [ha, IntOp.addi]
    · have h' : i ∈ insert a s ↔ i ∈ s := by simp [Ne.symm h]
      simp [h, h', IntOp.addi]

theorem toInt_maxsi (a b : BitVec 32) : (IntOp.maxsi a b).toInt = max a.toInt b.toInt := by
  unfold IntOp.maxsi
  rw [BitVec.slt]
  by_cases h : b.toInt < a.toInt
  · rw [if_pos (by simpa using h), max_eq_left h.le]
  · rw [if_neg (by simpa using h), max_eq_right (not_lt.1 h)]

theorem toInt_fold_maxsi {ι : Type} (b : BitVec 32) (f : ι → BitVec 32) (s : Finset ι) :
    (Finset.fold IntOp.maxsi b f s).toInt = Finset.fold max b.toInt (fun x => (f x).toInt) s := by
  classical
  induction s using Finset.induction_on with
  | empty => rfl
  | insert a s ha ih => rw [Finset.fold_insert ha, Finset.fold_insert ha, toInt_maxsi, ih]

/-- The greatest of the words read signed, when one of them is `m` and none is more. -/
theorem fold_maxsi_eq {ι : Type} (b : BitVec 32) (f : ι → BitVec 32) (s : Finset ι) (m : ℤ) (hb : b.toInt ≤ m)
    (hle : ∀ x ∈ s, (f x).toInt ≤ m) (hex : ∃ x ∈ s, (f x).toInt = m) : (Finset.fold IntOp.maxsi b f s).toInt = m := by
  rw [toInt_fold_maxsi]
  refine le_antisymm ((Finset.fold_max_le _).2 ⟨hb, hle⟩) ((Finset.le_fold_max _).2 (.inr ?_))
  obtain ⟨x, hx, e⟩ := hex
  exact ⟨x, hx, e.ge⟩

theorem pix_and (n : ℕ) (h : n < 65536) : IntOp.andi (BitVec.ofNat 32 n) 255#32 = BitVec.ofNat 32 (n % 256) := by
  unfold IntOp.andi
  refine BitVec.eq_of_toNat_eq ?_
  rw [BitVec.toNat_and, BitVec.toNat_ofNat, BitVec.toNat_ofNat, BitVec.toNat_ofNat, Nat.mod_eq_of_lt (by omega), Nat.mod_eq_of_lt (by omega : n % 256 < 2 ^ 32)]
  exact Nat.and_two_pow_sub_one_eq_mod n 8

theorem pix_shr (n : ℕ) (h : n < 65536) : IntOp.shrsi ArithUnit.vector (BitVec.ofNat 32 n) 8#32 = BitVec.ofNat 32 (n / 256) := by
  unfold IntOp.shrsi
  rw [if_pos (by decide)]
  refine BitVec.eq_of_toInt_eq ?_
  rw [BitVec.toInt_sshiftRight', toInt_ofNat_of_lt (by omega), toInt_ofNat_of_lt (by omega), Int.shiftRight_eq_div_pow]
  norm_num

end Cert.Splat
-- ==== Proof.Value.Order.lean ====
/- The order of the gaussians: by depth, equal depths by position; the rank of each, and the inverse of the rank. -/
module

public import proofs.«01_k».proof.Proof.Value.Real

@[expose] public section

noncomputable section

namespace Cert.Splat

variable {n : ℕ} (z : Fin n → ℝ)

/-- `i` comes before `j`: it is nearer, or equally near and earlier in the list. -/
def Before (i j : Fin n) : Prop := z i < z j ∨ (z i = z j ∧ i < j)

open Classical in
instance (i j : Fin n) : Decidable (Before z i j) := Classical.propDecidable _

theorem before_irrefl (i : Fin n) : ¬ Before z i i := by
  rintro (h | ⟨-, h⟩)
  · exact lt_irrefl _ h
  · exact lt_irrefl _ h

theorem before_trans {i j l : Fin n} (h : Before z i j) (h' : Before z j l) : Before z i l := by
  rcases h with h | ⟨e, h⟩ <;> rcases h' with h' | ⟨e', h'⟩
  · exact .inl (h.trans h')
  · exact .inl (e' ▸ h)
  · exact .inl (e ▸ h')
  · exact .inr ⟨e.trans e', h.trans h'⟩

theorem before_total {i j : Fin n} (h : i ≠ j) : Before z i j ∨ Before z j i := by
  rcases lt_trichotomy (z i) (z j) with e | e | e
  · exact .inl (.inl e)
  · rcases lt_or_gt_of_ne h with l | l
    · exact .inl (.inr ⟨e, l⟩)
    · exact .inr (.inr ⟨e.symm, l⟩)
  · exact .inr (.inl e)

/-- How many come before `j`. -/
def rank (j : Fin n) : ℕ := (Finset.univ.filter fun i => Before z i j).card

theorem rank_lt (j : Fin n) : rank z j < n := by
  have h : (Finset.univ.filter fun i => Before z i j) ⊂ Finset.univ :=
    Finset.filter_ssubset.2 ⟨j, Finset.mem_univ _, before_irrefl z j⟩
  have := Finset.card_lt_card h
  rw [Finset.card_univ, Fintype.card_fin] at this
  exact this

theorem rank_mono {i j : Fin n} (h : Before z i j) : rank z i < rank z j := by
  refine Finset.card_lt_card ((Finset.ssubset_iff_of_subset ?_).2 ⟨i, ?_, ?_⟩)
  · intro l hl
    simp only [Finset.mem_filter, Finset.mem_univ, true_and] at hl ⊢
    exact before_trans z hl h
  · simpa using h
  · simpa using before_irrefl z i

def rankFin (j : Fin n) : Fin n := ⟨rank z j, rank_lt z j⟩

theorem rankFin_injective : Function.Injective (rankFin z) := by
  intro i j h
  by_contra hne
  have e : rank z i = rank z j := congrArg Fin.val h
  rcases before_total z hne with h' | h'
  · exact absurd (rank_mono z h') (by omega)
  · exact absurd (rank_mono z h') (by omega)

/-- The gaussian of rank `r`. -/
def order : Fin n → Fin n :=
  (Equiv.ofBijective (rankFin z) (Finite.injective_iff_bijective.1 (rankFin_injective z))).symm

theorem rank_order (r : Fin n) : rank z (order z r) = r :=
  congrArg Fin.val ((Equiv.ofBijective (rankFin z) (Finite.injective_iff_bijective.1 (rankFin_injective z))).apply_symm_apply r)

theorem order_injective : Function.Injective (order z) := Equiv.injective _

theorem rank_eq_iff (j r : Fin n) : rank z j = r ↔ j = order z r := by
  constructor
  · intro h
    exact rankFin_injective z (Fin.ext (h.trans (rank_order z r).symm))
  · rintro rfl
    exact rank_order z r

theorem order_mono {r s : Fin n} (h : r < s) : Before z (order z r) (order z s) := by
  rcases before_total z (fun e => h.ne (order_injective z e)) with h' | h'
  · exact h'
  · have := rank_mono z h'
    rw [rank_order, rank_order] at this
    exact absurd this (by have : r.val < s.val := h; omega)

/-- A sum that picks out the gaussian of rank `r`. -/
theorem sum_rank (f : Fin n → ℝ) (r : Fin n) : (∑ j, if rank z j = r then f j else 0) = f (order z r) := by
  simp only [rank_eq_iff]
  exact Finset.sum_ite_eq' _ _ _ |>.trans (by simp)

/-- The rank as a sum of ones. -/
theorem rank_sum [∀ i j : Fin n, Decidable (z i < z j ∨ z i = z j ∧ i.val < j.val)] (j : Fin n) :
    (∑ i : Fin n, if z i < z j ∨ z i = z j ∧ i.val < j.val then (1 : ℝ) else 0) = ((rank z j : ℕ) : ℝ) := by
  unfold rank
  rw [← Finset.sum_boole]
  refine Finset.sum_congr rfl fun i _ => ?_
  exact if_congr (by unfold Before; rfl) rfl rfl

end Cert.Splat
-- ==== Proof.Value.SortBinValue.lean ====
/- Region 1 (sorting and binning): the sorted rows, and for each strip of the image the running position of the rows
   that touch it. -/
module

public import proofs.«01_k».proof.Proof.Ideal.SortBin
public import proofs.«01_k».proof.Proof.Value.Words
public import proofs.«01_k».proof.Proof.Value.Order
public import Idealize.ShloMosaic.Lib.Pipeline.ValueKit

@[expose] public section

noncomputable section

set_option maxRecDepth 16384

namespace Cert.Splat

/-- The gaussian's rows reach the strip of sixteen image rows `i`. -/
def touch (p : Fin 16 → ℝ) (i : ℕ) : Prop := ((i * 16 : ℕ) : ℝ) ≤ p 1 + p 6 ∧ p 1 - p 6 ≤ ((i * 16 : ℕ) : ℝ) + 15
open Classical in
instance (p : Fin 16 → ℝ) (i : ℕ) : Decidable (touch p i) := Classical.propDecidable _

/-- Row `r` of a list of 512 touches the strip. -/
def touches (S : Fin 512 → Fin 16 → ℝ) (i : ℕ) (r : ℕ) : Prop := ∃ h : r < 512, touch (S ⟨r, h⟩) i
open Classical in
instance (S : Fin 512 → Fin 16 → ℝ) (i : ℕ) : DecidablePred (touches S i) := fun _ => Classical.propDecidable _

theorem touches_val (S : Fin 512 → Fin 16 → ℝ) (i : ℕ) (r : Fin 512) : touches S i r.val ↔ touch (S r) i :=
  ⟨fun ⟨_, h⟩ => h, fun h => ⟨r.isLt, h⟩⟩

/-- Where row `r` goes among the rows that touch the strip; minus one if it does not touch it. -/
def slot (S : Fin 512 → Fin 16 → ℝ) (i : ℕ) (r : Fin 512) : BitVec 32 :=
  if touch (S r) i then BitVec.ofNat 32 (Nat.count (touches S i) r.val) else BitVec.ofInt 32 (-1)

theorem count_incl (S : Fin 512 → Fin 16 → ℝ) (i : ℕ) (r : Fin 512) :
    (∑ x : Fin 512, if touch (S x) i then (if x.val ≤ r.val then (1 : ℝ) else 0) else 0) = ((Nat.count (touches S i) (r.val + 1) : ℕ) : ℝ) := by
  have e : (Finset.range (r.val + 1)).filter (touches S i) = (Finset.univ.filter fun x : Fin 512 => touch (S x) i ∧ x.val ≤ r.val).map Fin.valEmbedding := by
    ext x
    simp only [Finset.mem_filter, Finset.mem_range, Finset.mem_map, Finset.mem_univ, true_and, Fin.valEmbedding_apply]
    constructor
    · rintro ⟨h1, h2, h3⟩
      exact ⟨⟨x, h2⟩, ⟨h3, by simpa using Nat.lt_succ_iff.1 h1⟩, rfl⟩
    · rintro ⟨y, ⟨h1, h2⟩, rfl⟩
      exact ⟨Nat.lt_succ_of_le h2, y.isLt, h1⟩
  rw [Nat.count_eq_card_filter_range, e, Finset.card_map, ← Finset.sum_boole]
  refine Finset.sum_congr rfl fun x _ => ?_
  by_cases h1 : touch (S x) i <;> by_cases h2 : x.val ≤ r.val <;> simp [h1, h2]

theorem touch_bits (p : Fin 16 → ℝ) (i : ℕ) [Decidable (((i * 16 : ℕ) : ℝ) ≤ p 1 + p 6 ∧ p 1 - p 6 ≤ ((i * 16 : ℕ) : ℝ) + 15)] :
    BitVec.ofBool (decide (((i * 16 : ℕ) : ℝ) ≤ p 1 + p 6 ∧ p 1 - p 6 ≤ ((i * 16 : ℕ) : ℝ) + 15)) = BitVec.ofBool (decide (touch p i)) := by
  refine congrArg _ (Bool.eq_iff_iff.2 ?_)
  rw [decide_eq_true_iff, decide_eq_true_iff]
  rfl

end Cert.Splat

namespace Cert.KernelIdeal.Own

open Idealize.ShloMosaic Idealize.ShloMosaic.TcCoe Idealize.SL.Sem
open Cert.KernelIdeal Cert.KernelIdeal.Gen Cert.Splat

theorem comb_at {x0 : Vec Ideal S16x512 .f32} {x1 : Vec Ideal S512x16 .f32} {P : Fin 512 → Fin 16 → ℝ}
    (h0 : ∀ j, x0 (ix2 7 j) = (P j 7 : EReal)) (h1 : ∀ j c, x1 (ix2 j c) = (P j c : EReal)) (r : Fin 512) (c : Fin 16) :
    k1_pay3 x0 x1 (ix2 r c) = (P (order (fun j => P j 7) r) c : EReal) := by
  have hr : ∀ j : Fin 512, rank (fun j => P j 7) j < 2 ^ 31 := fun j => (rank_lt _ j).trans (by norm_num)
  unfold k1_pay3
  pointwise [k1_pay2, h0, h1]
  simp only [up_sub, sub_self, up_eq, up_lt, slt_fin (n := 512) (by norm_num), and_bits, or_bits, sel_if, up_zero, up_one, up_if, up_sum, up_add,
    fp_int, ite_self, Finset.sum_const_zero, add_zero]
  simp only [rank_sum (fun j => P j 7), toInt_nat (hr _), eq_nat ((hr _).trans (by norm_num)) (lt_trans (Fin.isLt _) (by norm_num : 512 < 2 ^ 32)), sel_if, up_if, up_sum, sum_rank, up_add, add_zero]

theorem pos_at {v : FVec Ideal S512x16 .f32} {S : Fin 512 → Fin 16 → ℝ} (h : ∀ r c, v (ix2 r c) = (S r c : EReal)) (r : Fin 512) (i : Fin 16) :
    k1_pay1 (iota .tc S512x512 32 [0] iota_S512x512_d0_w32) (iota .tc S512x512 32 [1] iota_S512x512_d1_w32) v (ix2 r i) = slot S i.val r := by
  have hm : IntOp.muli (BitVec.ofNat 32 i.val) 16#32 = BitVec.ofNat 32 (i.val * 16) := by
    unfold IntOp.muli; rw [← BitVec.ofNat_mul]
  have hi : i.val * 16 < 2 ^ 31 := by omega
  pointwise [k1_pay1, h, oBF800000, o41700000]
  simp only [hm, int_fp, toReal_nat hi, up_add, up_sub, up_le, sle_fin (n := 512) (by norm_num), and_bits, touch_bits, sel_if, up_zero, up_one, up_if, up_sum, fp_int]
  unfold slot
  by_cases hr : touch (S r) i.val
  · rw [if_pos hr, if_pos hr]
    have e := count_incl S i.val r
    rw [Nat.count_succ, if_pos ((touches_val S i.val r).2 hr)] at e
    rw [← toInt_nat (a := Nat.count (touches S i.val) r.val) (by have := Nat.count_le (touches S i.val) (n := r.val); omega)]
    refine congrArg (fun x : ℝ => Ideal.fptosi 32 (x : EReal)) (Eq.trans ?_ (add_sub_cancel_right _ (1 : ℝ)))
    exact congrArg (· - 1) (e.trans (by push_cast; rfl))
  · rw [if_neg hr, if_neg hr, toInt_neg_one]

end Cert.KernelIdeal.Own
-- ==== Proof.Value.BridgeSort.lean ====
/- The second call's arrays after it: the gaussians' rows in depth order, and each strip's slots. -/
module

public import proofs.«01_k».proof.Proof.Value.BridgePrepass
public import proofs.«01_k».proof.Proof.Value.SortBinValue

@[expose] public section

noncomputable section

set_option maxRecDepth 16384

namespace Cert.KernelIdeal.Own

open Idealize.ShloMosaic Idealize.ShloMosaic.TcCoe Idealize.SL.Sem
open Cert.KernelIdeal Cert.KernelIdeal.Gen Cert.Splat

/-- The gaussian at place `r` in depth order. -/
def atPlace (G : Fin 512 → Gauss) (r : Fin 512) : Gauss := G (order (fun j => (G j).prm 7) r)

section
variable {m : (ℓ : Loc nD τ sig) → Buf (Elt Ideal) ℓ} (ρ : Dev nD → PrngReg) {c : Dev nD} {G : Fin 512 → Gauss} (H : Args m c G)

theorem W3_transposed (m : (ℓ : Loc nD τ sig) → Buf (Elt Ideal) ℓ) (c : Dev nD) : (W3 m ρ c (Proc.devRef .tc main_v7) : FVec Ideal S512x16 .f32)
    = transpose S512x16 [1, 0] (W2 m ρ c (Proc.devRef .tc main_v6_0) : FVec Ideal S16x512 .f32) transposes_S16x512_S512x16_1_0 := by
  unfold_abbrev_sides
  after_results

/-- Every block of the second call is its whole array. -/
theorem idx1 : ∀ t : Fin cfg1.N, win1_0.index t = ![0, 0] ∧ win1_1.index t = ![0, 0] ∧ win1_2.index t = ![0, 0] ∧ win1_3.index t = ![0, 0] := by
  decide +kernel

theorem blk1_0 (m : (ℓ : Loc nD τ sig) → Buf (Elt Ideal) ℓ) (c : Dev nD) (t : Fin cfg1.N) : iblk1 (V3 m ρ) c 0 t = W3 m ρ c (Proc.devRef .tc main_v6_0) := by
  blk_ext! [iblk1, idx1 t]

theorem blk1_1 (m : (ℓ : Loc nD τ sig) → Buf (Elt Ideal) ℓ) (c : Dev nD) (t : Fin cfg1.N) : iblk1 (V3 m ρ) c 1 t = W3 m ρ c (Proc.devRef .tc main_v7) := by
  blk_ext! [iblk1, idx1 t]

include H

/-- The second call's two operands: the rows and their transpose. -/
theorem rows_in (t : Fin cfg1.N) (i : Fin 16) (j : Fin 512) : (iblk1 (V3 m ρ) c 0 t : Vec Ideal S16x512 .f32) (ix2 i j) = ((G j).prm i : EReal) := by
  have e : (iblk1 (V3 m ρ) c 0 t : Vec Ideal S16x512 .f32) = (W2 m ρ c (Proc.devRef .tc main_v6_0) : FVec Ideal S16x512 .f32) :=
    (blk1_0 ρ m c t).trans (W3_of m ρ c main_v6_0 (by decide))
  rw [e]
  exact W2_prm ρ H i j

theorem cols_in (t : Fin cfg1.N) (j : Fin 512) (i : Fin 16) : (iblk1 (V3 m ρ) c 1 t : Vec Ideal S512x16 .f32) (ix2 j i) = ((G j).prm i : EReal) := by
  have e : (iblk1 (V3 m ρ) c 1 t : Vec Ideal S512x16 .f32)
      = transpose S512x16 [1, 0] (W2 m ρ c (Proc.devRef .tc main_v6_0) : FVec Ideal S16x512 .f32) transposes_S16x512_S512x16_1_0 :=
    (blk1_1 ρ m c t).trans (W3_transposed ρ m c)
  rw [e, ← W2_prm ρ H i j]
  generalize (W2 m ρ c (Proc.devRef .tc main_v6_0) : FVec Ideal S16x512 .f32) = x
  pointwise

theorem sorted_at (t : Fin cfg1.N) (r : Fin 512) (i : Fin 16) :
    k1_pay3 (iblk1 (V3 m ρ) c 0 t) (iblk1 (V3 m ρ) c 1 t) (ix2 r i) = ((atPlace G r).prm i : EReal) :=
  comb_at (P := fun j => (G j).prm) (fun j => rows_in ρ H t 7 j) (fun j i => cols_in ρ H t j i) r i

theorem out1_2_at (t : Fin cfg1.N) (r : Fin 512) (i : Fin 16) :
    out1_2 (iblk1 (V3 m ρ) c 0 t) (iblk1 (V3 m ρ) c 1 t) (ix2 r i) = ((atPlace G r).prm i : EReal) := by
  rw [← sorted_at ρ H t r i]
  unfold out1_2
  frame_out

theorem out1_3_at (t : Fin cfg1.N) (r : Fin 512) (i : Fin 16) :
    out1_3 (iblk1 (V3 m ρ) c 0 t) (iblk1 (V3 m ρ) c 1 t) (ix2 r i) = slot (fun r => (atPlace G r).prm) i.val r := by
  rw [← pos_at (sorted_at ρ H t) r i]
  unfold out1_3
  frame_out

/-- The second call's rows at its end: the gaussians' parameters in depth order. -/
theorem W4_rows (r : Fin 512) (i : Fin 16) : (W4 m ρ c (Proc.devRef .tc main_v8_0) : FVec Ideal S512x16 .f32) (ix2 r i) = ((atPlace G r).prm i : EReal) := by
  have e : W4 m ρ c (Proc.devRef .tc main_v8_0) = fun y : S512x16.Idx => (((atPlace G (y 0)).prm (y 1) : ℝ) : EReal) := by
    refine (W4_arr m ρ c 2).trans ((dat1 (V3 m ρ) c).arrAt_eq_of_covers 2 _ (by decide +kernel) fun t hf y => ?_)
    blk_simp
    rw [after1_2]
    have ey : ((win1_2.blk t).view.emb y : S512x16.Idx) = ix2 (y 0 : Fin 512) (y 1 : Fin 16) := by blk_ext [idx1 t]
    have ex : (y : S512x16.Idx) = ix2 (y 0 : Fin 512) (y 1 : Fin 16) := by blk_ext
    refine Eq.trans ?_ (congrArg (fun y : S512x16.Idx => (((atPlace G (y 0)).prm (y 1) : ℝ) : EReal)) ey).symm
    refine (congrArg (out1_2 (iblk1 (V3 m ρ) c 0 t) (iblk1 (V3 m ρ) c 1 t)) ex).trans ?_
    exact out1_2_at ρ H t _ _
  exact congrFun e (ix2 r i)

/-- The second call's slots at its end. -/
theorem W4_slots (r : Fin 512) (i : Fin 16) : (W4 m ρ c (Proc.devRef .tc main_v8_1) : Vec Ideal S512x16 .i32) (ix2 r i)
    = slot (fun r => (atPlace G r).prm) i.val r := by
  have key := out1_3_at ρ H
  revert key
  generalize hs : (fun (r : Fin 512) (i : Fin 16) => slot (fun r => (atPlace G r).prm) i.val r) = f
  intro key
  have key : ∀ t r i, out1_3 (iblk1 (V3 m ρ) c 0 t) (iblk1 (V3 m ρ) c 1 t) (ix2 r i) = f r i := fun t r i => by rw [key, ← hs]
  have e : W4 m ρ c (Proc.devRef .tc main_v8_1) = fun y : S512x16.Idx => f (y 0) (y 1) := by
    clear hs
    refine (W4_arr m ρ c 3).trans ((dat1 (V3 m ρ) c).arrAt_eq_of_covers 3 _ (by decide +kernel) fun t hf y => ?_)
    blk_simp
    rw [after1_3]
    have ey : ((win1_3.blk t).view.emb y : S512x16.Idx) = ix2 (y 0 : Fin 512) (y 1 : Fin 16) := by blk_ext [idx1 t]
    have ex : (y : S512x16.Idx) = ix2 (y 0 : Fin 512) (y 1 : Fin 16) := by blk_ext
    refine Eq.trans ?_ (congrArg (fun y : S512x16.Idx => f (y 0) (y 1)) ey).symm
    refine (congrArg (out1_3 (iblk1 (V3 m ρ) c 0 t) (iblk1 (V3 m ρ) c 1 t)) ex).trans ?_
    exact key t _ _
  refine (congrFun e (ix2 r i)).trans ?_
  rw [← hs]
  rfl

end

end Cert.KernelIdeal.Own

end
-- ==== Proof.Value.Composite.lean ====
/- Blending rows of gaussians front to back at one pixel, and why rows that do not reach the pixel may be left out. -/
module

public import proofs.«01_k».proof.Proof.Value.Real

@[expose] public section

noncomputable section

namespace Cert.Splat

/-- The exponent of one gaussian (given by its sixteen rows) at the pixel `(X, Y)`. -/
def power (p : Fin 16 → ℝ) (X Y : ℝ) : ℝ :=
  k 0xBF000000#32 * (p 2 * (X - p 0) * (X - p 0) + p 4 * (Y - p 1) * (Y - p 1)) - p 3 * (X - p 0) * (Y - p 1)
def alpha (p : Fin 16 → ℝ) (X Y : ℝ) : ℝ := min (k 0x3F7D70A4#32) (p 5 * Real.exp (power p X Y))
/-- The gaussian counts at the pixel. -/
def keep (p : Fin 16 → ℝ) (X Y : ℝ) : Prop := power p X Y ≤ 0 ∧ k 0x3B808081#32 ≤ alpha p X Y
open Classical in
instance (p : Fin 16 → ℝ) (X Y : ℝ) : Decidable (keep p X Y) := Classical.propDecidable _
def masked (p : Fin 16 → ℝ) (X Y : ℝ) : ℝ := if keep p X Y then alpha p X Y else 0

theorem masked_nonneg (p X Y) : 0 ≤ masked p X Y := by
  unfold masked
  split
  · next h => exact le_trans (by rw [k3B808081]; norm_num) h.2
  · exact le_rfl
theorem masked_lt (p X Y) : masked p X Y < 1 := by
  unfold masked
  split
  · exact lt_of_le_of_lt (min_le_left _ _) (by rw [k3F7D70A4]; norm_num)
  · exact one_pos
theorem left_pos (p X Y) : 0 < 1 - masked p X Y := sub_pos.2 (masked_lt p X Y)

theorem keep_zero (X Y) : ¬ keep 0 X Y := by
  rintro ⟨-, h⟩
  unfold alpha at h
  have : (0 : Fin 16 → ℝ) 5 * Real.exp (power 0 X Y) = 0 := by simp
  rw [this] at h
  have h2 := h.trans (min_le_right _ _)
  rw [k3B808081] at h2
  norm_num at h2
theorem masked_zero (X Y) : masked 0 X Y = 0 := if_neg (keep_zero X Y)

section
variable (R : ℕ → Fin 16 → ℝ) (X Y : ℝ)

/-- What is left of the light after the first `n` rows. -/
def left (n : ℕ) : ℝ := ∏ s ∈ Finset.range n, (1 - masked (R s) X Y)
/-- The weight of row `s`. -/
def weight (s : ℕ) : ℝ := masked (R s) X Y * left R X Y s
/-- The blend of column `c` over the first `n` rows. -/
def blend (c : Fin 16) (n : ℕ) : ℝ := ∑ s ∈ Finset.range n, R s c * weight R X Y s
/-- How many of the first `n` rows count. -/
def seen (n : ℕ) : ℕ := ∑ s ∈ Finset.range n, if keep (R s) X Y then 1 else 0
/-- The greatest weight of the first `n` rows, or zero. -/
def wmax (n : ℕ) : EReal := max 0 ((Finset.range n).sup fun s => (weight R X Y s : EReal))

theorem left_pos' (n : ℕ) : 0 < left R X Y n := Finset.prod_pos fun _ _ => left_pos _ _ _
theorem weight_nonneg (s : ℕ) : 0 ≤ weight R X Y s := mul_nonneg (masked_nonneg _ _ _) (left_pos' R X Y s).le
theorem left_succ (n : ℕ) : left R X Y (n + 1) = left R X Y n * (1 - masked (R n) X Y) := Finset.prod_range_succ _ _
theorem blend_succ (c n) : blend R X Y c (n + 1) = blend R X Y c n + R n c * weight R X Y n := Finset.sum_range_succ _ _
theorem seen_succ (n : ℕ) : seen R X Y (n + 1) = seen R X Y n + if keep (R n) X Y then 1 else 0 := Finset.sum_range_succ _ _
theorem wmax_succ (n : ℕ) : wmax R X Y (n + 1) = max (wmax R X Y n) (weight R X Y n : EReal) := by
  unfold wmax
  rw [Finset.range_add_one, Finset.sup_insert, max_assoc]
  congr 1
  exact max_comm _ _
theorem wmax_nonneg (n : ℕ) : 0 ≤ wmax R X Y n := le_max_left _ _

/-- Everything the blend keeps after `n` rows. -/
def state (n : ℕ) : ℝ × (Fin 16 → ℝ) × ℕ × EReal := (left R X Y n, (fun c => blend R X Y c n), seen R X Y n, wmax R X Y n)

theorem state_skip {n : ℕ} (h : ¬ keep (R n) X Y) : state R X Y (n + 1) = state R X Y n := by
  have hm : masked (R n) X Y = 0 := if_neg h
  have hw : weight R X Y n = 0 := by unfold weight; rw [hm, zero_mul]
  unfold state
  rw [left_succ, seen_succ, wmax_succ, if_neg h, hm, hw]
  refine Prod.ext (by simp) (Prod.ext (funext fun c => ?_) (Prod.ext (by simp) ?_))
  · change blend R X Y c (n + 1) = _
    rw [blend_succ, hw]; simp
  · exact max_eq_left (wmax_nonneg R X Y n)

theorem state_const {n m : ℕ} (hnm : n ≤ m) (h : ∀ s, n ≤ s → s < m → ¬ keep (R s) X Y) : state R X Y m = state R X Y n := by
  induction m, hnm using Nat.le_induction with
  | base => rfl
  | succ m hm ih =>
    rw [state_skip R X Y (h m hm (Nat.lt_succ_self _))]
    exact ih fun s h1 h2 => h s h1 (by omega)

end

/-- The rows `Q` hold, in order, the rows of `R` that are in `U`: if the others do not count at the pixel, the blend
    is the same. -/
theorem compaction (R Q : ℕ → Fin 16 → ℝ) (U : ℕ → Prop) [DecidablePred U] (X Y : ℝ) (N : ℕ)
    (hQ : ∀ r < N, U r → Q (Nat.count U r) = R r) (hU : ∀ r < N, ¬ U r → ¬ keep (R r) X Y) :
    ∀ n ≤ N, state Q X Y (Nat.count U n) = state R X Y n := by
  intro n hn
  induction n with
  | zero => rfl
  | succ n ih =>
    have ih := ih (by omega)
    by_cases h : U n
    · rw [Nat.count_succ, if_pos h]
      have e := hQ n (by omega) h
      unfold state at ih ⊢
      simp only [Prod.mk.injEq] at ih ⊢
      obtain ⟨i1, i2, i3, i4⟩ := ih
      have hw : weight Q X Y (Nat.count U n) = weight R X Y n := by unfold weight; rw [i1, e]
      refine ⟨by rw [left_succ, left_succ, i1, e], funext fun c => ?_, by rw [seen_succ, seen_succ, i3, e], by rw [wmax_succ, wmax_succ, i4, hw]⟩
      rw [blend_succ, blend_succ, hw, e]
      exact congrArg (· + _) (congrFun i2 c)
    · rw [Nat.count_succ, if_neg h, add_zero, ih, state_skip R X Y (hU n (by omega) h)]

/-- The compacted rows: slot `s` holds the row of `U` that `s` rows of `U` come before, and zeros if there is none. -/
def compact (R : ℕ → Fin 16 → ℝ) (U : ℕ → Prop) [DecidablePred U] (N : ℕ) (s : ℕ) : Fin 16 → ℝ := fun c =>
  ∑ r ∈ Finset.range N, if U r ∧ Nat.count U r = s then R r c else 0

theorem compact_hit (R : ℕ → Fin 16 → ℝ) (U : ℕ → Prop) [DecidablePred U] (N : ℕ) (r : ℕ) (hr : r < N) (h : U r) :
    compact R U N (Nat.count U r) = R r := by
  funext c
  unfold compact
  rw [Finset.sum_eq_single r]
  · rw [if_pos ⟨h, rfl⟩]
  · intro b _ hb
    refine if_neg fun ⟨h1, h2⟩ => hb ?_
    exact Nat.count_injective h1 h h2
  · intro h'; exact absurd (Finset.mem_range.2 hr) h'

theorem compact_miss (R : ℕ → Fin 16 → ℝ) (U : ℕ → Prop) [DecidablePred U] (N : ℕ) (s : ℕ) (hs : Nat.count U N ≤ s) :
    compact R U N s = 0 := by
  funext c
  refine Finset.sum_eq_zero fun r hr => if_neg fun ⟨h1, h2⟩ => ?_
  have := Nat.count_strict_mono h1 (Finset.mem_range.1 hr)
  omega

/-- The blend of the compacted rows is the blend of all rows. -/
theorem state_compact (R : ℕ → Fin 16 → ℝ) (U : ℕ → Prop) [DecidablePred U] (X Y : ℝ) (N : ℕ)
    (hU : ∀ r < N, ¬ U r → ¬ keep (R r) X Y) : state (compact R U N) X Y N = state R X Y N := by
  rw [← compaction R (compact R U N) U X Y N (fun r hr h => compact_hit R U N r hr h) hU N le_rfl]
  refine state_const _ X Y (Nat.count_le U) fun s h _ => ?_
  rw [compact_miss R U N s h]
  exact keep_zero X Y

end Cert.Splat
-- ==== Proof.Value.Chunk.lean ====
/- The blend after 128 more rows, from the blend before: as the kernel's chunks compute it (products as exponentials of
   sums of logarithms). -/
module

public import proofs.«01_k».proof.Proof.Value.Composite

@[expose] public section

noncomputable section

namespace Cert.Splat

variable (R : ℕ → Fin 16 → ℝ) (X Y : ℝ)

theorem left_add (n m : ℕ) :
    left R X Y (n + m) = left R X Y n * Real.exp (∑ y ∈ Finset.range m, Real.log (1 - masked (R (n + y)) X Y)) := by
  unfold left
  rw [Finset.prod_range_add, Real.exp_sum]
  exact congrArg _ (Finset.prod_congr rfl fun _ _ => (Real.exp_log (left_pos _ _ _)).symm)

theorem prefix_sum (f : ℕ → ℝ) (x : Fin 128) : (∑ y : Fin 128, if y.val < x.val then f y.val else 0) = ∑ y ∈ Finset.range x.val, f y := by
  rw [Fin.sum_univ_eq_sum_range (fun y => if y < x.val then f y else 0), ← Finset.sum_filter]
  refine Finset.sum_congr ?_ fun _ _ => rfl
  ext y
  simp only [Finset.mem_filter, Finset.mem_range]
  have := x.isLt
  omega

theorem weight_add (n : ℕ) (x : Fin 128) : weight R X Y (n + x.val)
    = masked (R (n + x.val)) X Y * (left R X Y n * Real.exp (∑ y : Fin 128, if y.val < x.val then Real.log (1 - masked (R (n + y.val)) X Y) else 0)) := by
  unfold weight
  rw [left_add, prefix_sum (fun y => Real.log (1 - masked (R (n + y)) X Y))]

theorem left_chunk (n : ℕ) : left R X Y (n + 128)
    = left R X Y n * Real.exp ((∑ y : Fin 128, if y.val < (127 : Fin 128).val then Real.log (1 - masked (R (n + y.val)) X Y) else 0)
        + Real.log (1 - masked (R (n + (127 : Fin 128).val)) X Y)) := by
  rw [left_add, prefix_sum (fun y => Real.log (1 - masked (R (n + y)) X Y)), Finset.sum_range_succ]
  rfl

theorem blend_chunk (c : Fin 16) (n : ℕ) : blend R X Y c (n + 128) = blend R X Y c n + ∑ x : Fin 128, R (n + x.val) c * weight R X Y (n + x.val) := by
  unfold blend
  rw [Finset.sum_range_add, Finset.sum_range _ (n := 128)]

theorem seen_chunk (n : ℕ) : ((seen R X Y (n + 128) : ℕ) : ℝ) = ((seen R X Y n : ℕ) : ℝ) + ∑ x : Fin 128, if keep (R (n + x.val)) X Y then (1 : ℝ) else 0 := by
  unfold seen
  rw [Finset.sum_range_add, Finset.sum_range _ (n := 128)]
  push_cast
  rfl

theorem wmax_chunk (n : ℕ) : wmax R X Y (n + 128) = max (wmax R X Y n) (Finset.fold max ⊥ (fun x : Fin 128 => (weight R X Y (n + x.val) : EReal)) Finset.univ) := by
  unfold wmax
  rw [max_assoc]
  refine congrArg _ (le_antisymm (Finset.sup_le fun s hs => ?_) (max_le (Finset.sup_mono (Finset.range_subset_range.2 (by omega))) ?_))
  · by_cases h : s < n
    · exact le_max_of_le_left (Finset.le_sup (f := fun s => (weight R X Y s : EReal)) (Finset.mem_range.2 h))
    · refine le_max_of_le_right ((Finset.le_fold_max _).2 (.inr ⟨⟨s - n, by have := Finset.mem_range.1 hs; omega⟩, Finset.mem_univ _, ?_⟩))
      have : n + (s - n) = s := by omega
      rw [this]
  · refine (Finset.fold_max_le _).2 ⟨bot_le, fun x _ => ?_⟩
    exact Finset.le_sup (f := fun s => (weight R X Y s : EReal)) (Finset.mem_range.2 (by omega))

end Cert.Splat
-- ==== Proof.Value.RasterRows.lean ====
/- Region 2 (rasterising): a strip's pixels, its compacted rows, how many they are, the guards. -/
module

public import proofs.«01_k».proof.Proof.Ideal.RasterData
public import proofs.«01_k».proof.Proof.Value.SortBinValue
public import proofs.«01_k».proof.Proof.Value.Chunk

@[expose] public section

noncomputable section

set_option maxRecDepth 16384

namespace Cert.Splat

/-- A list of 512 rows, continued with zeros. -/
def rows (S : Fin 512 → Fin 16 → ℝ) (r : ℕ) : Fin 16 → ℝ := if h : r < 512 then S ⟨r, h⟩ else 0
theorem rows_val (S : Fin 512 → Fin 16 → ℝ) (r : Fin 512) : rows S r.val = S r := dif_pos r.isLt
/-- The rows that touch the strip, moved together. -/
def packed (S : Fin 512 → Fin 16 → ℝ) (i : ℕ) : ℕ → Fin 16 → ℝ := compact (rows S) (touches S i) 512

/-- The pixel `p` of the strip `i`. -/
def pixX (p : ℕ) : ℝ := ((p % 256 : ℕ) : ℝ)
def pixY (i p : ℕ) : ℝ := ((i * 16 + p / 256 : ℕ) : ℝ)

theorem exists_last (U : ℕ → Prop) [DecidablePred U] (N : ℕ) (h : 0 < Nat.count U N) : ∃ r < N, U r ∧ Nat.count U r + 1 = Nat.count U N := by
  induction N with
  | zero => simp at h
  | succ N ih =>
    rw [Nat.count_succ] at h ⊢
    by_cases hN : U N
    · exact ⟨N, Nat.lt_succ_self _, hN, by rw [if_pos hN]⟩
    · rw [if_neg hN, add_zero] at h ⊢
      obtain ⟨r, h1, h2, h3⟩ := ih h
      exact ⟨r, by omega, h2, h3⟩

theorem slot_eq (S : Fin 512 → Fin 16 → ℝ) (i : ℕ) (r : Fin 512) (s : ℕ) (hs : s < 512) :
    Idealize.ShloMosaic.IntOp.cmpi .eq (slot S i r) (BitVec.ofNat 32 s) = BitVec.ofBool (decide (touch (S r) i ∧ Nat.count (touches S i) r.val = s)) := by
  have hc : Nat.count (touches S i) r.val < 2 ^ 32 := by have := Nat.count_le (touches S i) (n := r.val); omega
  unfold slot
  by_cases h : touch (S r) i
  · rw [if_pos h, eq_nat hc (by omega)]
    simp only [h, true_and]
  · rw [if_neg h, Idealize.ShloMosaic.WordCmp.cmpi_eq_eq]
    refine congrArg _ (Bool.eq_iff_iff.2 ?_)
    rw [decide_eq_true_iff, decide_eq_true_iff]
    refine ⟨fun e => ?_, fun e => absurd e.1 h⟩
    have := congrArg BitVec.toNat e
    rw [BitVec.toNat_ofNat, Nat.mod_eq_of_lt (by omega)] at this
    have h2 : (BitVec.ofInt 32 (-1)).toNat = 4294967295 := by decide
    omega

theorem packed_sum (S : Fin 512 → Fin 16 → ℝ) (i s : ℕ) (c : Fin 16) :
    (∑ r : Fin 512, if touch (S r) i ∧ Nat.count (touches S i) r.val = s then S r c else 0) = packed S i s c := by
  unfold packed compact
  rw [Finset.sum_range]
  refine Finset.sum_congr rfl fun r _ => ?_
  rw [rows_val]
  exact if_congr (and_congr_left' (touches_val S i r).symm) rfl rfl

end Cert.Splat

namespace Cert.KernelIdeal.Own

open Idealize.ShloMosaic Idealize.ShloMosaic.TcCoe Idealize.SL.Sem
open Cert.KernelIdeal Cert.KernelIdeal.Gen Cert.Splat

theorem coord_lt (i : grid2.Coords) : (i 0).val < 16 := (i 0).isLt

theorem pix_word (i : grid2.Coords) (p : Fin 4096) :
    IntOp.addi (BitVec.ofNat 32 p.val) (Scalar.muli (BitVec.ofNat 32 (i 0).val) 4096#32) = BitVec.ofNat 32 (p.val + (i 0).val * 4096) := by
  show BitVec.ofNat 32 p.val + BitVec.ofNat 32 (i 0).val * BitVec.ofNat 32 4096 = _
  rw [← BitVec.ofNat_mul, ← BitVec.ofNat_add]

theorem gx_at (i : grid2.Coords) (p : Fin 4096) : k2_pay56 (F := Ideal) i (ix2 0 p) = (pixX p.val : EReal) := by
  have hi := coord_lt i
  have hp := p.isLt
  have e : (p.val + (i 0).val * 4096) % 256 = p.val % 256 := by omega
  pointwise [k2_pay56, k2_pay55]
  rw [pix_word, pix_and _ (by omega), int_fp, toReal_nat (by omega), e]
  rfl

theorem gy_at (i : grid2.Coords) (p : Fin 4096) : k2_pay57 (F := Ideal) i (ix2 0 p) = (pixY (i 0).val p.val : EReal) := by
  have hi := coord_lt i
  have hp := p.isLt
  have e : (p.val + (i 0).val * 4096) / 256 = (i 0).val * 16 + p.val / 256 := by omega
  pointwise [k2_pay57, k2_pay55]
  rw [pix_word, pix_shr _ (by omega), int_fp, toReal_nat (by omega), e]
  rfl

section
variable {x1 : Vec Ideal S512x16 .f32} {x2 : Vec Ideal S512x16 .i32} {S : Fin 512 → Fin 16 → ℝ}
  (h1 : ∀ r c, x1 (ix2 r c) = (S r c : EReal)) (h2 : ∀ r i, x2 (ix2 r i) = slot S i.val r)

include h2 in
theorem posc_at (i : grid2.Coords) (r : Fin 512) : k2_pay58 (F := Ideal) i x2 (ix2 r 0) = slot S (i 0).val r := by
  have e : ∀ x : Fin 16, Scalar.select (IntOp.cmpi .eq (BitVec.ofNat 32 x.val) (BitVec.ofNat 32 (i 0).val)) (x2 (ix2 r x)) 0#32
      = if x = (⟨(i 0).val, coord_lt i⟩ : Fin 16) then x2 (ix2 r x) else 0#32 := by
    intro x
    rw [eq_nat (by omega) (by have := coord_lt i; omega), sel_if]
    exact if_congr (by rw [Fin.ext_iff]) rfl rfl
  pointwise [k2_pay58]
  simp only [e]
  rw [fold_addi_single, if_pos (Finset.mem_univ _), h2]

include h1 h2 in
theorem rows_at (i : grid2.Coords) (s : Fin 512) (c : Fin 16) : k2_pay59 (F := Ideal) i x2 x1 (ix2 s c) = (packed S (i 0).val s.val c : EReal) := by
  pointwise [k2_pay59, h1, posc_at h2]
  simp only [slot_eq S (i 0).val _ s.val s.isLt, up_sub, sub_self, sel_if, up_zero, up_if, up_sum, up_add, ite_self, Finset.sum_const_zero, add_zero, packed_sum]

include h2 in
theorem count_at (i : grid2.Coords) : count (F := Ideal) i x2 = BitVec.ofNat 32 (Nat.count (touches S (i 0).val) 512) := by
  have hC := Nat.count_le (touches S (i 0).val) (n := 512)
  have hs : ∀ r : Fin 512, (slot S (i 0).val r).toInt = if touch (S r) (i 0).val then ((Nat.count (touches S (i 0).val) r.val : ℕ) : ℤ) else -1 := by
    intro r
    have := Nat.count_le (touches S (i 0).val) (n := r.val)
    unfold slot
    split
    · exact WordCmp.toInt_ofNat_of_lt (by omega)
    · decide
  pointwise [count, k2_pay66, posc_at h2]
  refine BitVec.eq_of_toInt_eq ?_
  rw [WordCmp.toInt_ofNat_of_lt (by omega)]
  show BitVec.toInt (_ + 1#32) = _
  rw [BitVec.toInt_add, fold_maxsi_eq (m := (Nat.count (touches S (i 0).val) 512 : ℤ) - 1)]
  · have : (1#32).toInt = 1 := by decide
    rw [this]
    rw [sub_add_cancel]
    exact Int.bmod_eq_of_le_mul_two (by omega) (by omega)
  · have : (2147483648#32).toInt = -2147483648 := by decide
    omega
  · intro x _
    rw [hs]
    split
    · next h =>
      have := Nat.count_strict_mono ((touches_val S (i 0).val x.1).2 h) x.1.isLt
      omega
    · omega
  · by_cases h0 : Nat.count (touches S (i 0).val) 512 = 0
    · refine ⟨(0, 0), Finset.mem_univ _, ?_⟩
      rw [hs, if_neg, h0]; · rfl
      intro h
      have := Nat.count_strict_mono ((touches_val S (i 0).val 0).2 h) (n := 512) (by norm_num)
      omega
    · obtain ⟨r, hr, hU, e⟩ := exists_last (touches S (i 0).val) 512 (by omega)
      refine ⟨(⟨r, hr⟩, 0), Finset.mem_univ _, ?_⟩
      rw [hs, if_pos ((touches_val S (i 0).val ⟨r, hr⟩).1 hU)]
      dsimp only
      omega

end

theorem guard_at (n w : ℕ) (hn : n < 2 ^ 31) (hw : w < 2 ^ 31) : guard (BitVec.ofNat 32 n) (BitVec.ofNat 32 w) = 1#1 ↔ w < n := by
  unfold guard
  have e : Scalar.cmpi .sgt (BitVec.ofNat 32 n) (BitVec.ofNat 32 w) = BitVec.ofBool (decide (w < n)) := by
    show BitVec.ofBool (decide ((BitVec.ofNat 32 w).toInt < (BitVec.ofNat 32 n).toInt)) = _
    rw [WordCmp.toInt_ofNat_of_lt (w := 32) (a := n) hn, WordCmp.toInt_ofNat_of_lt (w := 32) (a := w) hw]
    simp
  rw [e]
  by_cases h : w < n <;> simp [h] <;> decide

theorem lower_at (r s : Fin 128) : lower (F := Ideal) (ix2 r s) = ((if s.val < r.val then (1 : ℝ) else 0 : ℝ) : EReal) := by
  pointwise [lower, k2_pay61, k2_pay60]
  simp only [slt_fin (n := 128) (by norm_num), sel_if, up_zero, up_one, up_if]

end Cert.KernelIdeal.Own
-- ==== Proof.Value.RasterChunks.lean ====
/- Region 2 (rasterising): what one chunk of 128 rows does to the scratch contents, at one pixel. -/
module

public import proofs.«01_k».proof.Proof.Value.RasterRows

@[expose] public section

noncomputable section

set_option maxRecDepth 16384

namespace Cert.Splat

theorem keep_bits (q : Fin 16 → ℝ) (X Y : ℝ) [Decidable (power q X Y ≤ 0 ∧ k 0x3B808081#32 ≤ alpha q X Y)] :
    BitVec.ofBool (decide (power q X Y ≤ 0 ∧ k 0x3B808081#32 ≤ alpha q X Y)) = BitVec.ofBool (decide (keep q X Y)) := by
  refine congrArg _ (Bool.eq_iff_iff.2 ?_)
  rw [decide_eq_true_iff, decide_eq_true_iff]
  rfl

theorem oFF800000 : Idealize.ShloMosaic.Ideal.ofBits .f32 0xFF800000#32 = ⊥ := by
  simp [Idealize.ShloMosaic.Ideal.ofBits, Idealize.ShloMosaic.Ideal.ieee]

end Cert.Splat

namespace Cert.KernelIdeal.Own

open Idealize.ShloMosaic Idealize.ShloMosaic.TcCoe Idealize.SL.Sem
open Cert.KernelIdeal Cert.KernelIdeal.Gen Cert.Splat

/-- The scratch contents hold, at pixel `p` with coordinates `X`, `Y`, the blend of the first `n` rows of `Q`. -/
structure Blended (a : Acc Ideal) (Q : ℕ → Fin 16 → ℝ) (X Y : ℝ) (p : Fin 4096) (n : ℕ) : Prop where
  sums : ∀ c : Fin 8, a.sums (ix2 c p) = (blend Q X Y ⟨8 + c.val, by omega⟩ n : EReal)
  trans : a.trans (ix2 0 p) = (left Q X Y n : EReal)
  wmax : a.wmax (ix2 0 p) = wmax Q X Y n
  seen : a.seen (ix2 0 p) = (((seen Q X Y n : ℕ) : ℝ) : EReal)

theorem blended_zero (Q : ℕ → Fin 16 → ℝ) (X Y : ℝ) (p : Fin 4096) : Blended (acc0 (F := Ideal)) Q X Y p 0 where
  sums c := by
    unfold acc0
    pointwise [k2_pay62]
    rfl
  trans := by
    unfold acc0
    pointwise [k2_pay63]
    unfold left
    simp
  wmax := by
    unfold acc0
    pointwise [k2_pay64]
    unfold Cert.Splat.wmax
    simp
  seen := by
    unfold acc0
    pointwise [k2_pay65]
    unfold Cert.Splat.seen
    simp

section
variable {v6 v9 : FVec Ideal S1x4096 .f32} {v40 : FVec Ideal S512x16 .f32} {Q : ℕ → Fin 16 → ℝ} {X Y : ℝ} {p : Fin 4096}
  (h6 : v6 (ix2 0 p) = (X : EReal)) (h9 : v9 (ix2 0 p) = (Y : EReal)) (h40 : ∀ (s : Fin 512) c, v40 (ix2 s c) = (Q s.val c : EReal))
include h6 h9 h40

/-! Chunk 0. -/

theorem power0 (x : Fin 128) : k2_pay3 v6 v9 v40 (ix2 x p) = (power (Q (0 + x.val)) X Y : EReal) := by
  pointwise [k2_pay3, h6, h9, h40, oBF000000]
  try simp only [Nat.zero_add]
  simp only [up_sub, up_mul, up_add]
  rfl
theorem alpha0 (x : Fin 128) : k2_pay4 v6 v9 v40 (ix2 x p) = (alpha (Q (0 + x.val)) X Y : EReal) := by
  pointwise [k2_pay4, h40, power0 h6 h9 h40, o3F7D70A4]
  try simp only [Nat.zero_add]
  simp only [up_exp, up_mul, up_min]
  rfl
theorem keep0 (x : Fin 128) : k2_pay5 v6 v9 v40 (ix2 x p) = BitVec.ofBool (decide (keep (Q (0 + x.val)) X Y)) := by
  pointwise [k2_pay5, power0 h6 h9 h40, alpha0 h6 h9 h40, o3B808081]
  simp only [up_zero, up_le, and_bits, keep_bits]
theorem masked0 (x : Fin 128) : k2_pay6 v6 v9 v40 (ix2 x p) = (masked (Q (0 + x.val)) X Y : EReal) := by
  pointwise [k2_pay6, keep0 h6 h9 h40, alpha0 h6 h9 h40]
  simp only [sel_if, up_zero, up_if]
  rfl
theorem log0 (x : Fin 128) : k2_pay7 v6 v9 v40 (ix2 x p) = (Real.log (1 - masked (Q (0 + x.val)) X Y) : EReal) := by
  pointwise [k2_pay7, masked0 h6 h9 h40]
  simp only [up_one, up_sub, up_log (left_pos _ _ _)]
theorem pre0 (x : Fin 128) : k2_pay8 v6 v9 v40 lower (ix2 x p)
    = ((∑ y : Fin 128, if y.val < x.val then Real.log (1 - masked (Q (0 + y.val)) X Y) else 0 : ℝ) : EReal) := by
  pointwise [k2_pay8, log0 h6 h9 h40, lower_at]
  simp only [up_sub, sub_self, up_mul, mul_zero, up_sum, up_add, Finset.sum_const_zero, add_zero, ite_mul, one_mul, zero_mul]
theorem exp0 (x : Fin 128) : k2_pay9 v6 v9 v40 lower (ix2 x p)
    = ((Real.exp (∑ y : Fin 128, if y.val < x.val then Real.log (1 - masked (Q (0 + y.val)) X Y) else 0) : ℝ) : EReal) := by
  pointwise [k2_pay9, pre0 h6 h9 h40]
  exact up_exp _

theorem blended0 {a : Acc Ideal} (H : Blended a Q X Y p 0) : Blended (chunk0 v6 v9 v40 lower a) Q X Y p (0 + 128) where
  sums c := by
    unfold chunk0
    dsimp only
    pointwise [k2_pay12, k2_pay11, k2_pay10]
    simp only [masked0 h6 h9 h40, exp0 h6 h9 h40, H.sums, H.trans, h40, up_mul, ← weight_add, up_sum, up_add]
    exact congrArg Real.toEReal (blend_chunk Q X Y _ 0).symm
  trans := by
    unfold chunk0
    dsimp only
    pointwise [k2_pay15]
    rw [pre0 h6 h9 h40, log0 h6 h9 h40, H.trans, up_add, up_exp, up_mul]
    exact congrArg Real.toEReal (left_chunk Q X Y 0).symm
  wmax := by
    unfold chunk0
    dsimp only
    pointwise [k2_pay14, k2_pay11, k2_pay10, oFF800000]
    simp only [masked0 h6 h9 h40, exp0 h6 h9 h40, H.wmax, H.trans, up_mul, ← weight_add]
    exact (wmax_chunk Q X Y 0).symm
  seen := by
    unfold chunk0
    dsimp only
    pointwise [k2_pay13]
    simp only [keep0 h6 h9 h40, H.seen, sel_if, up_zero, up_one, up_if, up_sum, up_add]
    exact congrArg Real.toEReal (seen_chunk Q X Y 0).symm

/-! Chunk 1. -/

theorem power1 (x : Fin 128) : k2_pay16 v6 v9 v40 (ix2 x p) = (power (Q (128 + x.val)) X Y : EReal) := by
  pointwise [k2_pay16, h6, h9, h40, oBF000000]
  simp only [up_sub, up_mul, up_add]
  rfl
theorem alpha1 (x : Fin 128) : k2_pay17 v6 v9 v40 (ix2 x p) = (alpha (Q (128 + x.val)) X Y : EReal) := by
  pointwise [k2_pay17, h40, power1 h6 h9 h40, o3F7D70A4]
  simp only [up_exp, up_mul, up_min]
  rfl
theorem keep1 (x : Fin 128) : k2_pay18 v6 v9 v40 (ix2 x p) = BitVec.ofBool (decide (keep (Q (128 + x.val)) X Y)) := by
  pointwise [k2_pay18, power1 h6 h9 h40, alpha1 h6 h9 h40, o3B808081]
  simp only [up_zero, up_le, and_bits, keep_bits]
theorem masked1 (x : Fin 128) : k2_pay19 v6 v9 v40 (ix2 x p) = (masked (Q (128 + x.val)) X Y : EReal) := by
  pointwise [k2_pay19, keep1 h6 h9 h40, alpha1 h6 h9 h40]
  simp only [sel_if, up_zero, up_if]
  rfl
theorem log1 (x : Fin 128) : k2_pay20 v6 v9 v40 (ix2 x p) = (Real.log (1 - masked (Q (128 + x.val)) X Y) : EReal) := by
  pointwise [k2_pay20, masked1 h6 h9 h40]
  simp only [up_one, up_sub, up_log (left_pos _ _ _)]
theorem pre1 (x : Fin 128) : k2_pay21 v6 v9 v40 lower (ix2 x p)
    = ((∑ y : Fin 128, if y.val < x.val then Real.log (1 - masked (Q (128 + y.val)) X Y) else 0 : ℝ) : EReal) := by
  pointwise [k2_pay21, log1 h6 h9 h40, lower_at]
  simp only [up_sub, sub_self, up_mul, mul_zero, up_sum, up_add, Finset.sum_const_zero, add_zero, ite_mul, one_mul, zero_mul]
theorem exp1 (x : Fin 128) : k2_pay22 v6 v9 v40 lower (ix2 x p)
    = ((Real.exp (∑ y : Fin 128, if y.val < x.val then Real.log (1 - masked (Q (128 + y.val)) X Y) else 0) : ℝ) : EReal) := by
  pointwise [k2_pay22, pre1 h6 h9 h40]
  exact up_exp _

theorem blended1 {a : Acc Ideal} (H : Blended a Q X Y p 128) : Blended (chunk1 v6 v9 v40 lower a) Q X Y p (128 + 128) where
  sums c := by
    unfold chunk1
    dsimp only
    pointwise [k2_pay25, k2_pay24, k2_pay23]
    simp only [masked1 h6 h9 h40, exp1 h6 h9 h40, H.sums, H.trans, h40, up_mul, ← weight_add, up_sum, up_add]
    exact congrArg Real.toEReal (blend_chunk Q X Y _ 128).symm
  trans := by
    unfold chunk1
    dsimp only
    pointwise [k2_pay28]
    rw [pre1 h6 h9 h40, log1 h6 h9 h40, H.trans, up_add, up_exp, up_mul]
    exact congrArg Real.toEReal (left_chunk Q X Y 128).symm
  wmax := by
    unfold chunk1
    dsimp only
    pointwise [k2_pay27, k2_pay24, k2_pay23, oFF800000]
    simp only [masked1 h6 h9 h40, exp1 h6 h9 h40, H.wmax, H.trans, up_mul, ← weight_add]
    exact (wmax_chunk Q X Y 128).symm
  seen := by
    unfold chunk1
    dsimp only
    pointwise [k2_pay26]
    simp only [keep1 h6 h9 h40, H.seen, sel_if, up_zero, up_one, up_if, up_sum, up_add]
    exact congrArg Real.toEReal (seen_chunk Q X Y 128).symm

/-! Chunk 2. -/

theorem power2 (x : Fin 128) : k2_pay29 v6 v9 v40 (ix2 x p) = (power (Q (256 + x.val)) X Y : EReal) := by
  pointwise [k2_pay29, h6, h9, h40, oBF000000]
  simp only [up_sub, up_mul, up_add]
  rfl
theorem alpha2 (x : Fin 128) : k2_pay30 v6 v9 v40 (ix2 x p) = (alpha (Q (256 + x.val)) X Y : EReal) := by
  pointwise [k2_pay30, h40, power2 h6 h9 h40, o3F7D70A4]
  simp only [up_exp, up_mul, up_min]
  rfl
theorem keep2 (x : Fin 128) : k2_pay31 v6 v9 v40 (ix2 x p) = BitVec.ofBool (decide (keep (Q (256 + x.val)) X Y)) := by
  pointwise [k2_pay31, power2 h6 h9 h40, alpha2 h6 h9 h40, o3B808081]
  simp only [up_zero, up_le, and_bits, keep_bits]
theorem masked2 (x : Fin 128) : k2_pay32 v6 v9 v40 (ix2 x p) = (masked (Q (256 + x.val)) X Y : EReal) := by
  pointwise [k2_pay32, keep2 h6 h9 h40, alpha2 h6 h9 h40]
  simp only [sel_if, up_zero, up_if]
  rfl
theorem log2 (x : Fin 128) : k2_pay33 v6 v9 v40 (ix2 x p) = (Real.log (1 - masked (Q (256 + x.val)) X Y) : EReal) := by
  pointwise [k2_pay33, masked2 h6 h9 h40]
  simp only [up_one, up_sub, up_log (left_pos _ _ _)]
theorem pre2 (x : Fin 128) : k2_pay34 v6 v9 v40 lower (ix2 x p)
    = ((∑ y : Fin 128, if y.val < x.val then Real.log (1 - masked (Q (256 + y.val)) X Y) else 0 : ℝ) : EReal) := by
  pointwise [k2_pay34, log2 h6 h9 h40, lower_at]
  simp only [up_sub, sub_self, up_mul, mul_zero, up_sum, up_add, Finset.sum_const_zero, add_zero, ite_mul, one_mul, zero_mul]
theorem exp2 (x : Fin 128) : k2_pay35 v6 v9 v40 lower (ix2 x p)
    = ((Real.exp (∑ y : Fin 128, if y.val < x.val then Real.log (1 - masked (Q (256 + y.val)) X Y) else 0) : ℝ) : EReal) := by
  pointwise [k2_pay35, pre2 h6 h9 h40]
  exact up_exp _

theorem blended2 {a : Acc Ideal} (H : Blended a Q X Y p 256) : Blended (chunk2 v6 v9 v40 lower a) Q X Y p (256 + 128) where
  sums c := by
    unfold chunk2
    dsimp only
    pointwise [k2_pay38, k2_pay37, k2_pay36]
    simp only [masked2 h6 h9 h40, exp2 h6 h9 h40, H.sums, H.trans, h40, up_mul, ← weight_add, up_sum, up_add]
    exact congrArg Real.toEReal (blend_chunk Q X Y _ 256).symm
  trans := by
    unfold chunk2
    dsimp only
    pointwise [k2_pay41]
    rw [pre2 h6 h9 h40, log2 h6 h9 h40, H.trans, up_add, up_exp, up_mul]
    exact congrArg Real.toEReal (left_chunk Q X Y 256).symm
  wmax := by
    unfold chunk2
    dsimp only
    pointwise [k2_pay40, k2_pay37, k2_pay36, oFF800000]
    simp only [masked2 h6 h9 h40, exp2 h6 h9 h40, H.wmax, H.trans, up_mul, ← weight_add]
    exact (wmax_chunk Q X Y 256).symm
  seen := by
    unfold chunk2
    dsimp only
    pointwise [k2_pay39]
    simp only [keep2 h6 h9 h40, H.seen, sel_if, up_zero, up_one, up_if, up_sum, up_add]
    exact congrArg Real.toEReal (seen_chunk Q X Y 256).symm

/-! Chunk 3. -/

theorem power3 (x : Fin 128) : k2_pay42 v6 v9 v40 (ix2 x p) = (power (Q (384 + x.val)) X Y : EReal) := by
  pointwise [k2_pay42, h6, h9, h40, oBF000000]
  simp only [up_sub, up_mul, up_add]
  rfl
theorem alpha3 (x : Fin 128) : k2_pay43 v6 v9 v40 (ix2 x p) = (alpha (Q (384 + x.val)) X Y : EReal) := by
  pointwise [k2_pay43, h40, power3 h6 h9 h40, o3F7D70A4]
  simp only [up_exp, up_mul, up_min]
  rfl
theorem keep3 (x : Fin 128) : k2_pay44 v6 v9 v40 (ix2 x p) = BitVec.ofBool (decide (keep (Q (384 + x.val)) X Y)) := by
  pointwise [k2_pay44, power3 h6 h9 h40, alpha3 h6 h9 h40, o3B808081]
  simp only [up_zero, up_le, and_bits, keep_bits]
theorem masked3 (x : Fin 128) : k2_pay45 v6 v9 v40 (ix2 x p) = (masked (Q (384 + x.val)) X Y : EReal) := by
  pointwise [k2_pay45, keep3 h6 h9 h40, alpha3 h6 h9 h40]
  simp only [sel_if, up_zero, up_if]
  rfl
theorem log3 (x : Fin 128) : k2_pay46 v6 v9 v40 (ix2 x p) = (Real.log (1 - masked (Q (384 + x.val)) X Y) : EReal) := by
  pointwise [k2_pay46, masked3 h6 h9 h40]
  simp only [up_one, up_sub, up_log (left_pos _ _ _)]
theorem pre3 (x : Fin 128) : k2_pay47 v6 v9 v40 lower (ix2 x p)
    = ((∑ y : Fin 128, if y.val < x.val then Real.log (1 - masked (Q (384 + y.val)) X Y) else 0 : ℝ) : EReal) := by
  pointwise [k2_pay47, log3 h6 h9 h40, lower_at]
  simp only [up_sub, sub_self, up_mul, mul_zero, up_sum, up_add, Finset.sum_const_zero, add_zero, ite_mul, one_mul, zero_mul]
theorem exp3 (x : Fin 128) : k2_pay48 v6 v9 v40 lower (ix2 x p)
    = ((Real.exp (∑ y : Fin 128, if y.val < x.val then Real.log (1 - masked (Q (384 + y.val)) X Y) else 0) : ℝ) : EReal) := by
  pointwise [k2_pay48, pre3 h6 h9 h40]
  exact up_exp _

theorem blended3 {a : Acc Ideal} (H : Blended a Q X Y p 384) : Blended (chunk3 v6 v9 v40 lower a) Q X Y p (384 + 128) where
  sums c := by
    unfold chunk3
    dsimp only
    pointwise [k2_pay51, k2_pay50, k2_pay49]
    simp only [masked3 h6 h9 h40, exp3 h6 h9 h40, H.sums, H.trans, h40, up_mul, ← weight_add, up_sum, up_add]
    exact congrArg Real.toEReal (blend_chunk Q X Y _ 384).symm
  trans := by
    unfold chunk3
    dsimp only
    pointwise [k2_pay54]
    rw [pre3 h6 h9 h40, log3 h6 h9 h40, H.trans, up_add, up_exp, up_mul]
    exact congrArg Real.toEReal (left_chunk Q X Y 384).symm
  wmax := by
    unfold chunk3
    dsimp only
    pointwise [k2_pay53, k2_pay50, k2_pay49, oFF800000]
    simp only [masked3 h6 h9 h40, exp3 h6 h9 h40, H.wmax, H.trans, up_mul, ← weight_add]
    exact (wmax_chunk Q X Y 384).symm
  seen := by
    unfold chunk3
    dsimp only
    pointwise [k2_pay52]
    simp only [keep3 h6 h9 h40, H.seen, sel_if, up_zero, up_one, up_if, up_sum, up_add]
    exact congrArg Real.toEReal (seen_chunk Q X Y 384).symm

end

end Cert.KernelIdeal.Own
-- ==== Proof.Value.Cull.lean ====
/- A gaussian that counts at a pixel touches the strip of image rows the pixel lies in. -/
module

public import proofs.«01_k».proof.Proof.Value.Model
public import proofs.«01_k».proof.Proof.Value.Composite
public import proofs.«01_k».proof.Proof.Value.SortBinValue

@[expose] public section

noncomputable section

namespace Cert.Splat

namespace Gauss
variable (g : Gauss) (X Y : ℝ)

/-- The quadratic form of the inverse covariance, minus twice the exponent. -/
def form : ℝ := g.ca * (X - g.mx) ^ 2 + g.cc * (Y - g.my) ^ 2 + 2 * g.cb * (X - g.mx) * (Y - g.my)

theorem power_form : power g.prm X Y = -(1 / 2) * g.form X Y := by
  have e : power g.prm X Y = k 0xBF000000#32 * (g.ca * (X - g.mx) * (X - g.mx) + g.cc * (Y - g.my) * (Y - g.my)) - g.cb * (X - g.mx) * (Y - g.my) := rfl
  rw [e, kBF000000]; unfold form; ring

theorem form_c : (Y - g.my) ^ 2 ≤ g.form X Y * g.c := by
  have hd := g.det_pos
  have e : g.form X Y * g.c = (g.c * (X - g.mx) - g.b * (Y - g.my)) ^ 2 / g.det + (Y - g.my) ^ 2 := by
    unfold form ca cb cc; rw [inv_eq]
    field_simp
    unfold det; ring
  rw [e]
  have := div_nonneg (sq_nonneg (g.c * (X - g.mx) - g.b * (Y - g.my))) hd.le
  linarith

theorem form_a : (X - g.mx) ^ 2 ≤ g.form X Y * g.a := by
  have hd := g.det_pos
  have e : g.form X Y * g.a = (g.a * (Y - g.my) - g.b * (X - g.mx)) ^ 2 / g.det + (X - g.mx) ^ 2 := by
    unfold form ca cb cc; rw [inv_eq]
    field_simp
    unfold det; ring
  rw [e]
  have := div_nonneg (sq_nonneg (g.a * (Y - g.my) - g.b * (X - g.mx))) hd.le
  linarith

/-- Where the gaussian counts, its quadratic form is at most the bound the reach is computed from, and that is
    positive. -/
theorem form_le (h : keep g.prm X Y) : g.form X Y ≤ g.qmax ∧ 0 < g.qmax := by
  obtain ⟨hp, ha⟩ := h
  have ha := ha.trans (min_le_right _ _)
  change k 0x3B808081#32 ≤ g.oe * Real.exp (power g.prm X Y) at ha
  rw [power_form] at hp ha
  have hk : k 0x3B808078#32 < k 0x3B808081#32 := by rw [k3B808078, k3B808081]; norm_num
  have h0 : 0 < k 0x3B808078#32 := by rw [k3B808078]; norm_num
  have ho : 0 < g.oe := by
    by_contra hn
    have := mul_nonpos_of_nonpos_of_nonneg (not_lt.1 hn) (Real.exp_pos (-(1 / 2) * g.form X Y)).le
    linarith
  have he : Real.exp (-(1 / 2) * g.form X Y) ≤ 1 := Real.exp_le_one_iff.2 hp
  have hge : k 0x3B808081#32 ≤ g.oe := le_trans ha (by nlinarith)
  have hmax : g.oe ≤ max g.oe (k 0x0DA24260#32) := le_max_left _ _
  have hr : 1 < max g.oe (k 0x0DA24260#32) / k 0x3B808078#32 := by rw [lt_div_iff₀ h0]; linarith
  have h2 : k 0x40000000#32 = 2 := by rw [k40000000]
  have hq : g.qmax = 2 * Real.log (max g.oe (k 0x0DA24260#32) / k 0x3B808078#32) := by unfold qmax; rw [h2]
  refine ⟨?_, by rw [hq]; have := Real.log_pos hr; linarith⟩
  have hl : 1 / 2 * g.form X Y ≤ Real.log (max g.oe (k 0x0DA24260#32) / k 0x3B808078#32) := by
    rw [Real.le_log_iff_exp_le (by linarith), le_div_iff₀ h0]
    have e1 : Real.exp (1 / 2 * g.form X Y) * Real.exp (-(1 / 2) * g.form X Y) = 1 := by rw [← Real.exp_add]; ring_nf; exact Real.exp_zero
    have hpos := Real.exp_pos (1 / 2 * g.form X Y)
    nlinarith [mul_le_mul_of_nonneg_left ha hpos.le]
  rw [hq]; linarith

/-- The distance the kernel allows is at least the square root of the bound. -/
theorem reach_ge (q a : ℝ) : Real.sqrt (max q 0 * a) ≤ Real.sqrt (max q 0 * a) * k 0x3F800054#32 + k 0x3C23D70A#32 := by
  have h1 : 1 ≤ k 0x3F800054#32 := by rw [k3F800054]; norm_num
  have h2 : 0 ≤ k 0x3C23D70A#32 := by rw [k3C23D70A]; norm_num
  nlinarith [Real.sqrt_nonneg (max q 0 * a)]

theorem touch_of_keep (i : ℕ) (hX : 0 ≤ X) (hX' : X ≤ 255) (hY : ((i * 16 : ℕ) : ℝ) ≤ Y) (hY' : Y ≤ ((i * 16 : ℕ) : ℝ) + 15)
    (h : keep g.prm X Y) : touch g.prm i := by
  obtain ⟨hq, hq0⟩ := g.form_le X Y h
  have hm : max g.qmax 0 = g.qmax := max_eq_left hq0.le
  have dx : |X - g.mx| ≤ g.rx := by
    refine le_trans ?_ (reach_ge g.qmax g.a)
    refine Real.abs_le_sqrt ((g.form_a X Y).trans ?_)
    rw [hm]
    exact mul_le_mul_of_nonneg_right hq g.a_pos.le
  have dy : |Y - g.my| ≤ g.ry := by
    unfold ry
    rw [if_pos hq0]
    refine le_trans ?_ (reach_ge g.qmax g.c)
    refine Real.abs_le_sqrt ((g.form_c X Y).trans ?_)
    rw [hm]
    exact mul_le_mul_of_nonneg_right hq g.c_pos.le
  rw [abs_le] at dx dy
  have hr : g.reach = g.ry := by
    unfold reach
    refine if_pos ⟨?_, ?_⟩
    · rw [kBC23D70A]; norm_num; linarith
    · rw [k437F028F]; norm_num; linarith
  change _ ≤ g.my + g.reach ∧ g.my - g.reach ≤ _
  rw [hr]
  constructor <;> linarith

end Gauss

end Cert.Splat
-- ==== Proof.Value.RasterValue.lean ====
/- Region 2 (rasterising): the two outputs of a strip at one pixel are the blend of all 512 sorted rows. -/
module

public import proofs.«01_k».proof.Proof.Value.RasterChunks
public import proofs.«01_k».proof.Proof.Value.Cull

@[expose] public section

noncomputable section

set_option maxRecDepth 16384

namespace Cert.KernelIdeal.Own

open Idealize.ShloMosaic Idealize.ShloMosaic.TcCoe Idealize.SL.Sem
open Cert.KernelIdeal Cert.KernelIdeal.Gen Cert.Splat

theorem Blended.of_state {a : Acc Ideal} {Q R : ℕ → Fin 16 → ℝ} {X Y : ℝ} {p : Fin 4096} {n m : ℕ} (H : Blended a Q X Y p n)
    (h : state R X Y m = state Q X Y n) : Blended a R X Y p m := by
  unfold state at h
  simp only [Prod.mk.injEq] at h
  obtain ⟨e1, e2, e3, e4⟩ := h
  exact ⟨fun c => (H.sums c).trans (congrArg _ (congrFun e2 _).symm), H.trans.trans (congrArg _ e1.symm), H.wmax.trans e4.symm,
    H.seen.trans (by rw [e3])⟩

section
variable (a : FVec Ideal S1x4096 .f32) (b : FVec Ideal S8x4096 .f32) (x y z : Ideal .f32) (w : FVec Ideal S1x4096 .f32) (p : Fin 4096)

theorem out_row0 : k2_pay1 a b x y z w (ix2 0 p) = b (ix2 0 p) + a (ix2 0 p) * x := by
  pointwise [k2_pay1]
theorem out_row1 : k2_pay1 a b x y z w (ix2 1 p) = b (ix2 1 p) + a (ix2 0 p) * y := by
  pointwise [k2_pay1]
theorem out_row2 : k2_pay1 a b x y z w (ix2 2 p) = b (ix2 2 p) + a (ix2 0 p) * z := by
  pointwise [k2_pay1]
theorem out_row3 : k2_pay1 a b x y z w (ix2 3 p) = b (ix2 3 p) := by
  pointwise [k2_pay1]
theorem out_row4 : k2_pay1 a b x y z w (ix2 4 p) = w (ix2 0 p) := by
  pointwise [k2_pay1]
theorem out_row5 : k2_pay1 a b x y z w (ix2 5 p) = 1 - a (ix2 0 p) := by
  pointwise [k2_pay1]

end

section
variable {x1 : Vec Ideal S512x16 .f32} {x2 : Vec Ideal S512x16 .i32} {S : Fin 512 → Fin 16 → ℝ}
  (h1 : ∀ r c, x1 (ix2 r c) = (S r c : EReal)) (h2 : ∀ r i, x2 (ix2 r i) = slot S i.val r) (i : grid2.Coords) (p : Fin 4096)

/-- Slots past the touching rows count nowhere. -/
theorem packed_skip (S : Fin 512 → Fin 16 → ℝ) (i : ℕ) (X Y : ℝ) {n m : ℕ} (hnm : n ≤ m) (h : Nat.count (touches S i) 512 ≤ n) :
    state (packed S i) X Y m = state (packed S i) X Y n :=
  state_const _ X Y hnm fun s hs _ => by
    unfold packed
    rw [compact_miss _ _ _ _ (h.trans hs)]
    exact keep_zero X Y

include h1 h2

theorem after0_blended : Blended (after0 i x1 x2) (packed S (i 0).val) (pixX p.val) (pixY (i 0).val p.val) p (0 + 128) := by
  have hC := Nat.count_le (touches S (i 0).val) (n := 512)
  unfold after0
  rw [count_at h2]
  split
  · exact blended0 (gx_at i p) (gy_at i p) (rows_at h1 h2 i) (blended_zero _ _ _ p)
  · next h =>
    rw [show (0#32) = BitVec.ofNat 32 0 from rfl, guard_at _ _ (by omega) (by omega)] at h
    exact (blended_zero _ _ _ p).of_state (packed_skip S _ _ _ (by omega) (by omega))

theorem after1_blended : Blended (after1 i x1 x2) (packed S (i 0).val) (pixX p.val) (pixY (i 0).val p.val) p (128 + 128) := by
  have hC := Nat.count_le (touches S (i 0).val) (n := 512)
  unfold after1
  rw [count_at h2]
  split
  · exact blended1 (gx_at i p) (gy_at i p) (rows_at h1 h2 i) (after0_blended h1 h2 i p)
  · next h =>
    rw [show (128#32) = BitVec.ofNat 32 128 from rfl, guard_at _ _ (by omega) (by omega)] at h
    exact (after0_blended h1 h2 i p).of_state (packed_skip S _ _ _ (by omega) (by omega))

theorem after2_blended : Blended (after2 i x1 x2) (packed S (i 0).val) (pixX p.val) (pixY (i 0).val p.val) p (256 + 128) := by
  have hC := Nat.count_le (touches S (i 0).val) (n := 512)
  unfold after2
  rw [count_at h2]
  split
  · exact blended2 (gx_at i p) (gy_at i p) (rows_at h1 h2 i) (after1_blended h1 h2 i p)
  · next h =>
    rw [show (256#32) = BitVec.ofNat 32 256 from rfl, guard_at _ _ (by omega) (by omega)] at h
    exact (after1_blended h1 h2 i p).of_state (packed_skip S _ _ _ (by omega) (by omega))

theorem after3_blended : Blended (after3 i x1 x2) (packed S (i 0).val) (pixX p.val) (pixY (i 0).val p.val) p (384 + 128) := by
  have hC := Nat.count_le (touches S (i 0).val) (n := 512)
  unfold after3
  rw [count_at h2]
  split
  · exact blended3 (gx_at i p) (gy_at i p) (rows_at h1 h2 i) (after2_blended h1 h2 i p)
  · next h =>
    rw [show (384#32) = BitVec.ofNat 32 384 from rfl, guard_at _ _ (by omega) (by omega)] at h
    exact (after2_blended h1 h2 i p).of_state (packed_skip S _ _ _ (by omega) (by omega))

variable {Gs : Fin 512 → Gauss} (hS : ∀ r, S r = (Gs r).prm)
include hS

/-- After the four chunks the scratch holds the blend of all sorted rows. -/
theorem after3_rows : Blended (after3 i x1 x2) (rows S) (pixX p.val) (pixY (i 0).val p.val) p 512 := by
  refine (after3_blended h1 h2 i p).of_state (state_compact (rows S) (touches S (i 0).val) _ _ 512 fun r hr hn hk => hn ?_).symm
  refine ⟨hr, ?_⟩
  have e : rows S r = S ⟨r, hr⟩ := dif_pos hr
  rw [e, hS] at hk
  rw [hS]
  have hm := Nat.mod_lt p.val (by norm_num : 0 < 256)
  have hd : p.val / 256 ≤ 15 := by have := p.isLt; omega
  refine (Gs ⟨r, hr⟩).touch_of_keep _ _ (i 0).val ?_ ?_ ?_ ?_ hk
  · exact Nat.cast_nonneg _
  · have : ((p.val % 256 : ℕ) : ℝ) ≤ ((255 : ℕ) : ℝ) := Nat.cast_le.2 (by omega)
    simpa [pixX] using this
  · exact Nat.cast_le.2 (by omega)
  · have : ((p.val / 256 : ℕ) : ℝ) ≤ ((15 : ℕ) : ℝ) := Nat.cast_le.2 hd
    unfold pixY
    rw [Nat.cast_add]
    push_cast at this ⊢
    linarith

theorem sums4_color (x3 : Vec Ideal S3 .f32) (c : Fin 3) : sums4 i x1 x2 x3 (ix2 (⟨c.val, by omega⟩ : Fin 8) p)
    = (blend (rows S) (pixX p.val) (pixY (i 0).val p.val) ⟨8 + c.val, by omega⟩ 512 : EReal)
      + (left (rows S) (pixX p.val) (pixY (i 0).val p.val) 512 : EReal) * x3 (ix1 c) := by
  have H := after3_rows h1 h2 i p hS
  have e : sums4 i x1 x2 x3 (ix2 (⟨c.val, by omega⟩ : Fin 8) p)
      = (after3 i x1 x2).sums (ix2 (⟨c.val, by omega⟩ : Fin 8) p) + (after3 i x1 x2).trans (ix2 0 p) * x3 (ix1 c) := by
    unfold sums4
    generalize after3 i x1 x2 = A
    fin_cases c
    · exact out_row0 _ _ _ _ _ _ p
    · exact out_row1 _ _ _ _ _ _ p
    · exact out_row2 _ _ _ _ _ _ p
  rw [e, H.trans, H.sums]

theorem sums4_depth (x3 : Vec Ideal S3 .f32) : sums4 i x1 x2 x3 (ix2 3 p)
    = (blend (rows S) (pixX p.val) (pixY (i 0).val p.val) 11 512 : EReal) := by
  have H := after3_rows h1 h2 i p hS
  unfold sums4
  exact (out_row3 _ _ _ _ _ _ p).trans (H.sums 3)

theorem sums4_wmax (x3 : Vec Ideal S3 .f32) : sums4 i x1 x2 x3 (ix2 4 p) = wmax (rows S) (pixX p.val) (pixY (i 0).val p.val) 512 := by
  have H := after3_rows h1 h2 i p hS
  unfold sums4
  exact (out_row4 _ _ _ _ _ _ p).trans H.wmax

theorem sums4_alpha (x3 : Vec Ideal S3 .f32) : sums4 i x1 x2 x3 (ix2 5 p)
    = ((1 - left (rows S) (pixX p.val) (pixY (i 0).val p.val) 512 : ℝ) : EReal) := by
  have H := after3_rows h1 h2 i p hS
  unfold sums4
  refine (out_row5 _ _ _ _ _ _ p).trans ?_
  rw [H.trans, up_one, up_sub]

theorem seen5_at : seen5 i x1 x2 (ix2 0 p) = BitVec.ofNat 32 (seen (rows S) (pixX p.val) (pixY (i 0).val p.val) 512) := by
  have H := after3_rows h1 h2 i p hS
  unfold seen5
  generalize after3 i x1 x2 = A at H ⊢
  pointwise [k2_pay2]
  rw [H.seen, fp_int, toInt_nat]
  refine lt_of_le_of_lt (?_ : _ ≤ 512) (by norm_num)
  unfold seen
  refine (Finset.sum_le_card_nsmul _ _ 1 fun s _ => ?_).trans (by simp)
  split <;> omega

end

end Cert.KernelIdeal.Own
-- ==== Proof.Value.BridgeRaster.lean ====
/- The third call's arrays after it: each pixel's blend of all gaussians, front to back. -/
module

public import proofs.«01_k».proof.Proof.Value.BridgeSort
public import proofs.«01_k».proof.Proof.Value.RasterValue

@[expose] public section

noncomputable section

set_option maxRecDepth 16384

namespace Cert.KernelIdeal.Own

open Idealize.ShloMosaic Idealize.ShloMosaic.TcCoe Idealize.SL.Sem
open Cert.KernelIdeal Cert.KernelIdeal.Gen Cert.Splat

/-- The image column and row of pixel `P`, counted line by line. -/
def colX (P : Fin 65536) : ℝ := ((P.val % 256 : ℕ) : ℝ)
def rowY (P : Fin 65536) : ℝ := ((P.val / 256 : ℕ) : ℝ)

/-- The strip of 4096 pixels that `P` lies in, and its place there. -/
def strip (P : Fin 65536) : Fin cfg2.N := ⟨P.val / 4096, by have := P.isLt; show _ < 16; omega⟩
def inStrip (P : Fin 65536) : Fin 4096 := ⟨P.val % 4096, by omega⟩

theorem coords2 : ∀ t : Fin cfg2.N, (grid2.coords t 0).val = t.val := by decide +kernel

theorem pixX_inStrip (P : Fin 65536) : pixX (inStrip P).val = colX P := by
  unfold pixX colX inStrip
  congr 1
  dsimp only
  omega

theorem pixY_strip (P : Fin 65536) : pixY (grid2.coords (strip P) 0).val (inStrip P).val = rowY P := by
  rw [coords2]
  unfold pixY rowY inStrip strip
  congr 1
  dsimp only
  omega

section
variable {m : (ℓ : Loc nD τ sig) → Buf (Elt Ideal) ℓ} (ρ : Dev nD → PrngReg) {c : Dev nD} {G : Fin 512 → Gauss} (H : Args m c G)

/-- The third call's index maps: its operands whole, its outputs a strip a step. -/
theorem idx2 : ∀ t : Fin cfg2.N, win2_0.index t = ![0, 0] ∧ win2_1.index t = ![0, 0] ∧ win2_2.index t = ![0]
    ∧ win2_3.index t = ![0, t.val] ∧ win2_4.index t = ![0, t.val] := by
  decide +kernel

theorem blk2_0 (m : (ℓ : Loc nD τ sig) → Buf (Elt Ideal) ℓ) (c : Dev nD) (t : Fin cfg2.N) : iblk2 (V4 m ρ) c 0 t = W4 m ρ c (Proc.devRef .tc main_v8_0) := by
  blk_ext! [iblk2, idx2 t]

theorem blk2_1 (m : (ℓ : Loc nD τ sig) → Buf (Elt Ideal) ℓ) (c : Dev nD) (t : Fin cfg2.N) : iblk2 (V4 m ρ) c 1 t = W4 m ρ c (Proc.devRef .tc main_v8_1) := by
  blk_ext! [iblk2, idx2 t]

theorem blk2_2 (m : (ℓ : Loc nD τ sig) → Buf (Elt Ideal) ℓ) (c : Dev nD) (t : Fin cfg2.N) : iblk2 (V4 m ρ) c 2 t = m ((c : Thread nD τ).loc main_arg5) := by
  rw [← W4_args m ρ c main_arg5 (by decide)]
  blk_ext! [iblk2, idx2 t]

/-- What a step leaves of its two outputs. -/
def stripSums (m : (ℓ : Loc nD τ sig) → Buf (Elt Ideal) ℓ) (c : Dev nD) (t : Fin cfg2.N) : Vec Ideal S8x4096 .f32 :=
  sums4 (grid2.coords t) (iblk2 (V4 m ρ) c 0 t) (iblk2 (V4 m ρ) c 1 t) (iblk2 (V4 m ρ) c 2 t)
def stripSeen (m : (ℓ : Loc nD τ sig) → Buf (Elt Ideal) ℓ) (c : Dev nD) (t : Fin cfg2.N) : Vec Ideal S1x4096 .i32 :=
  seen5 (grid2.coords t) (iblk2 (V4 m ρ) c 0 t) (iblk2 (V4 m ρ) c 1 t)

theorem W5_sums (m : (ℓ : Loc nD τ sig) → Buf (Elt Ideal) ℓ) (c : Dev nD) (r : Fin 8) (P : Fin 65536) :
    (W5 m ρ c (Proc.devRef .tc main_v9_0) : FVec Ideal S8x65536 .f32) (ix2 r P) = stripSums ρ m c (strip P) (ix2 r (inStrip P)) := by
  have key : ∀ t, (dat2 (V4 m ρ) c).after 3 t = stripSums ρ m c t := fun t => after2_3 (V4 m ρ) c t
  revert key
  generalize stripSums ρ m c = T
  intro key
  have e : W5 m ρ c (Proc.devRef .tc main_v9_0) = fun y : S8x65536.Idx => T (strip (y 1)) (ix2 (y 0 : Fin 8) (inStrip (y 1))) := by
    refine (W5_arr m ρ c 3).trans ((dat2 (V4 m ρ) c).arrAt_eq_of_covers 3 _ (by decide +kernel) fun t hf y => ?_)
    blk_simp
    rw [key]
    have h1 : strip ((win2_3.blk t).view.emb y 1) = t := by
      refine Fin.ext ?_
      unfold strip
      blk_simp [idx2 t]
      dsimp only
      idx_bounds
      omega
    have h2 : (y : S8x4096.Idx) = ix2 ((win2_3.blk t).view.emb y 0 : Fin 8) (inStrip ((win2_3.blk t).view.emb y 1)) := by
      unfold inStrip
      blk_ext [idx2 t]
    rw [h1]
    exact congrArg (T t) h2
  exact congrFun e (ix2 r P)

theorem W5_seen (m : (ℓ : Loc nD τ sig) → Buf (Elt Ideal) ℓ) (c : Dev nD) (P : Fin 65536) :
    (W5 m ρ c (Proc.devRef .tc main_v9_1) : Vec Ideal S1x65536 .i32) (ix2 0 P) = stripSeen ρ m c (strip P) (ix2 0 (inStrip P)) := by
  have key : ∀ t, (dat2 (V4 m ρ) c).after 4 t = stripSeen ρ m c t := fun t => after2_4 (V4 m ρ) c t
  revert key
  generalize stripSeen ρ m c = T
  intro key
  have e : W5 m ρ c (Proc.devRef .tc main_v9_1) = fun y : S1x65536.Idx => T (strip (y 1)) (ix2 (y 0 : Fin 1) (inStrip (y 1))) := by
    refine (W5_arr m ρ c 4).trans ((dat2 (V4 m ρ) c).arrAt_eq_of_covers 4 _ (by decide +kernel) fun t hf y => ?_)
    blk_simp
    rw [key]
    have h1 : strip ((win2_4.blk t).view.emb y 1) = t := by
      refine Fin.ext ?_
      unfold strip
      blk_simp [idx2 t]
      dsimp only
      idx_bounds
      omega
    have h2 : (y : S1x4096.Idx) = ix2 ((win2_4.blk t).view.emb y 0 : Fin 1) (inStrip ((win2_4.blk t).view.emb y 1)) := by
      unfold inStrip
      blk_ext [idx2 t]
    rw [h1]
    exact congrArg (T t) h2
  exact congrFun e (ix2 0 P)

/-- The sorted rows, by place. -/
def placedRows (G : Fin 512 → Gauss) : ℕ → Fin 16 → ℝ := rows fun r => (atPlace G r).prm

include H

theorem rows_held (t : Fin cfg2.N) (r : Fin 512) (i : Fin 16) : (iblk2 (V4 m ρ) c 0 t : Vec Ideal S512x16 .f32) (ix2 r i) = ((atPlace G r).prm i : EReal) := by
  have e : (iblk2 (V4 m ρ) c 0 t : Vec Ideal S512x16 .f32) = (W4 m ρ c (Proc.devRef .tc main_v8_0) : FVec Ideal S512x16 .f32) := blk2_0 ρ m c t
  rw [e]
  exact W4_rows ρ H r i

theorem slots_held (t : Fin cfg2.N) (r : Fin 512) (i : Fin 16) : (iblk2 (V4 m ρ) c 1 t : Vec Ideal S512x16 .i32) (ix2 r i) = slot (fun r => (atPlace G r).prm) i.val r := by
  have e : (iblk2 (V4 m ρ) c 1 t : Vec Ideal S512x16 .i32) = (W4 m ρ c (Proc.devRef .tc main_v8_1) : Vec Ideal S512x16 .i32) := blk2_1 ρ m c t
  rw [e]
  exact W4_slots ρ H r i

/-- The colour rows at a pixel. -/
theorem color_row (P : Fin 65536) (l : Fin 3) : (W5 m ρ c (Proc.devRef .tc main_v9_0) : FVec Ideal S8x65536 .f32) (ix2 (⟨l.val, by omega⟩ : Fin 8) P)
    = (blend (placedRows G) (colX P) (rowY P) ⟨8 + l.val, by omega⟩ 512 : EReal)
      + (left (placedRows G) (colX P) (rowY P) 512 : EReal) * (m ((c : Thread nD τ).loc main_arg5) : Vec Ideal S3 .f32) (ix1 l) := by
  rw [W5_sums, ← pixX_inStrip, ← pixY_strip, ← blk2_2 ρ m c (strip P)]
  exact sums4_color (rows_held ρ H (strip P)) (slots_held ρ H (strip P)) (grid2.coords (strip P)) (inStrip P) (fun r => rfl) _ l

/-- The depth row at a pixel. -/
theorem depth_row (P : Fin 65536) : (W5 m ρ c (Proc.devRef .tc main_v9_0) : FVec Ideal S8x65536 .f32) (ix2 3 P)
    = (blend (placedRows G) (colX P) (rowY P) 11 512 : EReal) := by
  rw [W5_sums, ← pixX_inStrip, ← pixY_strip]
  exact sums4_depth (rows_held ρ H (strip P)) (slots_held ρ H (strip P)) (grid2.coords (strip P)) (inStrip P) (fun r => rfl) _

/-- The row of greatest weights at a pixel. -/
theorem wmax_row (P : Fin 65536) : (W5 m ρ c (Proc.devRef .tc main_v9_0) : FVec Ideal S8x65536 .f32) (ix2 4 P)
    = wmax (placedRows G) (colX P) (rowY P) 512 := by
  rw [W5_sums, ← pixX_inStrip, ← pixY_strip]
  exact sums4_wmax (rows_held ρ H (strip P)) (slots_held ρ H (strip P)) (grid2.coords (strip P)) (inStrip P) (fun r => rfl) _

/-- The row of coverage at a pixel. -/
theorem alpha_row (P : Fin 65536) : (W5 m ρ c (Proc.devRef .tc main_v9_0) : FVec Ideal S8x65536 .f32) (ix2 5 P)
    = ((1 - left (placedRows G) (colX P) (rowY P) 512 : ℝ) : EReal) := by
  rw [W5_sums, ← pixX_inStrip, ← pixY_strip]
  exact sums4_alpha (rows_held ρ H (strip P)) (slots_held ρ H (strip P)) (grid2.coords (strip P)) (inStrip P) (fun r => rfl) _

/-- The row of counts at a pixel. -/
theorem seen_row (P : Fin 65536) : (W5 m ρ c (Proc.devRef .tc main_v9_1) : Vec Ideal S1x65536 .i32) (ix2 0 P)
    = BitVec.ofNat 32 (seen (placedRows G) (colX P) (rowY P) 512) := by
  rw [W5_seen, ← pixX_inStrip, ← pixY_strip]
  exact seen5_at (rows_held ρ H (strip P)) (slots_held ρ H (strip P)) (grid2.coords (strip P)) (inStrip P) (fun r => rfl)

/-- The radii are untouched by the later calls. -/
theorem radii_kept (j : Fin 512) : (W5 m ρ c (Proc.devRef .tc main_v6_1) : Vec Ideal S1x512 .i32) (ix2 0 j)
    = Ideal.fptosi 32 (Ideal.liftRound Int.ceil ((G j).rad : EReal)) := by
  have e : W5 m ρ c (Proc.devRef .tc main_v6_1) = W2 m ρ c (Proc.devRef .tc main_v6_1) :=
    ((W5_of m ρ c main_v6_1 (by decide +kernel)).trans (W4_of m ρ c main_v6_1 (by decide +kernel))).trans (W3_of m ρ c main_v6_1 (by decide))
  exact (congrFun e (ix2 0 j)).trans (W2_rad ρ H j)

end

end Cert.KernelIdeal.Own

end
-- ==== Proof.Value.KernelResults.lean ====
/- The kernel's six results, read at an index: the last host stretch cuts them out of the third call's arrays. -/
module

public import proofs.«01_k».proof.Proof.Value.BridgeRaster

@[expose] public section

noncomputable section

set_option maxRecDepth 16384

namespace Cert.KernelIdeal.Own

open Idealize.ShloMosaic Idealize.ShloMosaic.TcCoe Idealize.SL.Sem
open Cert.KernelIdeal Cert.KernelIdeal.Gen Cert.Splat

/-- Pixel `(y, x)` of the image, counted line by line. -/
def pixel (y x : Fin 256) : Fin 65536 := ⟨y.val * 256 + x.val, by omega⟩

/-- The colour image, cut out of the rows of sums. -/
def cutColour (a : FVec Ideal S8x65536 .f32) : FVec Ideal S256x256x3 .f32 :=
  transpose S256x256x3 [1, 2, 0] (shapeCast S3x256x256 (extractStridedSlice S3x65536 ![0, 0] a slices_S8x65536_S3x65536_0_0)
    shapeCasts_S3x65536_S3x256x256) transposes_S3x256x256_S256x256x3_1_2_0
/-- One row of sums as an image. -/
def cutRow3 (a : FVec Ideal S8x65536 .f32) : FVec Ideal S256x256 .f32 :=
  shapeCast S256x256 (shapeCast S65536 (extractStridedSlice S1x65536 ![3, 0] a slices_S8x65536_S1x65536_3_0) shapeCasts_S1x65536_S65536) shapeCasts_S65536_S256x256
def cutRow4 (a : FVec Ideal S8x65536 .f32) : FVec Ideal S256x256 .f32 :=
  shapeCast S256x256 (shapeCast S65536 (extractStridedSlice S1x65536 ![4, 0] a slices_S8x65536_S1x65536_4_0) shapeCasts_S1x65536_S65536) shapeCasts_S65536_S256x256
def cutRow5 (a : FVec Ideal S8x65536 .f32) : FVec Ideal S256x256 .f32 :=
  shapeCast S256x256 (shapeCast S65536 (extractStridedSlice S1x65536 ![5, 0] a slices_S8x65536_S1x65536_5_0) shapeCasts_S1x65536_S65536) shapeCasts_S65536_S256x256
def cutSeen (a : Vec Ideal S1x65536 .i32) : Vec Ideal S256x256 .i32 := shapeCast S256x256 a shapeCasts_S1x65536_S256x256
def cutRadii (a : Vec Ideal S1x512 .i32) : Vec Ideal S512 .i32 := shapeCast S512 a shapeCasts_S1x512_S512

theorem cutColour_at (a : FVec Ideal S8x65536 .f32) (y x : Fin 256) (l : Fin 3) :
    cutColour a (ix3 y x l) = a (ix2 (⟨l.val, by omega⟩ : Fin 8) (pixel y x)) := by
  unfold cutColour pixel
  pointwise
theorem cutRow3_at (a : FVec Ideal S8x65536 .f32) (y x : Fin 256) : cutRow3 a (ix2 y x) = a (ix2 3 (pixel y x)) := by
  unfold cutRow3 pixel
  pointwise
theorem cutRow4_at (a : FVec Ideal S8x65536 .f32) (y x : Fin 256) : cutRow4 a (ix2 y x) = a (ix2 4 (pixel y x)) := by
  unfold cutRow4 pixel
  pointwise
theorem cutRow5_at (a : FVec Ideal S8x65536 .f32) (y x : Fin 256) : cutRow5 a (ix2 y x) = a (ix2 5 (pixel y x)) := by
  unfold cutRow5 pixel
  pointwise
theorem cutSeen_at (a : Vec Ideal S1x65536 .i32) (y x : Fin 256) : cutSeen a (ix2 y x) = a (ix2 0 (pixel y x)) := by
  unfold cutSeen pixel
  pointwise
theorem cutRadii_at (a : Vec Ideal S1x512 .i32) (j : Fin 512) : cutRadii a (ix1 j) = a (ix2 0 j) := by
  unfold cutRadii
  pointwise

section
variable (m : (ℓ : Loc nD τ sig) → Buf (Elt Ideal) ℓ) (ρ : Dev nD → PrngReg) (c : Dev nD)

theorem W6_colour : (W6 m ρ c (Proc.devRef .tc main_v12) : FVec Ideal S256x256x3 .f32) = cutColour (W5 m ρ c (Proc.devRef .tc main_v9_0)) := by
  unfold cutColour
  unfold_abbrev_sides
  after_results
  rfl
theorem W6_depth : (W6 m ρ c (Proc.devRef .tc main_v16) : FVec Ideal S256x256 .f32) = cutRow3 (W5 m ρ c (Proc.devRef .tc main_v9_0)) := by
  unfold cutRow3
  unfold_abbrev_sides
  after_results
  rfl
theorem W6_greatest : (W6 m ρ c (Proc.devRef .tc main_v19) : FVec Ideal S256x256 .f32) = cutRow4 (W5 m ρ c (Proc.devRef .tc main_v9_0)) := by
  unfold cutRow4
  unfold_abbrev_sides
  after_results
  rfl
theorem W6_cover : (W6 m ρ c (Proc.devRef .tc main_v22) : FVec Ideal S256x256 .f32) = cutRow5 (W5 m ρ c (Proc.devRef .tc main_v9_0)) := by
  unfold cutRow5
  unfold_abbrev_sides
  after_results
  rfl
theorem W6_seen : (W6 m ρ c (Proc.devRef .tc main_v13) : Vec Ideal S256x256 .i32) = cutSeen (W5 m ρ c (Proc.devRef .tc main_v9_1)) := by
  unfold cutSeen
  unfold_abbrev_sides
  after_results
  rfl
theorem W6_radii : (W6 m ρ c (Proc.devRef .tc main_v23) : Vec Ideal S512 .i32) = cutRadii (W5 m ρ c (Proc.devRef .tc main_v6_1)) := by
  unfold cutRadii
  unfold_abbrev_sides
  after_results
  rfl
end

end Cert.KernelIdeal.Own

end
-- ==== Proof.Value.RefSpace.lean ====
/- The reference's per-gaussian values, up to the spatial covariance, are the real model's. -/
module

public import proofs.«01_k».proof.Proof.Gen.ReferenceIdeal.Run
public import proofs.«01_k».proof.Proof.Value.Model
public import proofs.«01_k».proof.Proof.Value.Words
public import Idealize.ShloMosaic.Lib.Pipeline.ValueKit

@[expose] public section

noncomputable section

set_option maxRecDepth 16384

namespace Cert.ReferenceIdeal.Own

open Idealize.ShloMosaic Idealize.ShloMosaic.TcCoe Idealize.SL.Sem
open Cert.ReferenceIdeal Cert.ReferenceIdeal.Gen Cert.ReferenceIdeal.Value Cert.Splat

/-- The reference's arguments hold the gaussians `G` and their camera. -/
structure Given (V0 : Valuation τ sig (Elt Ideal)) (G : Fin 512 → Gauss) : Prop where
  m : ∀ j i, (V0 (Proc.devRef .tc main_arg0) : Vec Ideal S512x3 .f32) (ix2 j i) = ((G j).m i : EReal)
  o : ∀ j, (V0 (Proc.devRef .tc main_arg1) : Vec Ideal S512x1 .f32) (ix2 j 0) = ((G j).o : EReal)
  col : ∀ j i, (V0 (Proc.devRef .tc main_arg2) : Vec Ideal S512x3 .f32) (ix2 j i) = ((G j).col i : EReal)
  s : ∀ j i, (V0 (Proc.devRef .tc main_arg3) : Vec Ideal S512x3 .f32) (ix2 j i) = ((G j).s i : EReal)
  q : ∀ j i, (V0 (Proc.devRef .tc main_arg4) : Vec Ideal S512x4 .f32) (ix2 j i) = ((G j).q i : EReal)
  v : ∀ (j : Fin 512) (i : Fin 3) (l : Fin 4), (V0 (Proc.devRef .tc main_arg6) : Vec Ideal S4x4 .f32) (ix2 i.castSucc l) = ((G j).v i l : EReal)
  qn : ∀ j, (G j).qn ≠ 0

section
variable {V0 : Valuation τ sig (Elt Ideal)} {G : Fin 512 → Gauss} (H : Given V0 G)
include H

theorem at_v0 (j : Fin 512) (i l : Fin 3) : (res_main_v0 V0 : Vec Ideal S3x3 .f32) (ix2 i l) = ((G j).v i l.castSucc : EReal) := by
  rw [← H.v]
  unfold res_main_v0
  pointwise []
  rfl

theorem at_v7 (j : Fin 512) (i : Fin 3) : (res_main_v7 V0 : Vec Ideal S512x3 .f32) (ix2 j i) = ((G j).p i : EReal) := by
  unfold res_main_v7
  pointwise [H.m, at_v0 H j]
  have h : (V0 (Proc.devRef .tc main_arg6) : Vec Ideal S4x4 .f32) (ix2 i.castSucc 3) = ((G j).v i 3 : EReal) := H.v j i 3
  refine (congrArg₂ (· + ·) rfl h).trans ?_
  simp only [up_mul, up_sum, up_add]
  refine congrArg Real.toEReal ?_
  rw [Fin.sum_univ_three]
  rfl

theorem at_v9 (j : Fin 512) : (res_main_v9 V0 : Vec Ideal S512 .f32) (ix1 j) = ((G j).p 0 : EReal) := by
  unfold res_main_v9
  pointwise [at_v7 H]

theorem at_v11 (j : Fin 512) : (res_main_v11 V0 : Vec Ideal S512 .f32) (ix1 j) = ((G j).p 1 : EReal) := by
  unfold res_main_v11
  pointwise [at_v7 H]

theorem at_v13 (j : Fin 512) : (res_main_v13 V0 : Vec Ideal S512 .f32) (ix1 j) = ((G j).z : EReal) := by
  unfold res_main_v13
  pointwise [at_v7 H]
  rfl

theorem at_v15 (j : Fin 512) : (res_main_v15 V0 : Vec Ideal S512 .f32) (ix1 j) = ((G j).zc : EReal) := by
  unfold res_main_v15
  pointwise [at_v13 H, o38D1B717]
  simp only [up_max]
  rfl

theorem at_v24 (j : Fin 512) (i : Fin 4) : (res_main_v24 V0 : Vec Ideal S512x4 .f32) (ix2 j i) = ((G j).u i : EReal) := by
  unfold res_main_v24
  pointwise [H.q]
  have hs : ∑ x, (((G j).q x : ℝ) : EReal) * (((G j).q x : ℝ) : EReal)
      = (((G j).q 0 * (G j).q 0 + (G j).q 1 * (G j).q 1 + (G j).q 2 * (G j).q 2 + (G j).q 3 * (G j).q 3 : ℝ) : EReal) := by
    simp only [up_mul, up_sum]
    rw [Fin.sum_univ_four]
  rw [hs, up_sqrt (G j).qq_nonneg]
  exact up_div (H.qn j) _

theorem at_v26 (j : Fin 512) : (res_main_v26 V0 : Vec Ideal S512 .f32) (ix1 j) = ((G j).u 0 : EReal) := by
  unfold res_main_v26
  pointwise [at_v24 H]

theorem at_v28 (j : Fin 512) : (res_main_v28 V0 : Vec Ideal S512 .f32) (ix1 j) = ((G j).u 1 : EReal) := by
  unfold res_main_v28
  pointwise [at_v24 H]

theorem at_v30 (j : Fin 512) : (res_main_v30 V0 : Vec Ideal S512 .f32) (ix1 j) = ((G j).u 2 : EReal) := by
  unfold res_main_v30
  pointwise [at_v24 H]

theorem at_v32 (j : Fin 512) : (res_main_v32 V0 : Vec Ideal S512 .f32) (ix1 j) = ((G j).u 3 : EReal) := by
  unfold res_main_v32
  pointwise [at_v24 H]

omit H

/-- Three columns set side by side. -/
theorem columns (a b c : Vec Ideal S512x1 .f32) (j : Fin 512) (l : Fin 3) :
    (concatenate S512x3 1 [⟨S512x1, a⟩, ⟨S512x1, b⟩, ⟨S512x1, c⟩] concatenates_S512x1_S512x1_S512x1_S512x3_d1 : Vec Ideal S512x3 .f32) (ix2 j l)
      = (![a (ix2 j 0), b (ix2 j 0), c (ix2 j 0)] : Fin 3 → EReal) l := by
  fin_cases l <;> pointwise [] <;> rfl

/-- Three planes stacked. -/
theorem planes3 (a b c : Vec Ideal S512x1x3 .f32) (j : Fin 512) (i l : Fin 3) :
    (concatenate S512x3x3 1 [⟨S512x1x3, a⟩, ⟨S512x1x3, b⟩, ⟨S512x1x3, c⟩] concatenates_S512x1x3_S512x1x3_S512x1x3_S512x3x3_d1 : Vec Ideal S512x3x3 .f32) (ix3 j i l)
      = (![a (ix3 j 0 l), b (ix3 j 0 l), c (ix3 j 0 l)] : Fin 3 → EReal) i := by
  fin_cases i <;> pointwise [] <;> rfl

/-- Two planes stacked. -/
theorem planes2 (a b : Vec Ideal S512x1x3 .f32) (j : Fin 512) (i : Fin 2) (l : Fin 3) :
    (concatenate S512x2x3 1 [⟨S512x1x3, a⟩, ⟨S512x1x3, b⟩] concatenates_S512x1x3_S512x1x3_S512x2x3_d1 : Vec Ideal S512x2x3 .f32) (ix3 j i l)
      = (![a (ix3 j 0 l), b (ix3 j 0 l)] : Fin 2 → EReal) i := by
  fin_cases i <;> pointwise [] <;> rfl

include H

theorem at_v102 (j : Fin 512) (i l : Fin 3) : (res_main_v102 V0 : Vec Ideal S512x3x3 .f32) (ix3 j i l) = ((G j).M i l : EReal) := by
  unfold res_main_v102
  pointwise [planes3, columns, at_v26 H, at_v28 H, at_v30 H, at_v32 H, H.s, o40000000]
  simp only [up_one, up_mul, up_sub, up_add]
  fin_cases i <;> fin_cases l <;> rfl

theorem at_v105 (j : Fin 512) : (res_main_v105 V0 : Vec Ideal S512 .f32) (ix1 j) = ((0 : ℝ) : EReal) := by
  unfold res_main_v105
  pointwise []
  rfl

theorem at_v129 (j : Fin 512) (i : Fin 2) (l : Fin 3) :
    (res_main_v129 V0 : Vec Ideal S512x2x3 .f32) (ix3 j i l) = ((![(G j).t0 l, (G j).t1 l] : Fin 2 → ℝ) i : EReal) := by
  have hz : (G j).zc ≠ 0 := (G j).zc_pos.ne'
  have h5 := at_v105 H j
  unfold res_main_v129
  generalize res_main_v105 V0 = v105 at h5 ⊢
  pointwise [planes2, columns, at_v9 H, at_v11 H, at_v15 H, at_v0 H j, o4336DB6E, oC336DB6E, o3F68F5C3, oBF68F5C3, id_eq]
  simp only [h5, up_div hz, up_max, up_min, up_mul, up_div (mul_ne_zero hz hz), Fin.sum_univ_three]
  fin_cases i
  · change (((G j).j0 : ℝ) : EReal) * _ + ((0 : ℝ) : EReal) * (((G j).v 1 l.castSucc : ℝ) : EReal) + (((G j).jx : ℝ) : EReal) * _ = (((G j).t0 l : ℝ) : EReal)
    simp only [up_mul, up_add]
    refine congrArg Real.toEReal ?_
    unfold Gauss.t0
    ring
  · change ((0 : ℝ) : EReal) * (((G j).v 0 l.castSucc : ℝ) : EReal) + (((G j).j0 : ℝ) : EReal) * _ + (((G j).jy : ℝ) : EReal) * _ = (((G j).t1 l : ℝ) : EReal)
    simp only [up_mul, up_add]
    refine congrArg Real.toEReal ?_
    unfold Gauss.t1
    ring

end

end Cert.ReferenceIdeal.Own
-- ==== Proof.Value.RefPlane.lean ====
/- The reference's image-plane covariance, its inverse and the radius are the real model's. -/
module

public import proofs.«01_k».proof.Proof.Value.RefSpace

@[expose] public section

noncomputable section

set_option maxRecDepth 16384

namespace Cert.ReferenceIdeal.Own

open Idealize.ShloMosaic Idealize.ShloMosaic.TcCoe Idealize.SL.Sem
open Cert.ReferenceIdeal Cert.ReferenceIdeal.Gen Cert.ReferenceIdeal.Value Cert.Splat

/-- The unit matrix of the blur. -/
def unit2 : FVec Ideal S2x2 .f32 :=
  uitofp .f32 (cmpi .eq (addi (iotaInDim S2x2 32 0) (broadcastInDim S2x2 ![] bcast_S_S2x2 (constantI S_ 32 0#32))) (iotaInDim S2x2 32 1))

theorem unit2_at (i l : Fin 2) : unit2 (ix2 i l) = ((if i = l then 1 else 0 : ℝ) : EReal) := by
  unfold unit2
  fin_cases i <;> fin_cases l <;> pointwise [] <;> simp [FloatOps.uitofp, IntOp.cmpi, IntOp.addi]

variable {V0 : Valuation τ sig (Elt Ideal)} {G : Fin 512 → Gauss} (H : Given V0 G)
include H

theorem cov_at (j : Fin 512) (i l : Fin 2) : (res_main_v142 V0 : Vec Ideal S512x2x2 .f32) (ix3 j i l)
    = ((∑ x, (∑ y, (∑ w, (G j).M y w * (G j).M x w) * (![(G j).t0 y, (G j).t1 y] : Fin 2 → ℝ) i) * (![(G j).t0 x, (G j).t1 x] : Fin 2 → ℝ) l
        + k 0x3E99999A#32 * (if i = l then 1 else 0) : ℝ) : EReal) := by
  unfold res_main_v142
  rw [show uitofp .f32 _ = unit2 from rfl]
  pointwise [at_v129 H, at_v102 H, unit2_at, o3E99999A]
  simp only [up_mul, up_add, up_sum]

theorem at_v144 (j : Fin 512) : (res_main_v144 V0 : Vec Ideal S512 .f32) (ix1 j) = ((G j).a : EReal) := by
  unfold res_main_v144
  pointwise [cov_at H]
  refine congrArg Real.toEReal ?_
  simp only [Fin.sum_univ_three, Gauss.a, Gauss.w0, Gauss.sg, Matrix.cons_val_zero, if_true]
  ring

theorem at_v146 (j : Fin 512) : (res_main_v146 V0 : Vec Ideal S512 .f32) (ix1 j) = ((G j).b : EReal) := by
  unfold res_main_v146
  pointwise [cov_at H]
  refine congrArg Real.toEReal ?_
  simp only [Fin.sum_univ_three, Gauss.b, Gauss.w0, Gauss.sg, Matrix.cons_val_zero, Matrix.cons_val_one, if_neg (by decide : ¬ ((0 : Fin 2) = 1))]
  ring

theorem at_v148 (j : Fin 512) : (res_main_v148 V0 : Vec Ideal S512 .f32) (ix1 j) = ((G j).c : EReal) := by
  unfold res_main_v148
  pointwise [cov_at H]
  refine congrArg Real.toEReal ?_
  simp only [Fin.sum_univ_three, Gauss.c, Gauss.w1, Gauss.sg, Matrix.cons_val_one, if_true]
  ring

theorem at_v151 (j : Fin 512) : (res_main_v151 V0 : Vec Ideal S512 .f32) (ix1 j) = ((G j).det : EReal) := by
  unfold res_main_v151
  pointwise [at_v144 H, at_v146 H, at_v148 H]
  simp only [up_mul, up_sub]
  rfl

theorem at_v155 (j : Fin 512) : (res_main_v155 V0 : Vec Ideal S512 .f32) (ix1 j) = ((G j).inv : EReal) := by
  have h : max (G j).det (k 0x2B8CBCCC#32) ≠ 0 := by rw [(G j).max_det]; exact (G j).det_pos.ne'
  unfold res_main_v155
  pointwise [at_v151 H, o2B8CBCCC]
  simp only [up_one, up_max, up_div h]
  rfl

theorem at_v162 (j : Fin 512) : (res_main_v162 V0 : Vec Ideal S512 .f32) (ix1 j) = ((G j).mid : EReal) := by
  unfold res_main_v162
  pointwise [at_v144 H, at_v148 H, o3F000000]
  simp only [up_mul, up_add]
  rfl

/-- The radii result. -/
def radii (V0 : Valuation τ sig (Elt Ideal)) : Vec Ideal S512 .i32 :=
  fptosi 32 (Host.ceil (mulf (broadcastInDim S512 ![] bcast_S_S512 (constant S_ .f32 0x40400000#32)) (Host.sqrt (addf (res_main_v162 V0) (Host.sqrt (maximumf (subf (mulf (res_main_v162 V0) (res_main_v162 V0)) (res_main_v151 V0)) (broadcastInDim S512 ![] bcast_S_S512 (constant S_ .f32 0x3DCCCCCD#32))))))))

theorem radii_at (j : Fin 512) : radii V0 (ix1 j) = Ideal.fptosi 32 (Ideal.liftRound Int.ceil ((G j).rad : EReal)) := by
  unfold radii
  pointwise [at_v162 H, at_v151 H, o40400000, o3DCCCCCD]
  simp only [up_mul, up_sub, up_max, up_sqrt (G j).disc_nonneg, up_add]
  rw [show (G j).mid + √(max ((G j).mid * (G j).mid - (G j).det) (k 0x3DCCCCCD#32)) = (G j).lam from rfl, up_sqrt (G j).lam_pos.le, up_mul]
  rfl

end Cert.ReferenceIdeal.Own
-- ==== Proof.Value.RefOrder.lean ====
/- The reference's sort by depth is the order of the model, and reading at its result is reading in that order. -/
module

public import proofs.«01_k».proof.Proof.Value.RefPlane
public import proofs.«01_k».proof.Proof.Value.Order
public import Idealize.ShloMosaic.Lib.SortPrefix
public import Idealize.ShloMosaic.Lib.Routing.OpsSearch
public import Idealize.ShloMosaic.Lib.Pointwise.IndexBridge

@[expose] public section

noncomputable section

set_option maxRecDepth 16384

namespace Cert.ReferenceIdeal.Own

open Idealize.ShloMosaic Idealize.ShloMosaic.TcCoe Idealize.SL.Sem
open Cert.ReferenceIdeal Cert.ReferenceIdeal.Gen Cert.ReferenceIdeal.Value Cert.Splat

/-- A stable sort by depth of an increasing list of positions is its sort by depth and position. -/
theorem stable_eq {n : ℕ} (z : Fin n → ℝ) (l : List (Fin n)) (hl : l.Pairwise (· < ·)) :
    stableSort (fun a b => decide (z a < z b)) l = stableSort (fun a b => decide (Before z a b)) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    refine decide_eq_decide.2 ⟨.inl, ?_⟩
    rintro (h | ⟨-, h⟩)
    · exact h
    · exact absurd h (by omega)

theorem before_strict {n : ℕ} (z : Fin n → ℝ) : StrictTotalBefore (fun a b => decide (Before z a b)) where
  irrefl a := decide_eq_false (before_irrefl z a)
  trans a b c h h' := decide_eq_true (before_trans z (of_decide_eq_true h) (of_decide_eq_true h'))
  total a b h := (before_total z h).imp decide_eq_true decide_eq_true

/-- The stable sort by depth reads position `r` from the gaussian of rank `r`. -/
theorem sorted_eq {n : ℕ} (z : Fin n → ℝ) (r : Fin n) : sortedFrom (fun a b => decide (z a < z b)) r = order z r := by
  have h : sortedFrom (fun a b => decide (z a < z b)) = sortedFrom (fun a b => decide (Before z a b)) := by
    funext k
    unfold sortedFrom
    rw [List.get_of_eq (show sortPositions n _ = sortPositions n _ from stable_eq z (List.finRange n) (List.pairwise_lt_finRange n))]
    rfl
  rw [h]
  refine (before_strict z).sortedFrom_eq_of_prefix le_rfl (order z) (order_injective z) ?_ ?_ r
  · intro i j hij
    exact (before_strict z).asymm _ _ (decide_eq_true (order_mono z hij))
  · intro i p hp
    obtain ⟨j, hj⟩ := (Finite.injective_iff_surjective.1 (order_injective z)) p
    exact absurd hj (hp j)

/-- The comparator at two real keys. -/
theorem comparator_at (a b : ℝ) (i j : BitVec 32) :
    (comparator_f32_i32_d0 (F := Ideal) ((a : EReal), i) ((b : EReal), j) == 1#1) = decide (a < b) := by
  have key : ∀ x : ℝ, Scalar.select (FloatOps.cmpf (F := Ideal) (φ := .f32) .une (x : EReal) (x : EReal)) (FloatOps.ofBits .f32 0x7FC00000#32)
      (Scalar.select (FloatOps.cmpf (F := Ideal) (φ := .f32) .oeq (x : EReal) (FloatOps.ofBits .f32 0x00000000#32)) (FloatOps.ofBits (F := Ideal) .f32 0x00000000#32) (x : EReal)) = ((x : ℝ) : EReal) := by
    intro x
    have h0 : (FloatOps.ofBits .f32 0x00000000#32 : Ideal .f32) = ((0 : ℝ) : EReal) := by
      simp [FloatOps.ofBits, Ideal.ofBits, Ideal.ieee]
    have h1 : FloatOps.cmpf (F := Ideal) (φ := .f32) .une (x : EReal) (x : EReal) = 0#1 := by
      show Ideal.cmp .une _ _ = _
      simp [Ideal.cmp]
    rw [h1, h0]
    show Scalar.select (FloatOps.cmpf (F := Ideal) (φ := .f32) .oeq (x : EReal) ((0 : ℝ) : EReal)) ((0 : ℝ) : EReal) (x : EReal) = _
    by_cases hx : x = 0
    · subst hx; unfold Scalar.select; split <;> rfl
    · have : FloatOps.cmpf (F := Ideal) (φ := .f32) .oeq (x : EReal) ((0 : ℝ) : EReal) = 0#1 := by
        show Ideal.cmp .oeq _ _ = _
        simp [Ideal.cmp, hx]
      rw [this]; rfl
  have hc : comparator_f32_i32_d0 (F := Ideal) ((a : EReal), i) ((b : EReal), j) = FloatOps.cmpfTotal (F := Ideal) (φ := .f32) .lt (a : EReal) (b : EReal) := by
    unfold comparator_f32_i32_d0
    show FloatOps.cmpfTotal (F := Ideal) (φ := .f32) .lt (Scalar.select _ _ (Scalar.select _ _ _)) (Scalar.select _ _ (Scalar.select _ _ _)) = _
    rw [key a, key b]
  rw [hc]
  show (Ideal.cmp .olt (a : EReal) (b : EReal) == 1#1) = _
  simp only [Ideal.cmp, EReal.coe_lt_coe_iff]
  by_cases h : a < b <;> simp [h]

variable {V0 : Valuation τ sig (Elt Ideal)} {G : Fin 512 → Gauss} (H : Given V0 G)
include H

theorem at_v193 (r : Fin 512) : (res_main_v193 V0 : IVec S512 32) (ix1 r) = BitVec.ofNat 32 (order (fun j => (G j).z) r).val := by
  have e : ∀ (j : S512.Idx) (k : Fin 512), j.along (0 : Fin 1) k = ix1 k := fun j k =>
    (Shape.Idx.along_rank1 j k).trans (by funext a; match a with | ⟨0, _⟩ => rfl)
  have hB : (fun k k' : Fin 512 => comparator_f32_i32_d0 (F := Ideal) ((res_main_v13 V0 : Vec Ideal S512 .f32) (ix1 k), (res_main_call3_v0 V0 : IVec S512 32) (ix1 k))
      ((res_main_v13 V0 : Vec Ideal S512 .f32) (ix1 k'), (res_main_call3_v0 V0 : IVec S512 32) (ix1 k')) == 1#1) = fun a b => decide ((G a).z < (G b).z) := by
    funext a b
    rw [at_v13 H, at_v13 H]
    exact comparator_at _ _ _ _
  unfold res_main_v193 Host.sort2
  rw [dif_pos (by decide)]
  show (res_main_call3_v0 V0 : IVec S512 32) ((ix1 r : S512.Idx).along (0 : Fin 1) (sortedFrom (fun k k' : Fin 512 =>
    comparator_f32_i32_d0 (F := Ideal) ((res_main_v13 V0 : Vec Ideal S512 .f32) ((ix1 r : S512.Idx).along (0 : Fin 1) k), (res_main_call3_v0 V0 : IVec S512 32) ((ix1 r : S512.Idx).along (0 : Fin 1) k))
      ((res_main_v13 V0 : Vec Ideal S512 .f32) ((ix1 r : S512.Idx).along (0 : Fin 1) k'), (res_main_call3_v0 V0 : IVec S512 32) ((ix1 r : S512.Idx).along (0 : Fin 1) k')) == 1#1) r)) = _
  simp only [e]
  rw [hB]
  refine (congrArg (fun k : Fin 512 => (res_main_call3_v0 V0 : IVec S512 32) ((ix1 r : S512.Idx).along (0 : Fin 1) k)) (sorted_eq (fun j => (G j).z) r)).trans ?_
  refine (congrArg (res_main_call3_v0 V0 : IVec S512 32) (e (ix1 r) _)).trans ?_
  unfold res_main_call3_v0
  pointwise []

/-- The positions the gathers read at. -/
def places (V0 : Valuation τ sig (Elt Ideal)) : IVec S512x1 32 :=
  broadcastInDim S512x1 ![0] bcast_S512_S512x1_0 (select (cmpi .slt (res_main_v193 V0) (broadcastInDim S512 ![] bcast_S_S512 (constantI S_ 32 0#32))) (addi (res_main_v193 V0) (broadcastInDim S512 ![] bcast_S_S512 (constantI S_ 32 512#32))) (res_main_v193 V0))

omit H in
theorem places_eq : broadcastInDim S512x1 ![0] bcast_S512_S512x1_0 (select (cmpi .slt (res_main_v193 V0) (broadcastInDim S512 ![] bcast_S_S512 (constantI S_ 32 0#32))) (addi (res_main_v193 V0) (broadcastInDim S512 ![] bcast_S_S512 (constantI S_ 32 512#32))) (res_main_v193 V0)) = places V0 := rfl

theorem places_at (r : Fin 512) : places V0 (ix2 r 0) = BitVec.ofNat 32 (order (fun j => (G j).z) r).val := by
  unfold places
  pointwise [at_v193 H]
  have h : IntOp.cmpi .slt (BitVec.ofNat 32 (order (fun j => (G j).z) r).val) 0#32 = 0#1 := by
    have hb := (order (fun j => (G j).z) r).isLt
    generalize (order (fun j => (G j).z) r).val = n at hb
    exact (slt_nat (a := n) (b := 0) (by omega) (by omega)).trans (by simp)
  rw [h]
  rfl

/-- A vector gathered at the positions is the vector in depth order. -/
theorem gather_at {α : Type} (x : S512.Idx → α) (r : Fin 512) :
    Host.gather gather_S512_S512x1_S512_n_0_n_n_0_1_1 x (places V0) (ix1 r) = x (ix1 (order (fun j => (G j).z) r)) := by
  have h := places_at H r
  rw [ix2_eq_valueIdx] at h
  rw [ix1_eq_valueIdx, ix1_eq_valueIdx]
  exact Routing.take_ap _ rfl rfl rfl rfl x _ r (order (fun j => (G j).z) r).isLt (by have := (order (fun j => (G j).z) r).isLt; omega) h

/-- The rows of a table gathered at the positions are its rows in depth order. -/
theorem gather_rows_at {α : Type} (x : S512x3.Idx → α) (r : Fin 512) (l : Fin 3) :
    Host.gather gather_S512x3_S512x1_S512x3_1_0_n_n_0_1_13 x (places V0) (ix2 r l) = x (ix2 (order (fun j => (G j).z) r) l) := by
  have h := places_at H r
  have hb := (order (fun j => (G j).z) r).isLt
  generalize order (fun j => (G j).z) r = b at h hb
  generalize places V0 = pl at h
  unfold Host.gather
  congr 1
  funext a
  refine Fin.ext ?_
  show gather_S512x3_S512x1_S512x3_1_0_n_n_0_1_13.start (ix2 r l) pl a + gather_S512x3_S512x1_S512x3_1_0_n_n_0_1_13.batchCoord (ix2 r l) a + gather_S512x3_S512x1_S512x3_1_0_n_n_0_1_13.offCoord (ix2 r l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S512x3_S512x1_S512x3_1_0_n_n_0_1_13.startIndexMap from List.mem_singleton.mpr rfl)]
    have hsi : gather_S512x3_S512x1_S512x3_1_0_n_n_0_1_13.siIdx (ix2 r l) ⟨List.idxOf (0 : Fin 2) gather_S512x3_S512x1_S512x3_1_0_n_n_0_1_13.startIndexMap,
        List.idxOf_lt_length_iff.2 (List.mem_singleton.mpr rfl)⟩ = ix2 r 0 := by
      funext b; refine Fin.ext ?_
      match b with
      | ⟨0, _⟩ => rfl
      | ⟨1, _⟩ => rfl
    rw [hsi, h]
    show min (BitVec.ofNat 32 b.val).toInt.toNat (512 - 1) + 0 + 0 = b.val
    rw [WordCmp.toInt_ofNat_of_lt (by omega)]
    omega
  · show GatherDims.start _ _ _ _ + 0 + l.val = l.val
    rw [show gather_S512x3_S512x1_S512x3_1_0_n_n_0_1_13.start (ix2 r l) pl 1 = 0 from rfl]
    omega

end Cert.ReferenceIdeal.Own
-- ==== Proof.Value.RefAlpha.lean ====
/- The reference at one pixel and one place in the depth order: exponent, opacity, and which contributions it keeps. -/
module

public import proofs.«01_k».proof.Proof.Value.RefOrder
public import proofs.«01_k».proof.Proof.Value.Composite

@[expose] public section

noncomputable section

set_option maxRecDepth 16384

namespace Cert.ReferenceIdeal.Own

open Idealize.ShloMosaic Idealize.ShloMosaic.TcCoe Idealize.SL.Sem
open Cert.ReferenceIdeal Cert.ReferenceIdeal.Gen Cert.ReferenceIdeal.Value Cert.Splat

/-- The gaussians in depth order. -/
def inOrder (G : Fin 512 → Gauss) (r : Fin 512) : Gauss := G (order (fun j => (G j).z) r)

variable {V0 : Valuation τ sig (Elt Ideal)} {G : Fin 512 → Gauss} (H : Given V0 G)
include H

theorem mx_at (r : Fin 512) : Host.gather gather_S512_S512x1_S512_n_0_n_n_0_1_1 (subf (addf (Host.divf (mulf (broadcastInDim S512 ![] bcast_S_S512 (constant S_ .f32 0x4336DB6E#32)) (res_main_v9 V0)) (res_main_v15 V0)) (broadcastInDim S512 ![] bcast_S_S512 (constant S_ .f32 0x43000000#32))) (broadcastInDim S512 ![] bcast_S_S512 (constant S_ .f32 0x3F000000#32))) (places V0) (ix1 r)
    = ((inOrder G r).mx : EReal) := by
  rw [gather_at H]
  pointwise [at_v9 H, at_v15 H, o4336DB6E, o43000000, o3F000000]
  simp only [up_mul, up_div (G (order (fun j => (G j).z) r)).zc_pos.ne', up_add, up_sub]
  rfl

theorem my_at (r : Fin 512) : Host.gather gather_S512_S512x1_S512_n_0_n_n_0_1_1 (subf (addf (Host.divf (mulf (broadcastInDim S512 ![] bcast_S_S512 (constant S_ .f32 0x4336DB6E#32)) (res_main_v11 V0)) (res_main_v15 V0)) (broadcastInDim S512 ![] bcast_S_S512 (constant S_ .f32 0x43000000#32))) (broadcastInDim S512 ![] bcast_S_S512 (constant S_ .f32 0x3F000000#32))) (places V0) (ix1 r)
    = ((inOrder G r).my : EReal) := by
  rw [gather_at H]
  pointwise [at_v11 H, at_v15 H, o4336DB6E, o43000000, o3F000000]
  simp only [up_mul, up_div (G (order (fun j => (G j).z) r)).zc_pos.ne', up_add, up_sub]
  rfl

theorem at_v268 (P : Fin 65536) (r : Fin 512) : (res_main_v268 V0 : Vec Ideal S65536x512 .f32) (ix2 P r)
    = ((((P.val % 256 : ℕ) : ℝ) - (inOrder G r).mx : ℝ) : EReal) := by
  have h := mx_at H r
  unfold res_main_v268
  rw [places_eq]
  generalize Host.gather _ _ _ = g at h ⊢
  pointwise [h]
  have hP := P.isLt
  rw [int_fp, toReal_nat (by omega), up_sub]

theorem at_v273 (P : Fin 65536) (r : Fin 512) : (res_main_v273 V0 : Vec Ideal S65536x512 .f32) (ix2 P r)
    = ((((P.val / 256 : ℕ) : ℝ) - (inOrder G r).my : ℝ) : EReal) := by
  have h := my_at H r
  unfold res_main_v273
  rw [places_eq]
  generalize Host.gather _ _ _ = g at h ⊢
  pointwise [h]
  have hP := P.isLt
  rw [int_fp, toReal_nat (by omega), up_sub]

theorem ca_at (r : Fin 512) : Host.gather gather_S512_S512x1_S512_n_0_n_n_0_1_1 (mulf (res_main_v148 V0) (res_main_v155 V0)) (places V0) (ix1 r)
    = ((inOrder G r).ca : EReal) := by
  rw [gather_at H]
  pointwise [at_v148 H, at_v155 H]
  simp only [up_mul]
  rfl

theorem cc_at (r : Fin 512) : Host.gather gather_S512_S512x1_S512_n_0_n_n_0_1_1 (mulf (res_main_v144 V0) (res_main_v155 V0)) (places V0) (ix1 r)
    = ((inOrder G r).cc : EReal) := by
  rw [gather_at H]
  pointwise [at_v144 H, at_v155 H]
  simp only [up_mul]
  rfl

theorem cb_at (r : Fin 512) : Host.gather gather_S512_S512x1_S512_n_0_n_n_0_1_1 (mulf (Host.negf (res_main_v146 V0)) (res_main_v155 V0)) (places V0) (ix1 r)
    = ((inOrder G r).cb : EReal) := by
  rw [gather_at H]
  pointwise [at_v146 H, at_v155 H]
  simp only [up_neg, up_mul]
  refine congrArg Real.toEReal ?_
  unfold inOrder Gauss.cb
  rw [zero_sub]

theorem opa_at (r : Fin 512) : Host.gather gather_S512_S512x1_S512_n_0_n_n_0_1_1 (shapeCast _ (V0 (Proc.devRef .tc main_arg1)) shapeCasts_S512x1_S512) (places V0) (ix1 r)
    = ((inOrder G r).o : EReal) := by
  rw [gather_at H]
  pointwise [H.o]
  rfl

theorem depth_at (r : Fin 512) : Host.gather gather_S512_S512x1_S512_n_0_n_n_0_1_1 (res_main_v13 V0) (places V0) (ix1 r) = ((inOrder G r).z : EReal) := by
  rw [gather_at H, at_v13 H]
  rfl

theorem valid_at (r : Fin 512) : Host.gather gather_S512_S512x1_S512_n_0_n_n_0_1_1 (andi (cmpf .ogt (res_main_v13 V0) (broadcastInDim S512 ![] bcast_S_S512 (constant S_ .f32 0x3E4CCCCD#32))) (cmpf .ogt (res_main_v151 V0) (broadcastInDim S512 ![] bcast_S_S512 (constant S_ .f32 0x00000000#32)))) (places V0) (ix1 r)
    = BitVec.ofBool (decide (k 0x3E4CCCCD#32 < (inOrder G r).z)) := by
  rw [gather_at H]
  pointwise [at_v13 H, at_v151 H, o3E4CCCCD]
  have hd : (0 : EReal) < ((G (order (fun j => (G j).z) r)).det : EReal) := EReal.coe_pos.2 (Gauss.det_pos _)
  rw [decide_eq_true hd]
  show IntOp.andi _ 1#1 = _
  unfold inOrder
  by_cases hz : k 0x3E4CCCCD#32 < (G (order (fun j => (G j).z) r)).z
  · rw [decide_eq_true (EReal.coe_lt_coe_iff.2 hz), decide_eq_true hz]; rfl
  · rw [decide_eq_false (mt EReal.coe_lt_coe_iff.1 hz), decide_eq_false hz]; rfl

theorem at_v289 (P : Fin 65536) (r : Fin 512) : (res_main_v289 V0 : Vec Ideal S65536x512 .f32) (ix2 P r)
    = ((power (inOrder G r).prm ((P.val % 256 : ℕ) : ℝ) ((P.val / 256 : ℕ) : ℝ) : ℝ) : EReal) := by
  have h1 := ca_at H r
  have h2 := cb_at H r
  have h3 := cc_at H r
  unfold res_main_v289
  rw [places_eq]
  pointwise [h1, h2, h3, at_v268 H, at_v273 H, oBF000000]
  simp only [up_mul, up_sub, up_add]
  rfl

/-- The reference's opacity at the pixel, over the reals. -/
def opac (g : Gauss) (X Y : ℝ) : ℝ := min (k 0x3F7D70A4#32) (g.o * Real.exp (min (power g.prm X Y) 0))

omit H in
theorem opac_eq (g : Gauss) (X Y : ℝ) (hz : k 0x3E4CCCCD#32 < g.z) (hp : power g.prm X Y ≤ 0) : opac g X Y = alpha g.prm X Y := by
  unfold opac alpha
  rw [min_eq_left hp]
  have : g.prm 5 = g.o := if_pos hz
  rw [this]

omit H in
theorem keep_iff (g : Gauss) (X Y : ℝ) :
    keep g.prm X Y ↔ (power g.prm X Y ≤ 0 ∧ k 0x3E4CCCCD#32 < g.z) ∧ k 0x3B808081#32 ≤ opac g X Y := by
  constructor
  · rintro ⟨hp, ha⟩
    have hz : k 0x3E4CCCCD#32 < g.z := by
      by_contra hz
      have h5 : g.prm 5 = 0 := if_neg hz
      unfold alpha at ha
      rw [h5, zero_mul] at ha
      have := ha.trans (min_le_right _ _)
      rw [k3B808081] at this
      norm_num at this
    exact ⟨⟨hp, hz⟩, (opac_eq g X Y hz hp).symm ▸ ha⟩
  · rintro ⟨⟨hp, hz⟩, ha⟩
    exact ⟨hp, opac_eq g X Y hz hp ▸ ha⟩

theorem at_v297 (P : Fin 65536) (r : Fin 512) : (res_main_v297 V0 : Vec Ideal S65536x512 .f32) (ix2 P r)
    = ((opac (inOrder G r) ((P.val % 256 : ℕ) : ℝ) ((P.val / 256 : ℕ) : ℝ) : ℝ) : EReal) := by
  have h := opa_at H r
  unfold res_main_v297
  rw [places_eq]
  generalize Host.gather _ _ _ = g at h ⊢
  pointwise [h, at_v289 H, o3F7D70A4]
  simp only [up_zero, up_min, up_exp, up_mul]
  rfl

theorem at_v305 (P : Fin 65536) (r : Fin 512) : (res_main_v305 V0 : IVec S65536x512 1) (ix2 P r)
    = BitVec.ofBool (decide (keep (inOrder G r).prm ((P.val % 256 : ℕ) : ℝ) ((P.val / 256 : ℕ) : ℝ))) := by
  have h := valid_at H r
  unfold res_main_v305
  rw [places_eq]
  generalize Host.gather _ _ _ = g at h ⊢
  pointwise [h, at_v289 H, at_v297 H, o3B808081]
  simp only [up_zero, up_le, and_bits]
  exact congrArg BitVec.ofBool (decide_eq_decide.2 (keep_iff _ _ _).symm)

theorem at_v306 (P : Fin 65536) (r : Fin 512) : (res_main_v306 V0 : Vec Ideal S65536x512 .f32) (ix2 P r)
    = ((masked (inOrder G r).prm ((P.val % 256 : ℕ) : ℝ) ((P.val / 256 : ℕ) : ℝ) : ℝ) : EReal) := by
  unfold res_main_v306
  pointwise [at_v305 H, at_v297 H, id_eq]
  unfold masked
  split
  · next hk =>
    have := (keep_iff _ _ _).1 hk
    rw [opac_eq _ _ _ this.1.2 this.1.1]
  · rfl

end Cert.ReferenceIdeal.Own
-- ==== Proof.Value.RefWeights.lean ====
/- The reference's blending: its running product by doubling distances, the weights, and the results of the pixels. -/
module

public import proofs.«01_k».proof.Proof.Value.RefAlpha
public import proofs.«01_k».proof.Proof.Value.RasterRows

@[expose] public section

noncomputable section

set_option maxRecDepth 16384

namespace Cert.ReferenceIdeal.Own

open Idealize.ShloMosaic Idealize.ShloMosaic.TcCoe Idealize.SL.Sem
open Cert.ReferenceIdeal Cert.ReferenceIdeal.Gen Cert.ReferenceIdeal.Value Cert.Splat

/-- The product of the last `w` factors up to `r`. -/
def win (f : ℕ → ℝ) (w r : ℕ) : ℝ := ∏ s ∈ Finset.range w, if s ≤ r then f (r - s) else 1

theorem win_one (f : ℕ → ℝ) (r : ℕ) : win f 1 r = f r := by simp [win]

theorem win_double (f : ℕ → ℝ) (w r : ℕ) : win f (w + w) r = win f w r * (if r < w then 1 else win f w (r - w)) := by
  unfold win
  rw [Finset.prod_range_add]
  refine congrArg (_ * ·) ?_
  split
  · next h =>
    refine Finset.prod_eq_one fun x _ => if_neg (by omega)
  · next h =>
    refine Finset.prod_congr rfl fun x _ => ?_
    by_cases hx : x ≤ r - w
    · rw [if_pos hx, if_pos (by omega), Nat.sub_sub]
    · rw [if_neg hx, if_neg (by omega)]

theorem win_all (f : ℕ → ℝ) {w r : ℕ} (h : r < w) : win f w r = ∏ s ∈ Finset.range (r + 1), f s := by
  unfold win
  rw [← Finset.prod_range_reflect f (r + 1)]
  obtain ⟨d, rfl⟩ : ∃ d, w = r + 1 + d := ⟨w - (r + 1), by omega⟩
  rw [Finset.prod_range_add]
  rw [Finset.prod_eq_one (s := Finset.range d) fun x _ => if_neg (by omega), mul_one]
  refine Finset.prod_congr rfl fun x hx => ?_
  have := Finset.mem_range.1 hx
  rw [if_pos (by omega)]
  exact congrArg f (by omega)

/-- The depth-ordered rows of the reference, continued by zero rows. -/
def sortedRows (G : Fin 512 → Gauss) : ℕ → Fin 16 → ℝ := rows fun r => (inOrder G r).prm

theorem sortedRows_val (G : Fin 512 → Gauss) (r : Fin 512) : sortedRows G r.val = (inOrder G r).prm := rows_val _ r

/-- The pixel's column and row. -/
def px (P : Fin 65536) : ℝ := ((P.val % 256 : ℕ) : ℝ)
def py (P : Fin 65536) : ℝ := ((P.val / 256 : ℕ) : ℝ)

/-- What the row `s` lets through at the pixel. -/
def pass (G : Fin 512 → Gauss) (P : Fin 65536) (s : ℕ) : ℝ := 1 - masked (sortedRows G s) (px P) (py P)

theorem step_1 (v : FVec Ideal S65536x512 .f32) (P : Fin 65536) (f : ℕ → ℝ) (hv : ∀ r : Fin 512, v (ix2 P r) = ((win f 1 r.val : ℝ) : EReal)) (r : Fin 512) :
    (mulf (F := Ideal) (φ := .f32) v (concatenate S65536x512 1 [⟨S65536x1, (broadcastInDim S65536x1 ![] bcast_S_S65536x1 (constant S_ .f32 0x3F800000#32))⟩, ⟨S65536x511, (extractStridedSlice S65536x511 ![0, 0] v slices_S65536x512_S65536x511_0_0)⟩] concatenates_S65536x1_S65536x511_S65536x512_d1) : FVec Ideal S65536x512 .f32) (ix2 P r)
      = ((win f 2 r.val : ℝ) : EReal) := by
  have e := win_double f 1 r.val
  norm_num only at e
  rw [e]
  pointwise [hv]
  split
  · rw [up_one, up_mul]
  · rw [up_mul]

theorem step_2 (v : FVec Ideal S65536x512 .f32) (P : Fin 65536) (f : ℕ → ℝ) (hv : ∀ r : Fin 512, v (ix2 P r) = ((win f 2 r.val : ℝ) : EReal)) (r : Fin 512) :
    (mulf (F := Ideal) (φ := .f32) v (concatenate S65536x512 1 [⟨S65536x2, (broadcastInDim S65536x2 ![] bcast_S_S65536x2 (constant S_ .f32 0x3F800000#32))⟩, ⟨S65536x510, (extractStridedSlice S65536x510 ![0, 0] v slices_S65536x512_S65536x510_0_0)⟩] concatenates_S65536x2_S65536x510_S65536x512_d1) : FVec Ideal S65536x512 .f32) (ix2 P r)
      = ((win f 4 r.val : ℝ) : EReal) := by
  have e := win_double f 2 r.val
  norm_num only at e
  rw [e]
  pointwise [hv]
  split
  · rw [up_one, up_mul]
  · rw [up_mul]

theorem step_4 (v : FVec Ideal S65536x512 .f32) (P : Fin 65536) (f : ℕ → ℝ) (hv : ∀ r : Fin 512, v (ix2 P r) = ((win f 4 r.val : ℝ) : EReal)) (r : Fin 512) :
    (mulf (F := Ideal) (φ := .f32) v (concatenate S65536x512 1 [⟨S65536x4, (broadcastInDim S65536x4 ![] bcast_S_S65536x4 (constant S_ .f32 0x3F800000#32))⟩, ⟨S65536x508, (extractStridedSlice S65536x508 ![0, 0] v slices_S65536x512_S65536x508_0_0)⟩] concatenates_S65536x4_S65536x508_S65536x512_d1) : FVec Ideal S65536x512 .f32) (ix2 P r)
      = ((win f 8 r.val : ℝ) : EReal) := by
  have e := win_double f 4 r.val
  norm_num only at e
  rw [e]
  pointwise [hv]
  split
  · rw [up_one, up_mul]
  · rw [up_mul]

theorem step_8 (v : FVec Ideal S65536x512 .f32) (P : Fin 65536) (f : ℕ → ℝ) (hv : ∀ r : Fin 512, v (ix2 P r) = ((win f 8 r.val : ℝ) : EReal)) (r : Fin 512) :
    (mulf (F := Ideal) (φ := .f32) v (concatenate S65536x512 1 [⟨S65536x8, (broadcastInDim S65536x8 ![] bcast_S_S65536x8 (constant S_ .f32 0x3F800000#32))⟩, ⟨S65536x504, (extractStridedSlice S65536x504 ![0, 0] v slices_S65536x512_S65536x504_0_0)⟩] concatenates_S65536x8_S65536x504_S65536x512_d1) : FVec Ideal S65536x512 .f32) (ix2 P r)
      = ((win f 16 r.val : ℝ) : EReal) := by
  have e := win_double f 8 r.val
  norm_num only at e
  rw [e]
  pointwise [hv]
  split
  · rw [up_one, up_mul]
  · rw [up_mul]

theorem step_16 (v : FVec Ideal S65536x512 .f32) (P : Fin 65536) (f : ℕ → ℝ) (hv : ∀ r : Fin 512, v (ix2 P r) = ((win f 16 r.val : ℝ) : EReal)) (r : Fin 512) :
    (mulf (F := Ideal) (φ := .f32) v (concatenate S65536x512 1 [⟨S65536x16, (broadcastInDim S65536x16 ![] bcast_S_S65536x16 (constant S_ .f32 0x3F800000#32))⟩, ⟨S65536x496, (extractStridedSlice S65536x496 ![0, 0] v slices_S65536x512_S65536x496_0_0)⟩] concatenates_S65536x16_S65536x496_S65536x512_d1) : FVec Ideal S65536x512 .f32) (ix2 P r)
      = ((win f 32 r.val : ℝ) : EReal) := by
  have e := win_double f 16 r.val
  norm_num only at e
  rw [e]
  pointwise [hv]
  split
  · rw [up_one, up_mul]
  · rw [up_mul]

theorem step_32 (v : FVec Ideal S65536x512 .f32) (P : Fin 65536) (f : ℕ → ℝ) (hv : ∀ r : Fin 512, v (ix2 P r) = ((win f 32 r.val : ℝ) : EReal)) (r : Fin 512) :
    (mulf (F := Ideal) (φ := .f32) v (concatenate S65536x512 1 [⟨S65536x32, (broadcastInDim S65536x32 ![] bcast_S_S65536x32 (constant S_ .f32 0x3F800000#32))⟩, ⟨S65536x480, (extractStridedSlice S65536x480 ![0, 0] v slices_S65536x512_S65536x480_0_0)⟩] concatenates_S65536x32_S65536x480_S65536x512_d1) : FVec Ideal S65536x512 .f32) (ix2 P r)
      = ((win f 64 r.val : ℝ) : EReal) := by
  have e := win_double f 32 r.val
  norm_num only at e
  rw [e]
  pointwise [hv]
  split
  · rw [up_one, up_mul]
  · rw [up_mul]

theorem step_64 (v : FVec Ideal S65536x512 .f32) (P : Fin 65536) (f : ℕ → ℝ) (hv : ∀ r : Fin 512, v (ix2 P r) = ((win f 64 r.val : ℝ) : EReal)) (r : Fin 512) :
    (mulf (F := Ideal) (φ := .f32) v (concatenate S65536x512 1 [⟨S65536x64, (broadcastInDim S65536x64 ![] bcast_S_S65536x64 (constant S_ .f32 0x3F800000#32))⟩, ⟨S65536x448, (extractStridedSlice S65536x448 ![0, 0] v slices_S65536x512_S65536x448_0_0)⟩] concatenates_S65536x64_S65536x448_S65536x512_d1) : FVec Ideal S65536x512 .f32) (ix2 P r)
      = ((win f 128 r.val : ℝ) : EReal) := by
  have e := win_double f 64 r.val
  norm_num only at e
  rw [e]
  pointwise [hv]
  split
  · rw [up_one, up_mul]
  · rw [up_mul]

theorem step_128 (v : FVec Ideal S65536x512 .f32) (P : Fin 65536) (f : ℕ → ℝ) (hv : ∀ r : Fin 512, v (ix2 P r) = ((win f 128 r.val : ℝ) : EReal)) (r : Fin 512) :
    (mulf (F := Ideal) (φ := .f32) v (concatenate S65536x512 1 [⟨S65536x128, (broadcastInDim S65536x128 ![] bcast_S_S65536x128 (constant S_ .f32 0x3F800000#32))⟩, ⟨S65536x384, (extractStridedSlice S65536x384 ![0, 0] v slices_S65536x512_S65536x384_0_0)⟩] concatenates_S65536x128_S65536x384_S65536x512_d1) : FVec Ideal S65536x512 .f32) (ix2 P r)
      = ((win f 256 r.val : ℝ) : EReal) := by
  have e := win_double f 128 r.val
  norm_num only at e
  rw [e]
  pointwise [hv]
  split
  · rw [up_one, up_mul]
  · rw [up_mul]

theorem step_256 (v : FVec Ideal S65536x512 .f32) (P : Fin 65536) (f : ℕ → ℝ) (hv : ∀ r : Fin 512, v (ix2 P r) = ((win f 256 r.val : ℝ) : EReal)) (r : Fin 512) :
    (mulf (F := Ideal) (φ := .f32) v (concatenate S65536x512 1 [⟨S65536x256, (broadcastInDim S65536x256 ![] bcast_S_S65536x256 (constant S_ .f32 0x3F800000#32))⟩, ⟨S65536x256, (extractStridedSlice S65536x256 ![0, 0] v slices_S65536x512_S65536x256_0_0)⟩] concatenates_S65536x256_S65536x256_S65536x512_d1) : FVec Ideal S65536x512 .f32) (ix2 P r)
      = ((win f 512 r.val : ℝ) : EReal) := by
  have e := win_double f 256 r.val
  norm_num only at e
  rw [e]
  pointwise [hv]
  split
  · rw [up_one, up_mul]
  · rw [up_mul]

section
variable {V0 : Valuation τ sig (Elt Ideal)} {G : Fin 512 → Gauss} (H : Given V0 G)
include H

theorem at_v308 (P : Fin 65536) (r : Fin 512) : (res_main_v308 V0 : Vec Ideal S65536x512 .f32) (ix2 P r) = ((win (pass G P) 1 r.val : ℝ) : EReal) := by
  rw [win_one]
  unfold res_main_v308
  pointwise [at_v306 H]
  rw [up_one, up_sub]
  unfold pass
  rw [sortedRows_val]
  rfl

theorem at_v312 (P : Fin 65536) (r : Fin 512) : (res_main_v312 V0 : Vec Ideal S65536x512 .f32) (ix2 P r) = ((win (pass G P) 2 r.val : ℝ) : EReal) :=
  step_1 _ P _ (at_v308 H P) r

theorem at_v316 (P : Fin 65536) (r : Fin 512) : (res_main_v316 V0 : Vec Ideal S65536x512 .f32) (ix2 P r) = ((win (pass G P) 4 r.val : ℝ) : EReal) :=
  step_2 _ P _ (at_v312 H P) r

theorem at_v320 (P : Fin 65536) (r : Fin 512) : (res_main_v320 V0 : Vec Ideal S65536x512 .f32) (ix2 P r) = ((win (pass G P) 8 r.val : ℝ) : EReal) :=
  step_4 _ P _ (at_v316 H P) r

theorem at_v324 (P : Fin 65536) (r : Fin 512) : (res_main_v324 V0 : Vec Ideal S65536x512 .f32) (ix2 P r) = ((win (pass G P) 16 r.val : ℝ) : EReal) :=
  step_8 _ P _ (at_v320 H P) r

theorem at_v328 (P : Fin 65536) (r : Fin 512) : (res_main_v328 V0 : Vec Ideal S65536x512 .f32) (ix2 P r) = ((win (pass G P) 32 r.val : ℝ) : EReal) :=
  step_16 _ P _ (at_v324 H P) r

theorem at_v332 (P : Fin 65536) (r : Fin 512) : (res_main_v332 V0 : Vec Ideal S65536x512 .f32) (ix2 P r) = ((win (pass G P) 64 r.val : ℝ) : EReal) :=
  step_32 _ P _ (at_v328 H P) r

theorem at_v336 (P : Fin 65536) (r : Fin 512) : (res_main_v336 V0 : Vec Ideal S65536x512 .f32) (ix2 P r) = ((win (pass G P) 128 r.val : ℝ) : EReal) :=
  step_64 _ P _ (at_v332 H P) r

theorem at_v340 (P : Fin 65536) (r : Fin 512) : (res_main_v340 V0 : Vec Ideal S65536x512 .f32) (ix2 P r) = ((win (pass G P) 256 r.val : ℝ) : EReal) :=
  step_128 _ P _ (at_v336 H P) r

theorem at_v344 (P : Fin 65536) (r : Fin 512) : (res_main_v344 V0 : Vec Ideal S65536x512 .f32) (ix2 P r) = ((win (pass G P) 512 r.val : ℝ) : EReal) :=
  step_256 _ P _ (at_v340 H P) r

theorem passed (P : Fin 65536) (r : Fin 512) : (res_main_v344 V0 : Vec Ideal S65536x512 .f32) (ix2 P r) = ((left (sortedRows G) (px P) (py P) (r.val + 1) : ℝ) : EReal) := by
  rw [at_v344 H, win_all _ r.isLt]
  rfl

theorem weights (P : Fin 65536) (r : Fin 512) : (res_main_v348 V0 : Vec Ideal S65536x512 .f32) (ix2 P r) = ((weight (sortedRows G) (px P) (py P) r.val : ℝ) : EReal) := by
  have hp := passed H P
  have hm := at_v306 H P r
  unfold res_main_v348
  generalize res_main_v344 V0 = v at hp ⊢
  generalize res_main_v306 V0 = u at hm ⊢
  pointwise [hp, hm]
  unfold weight
  rw [sortedRows_val]
  split
  · next h =>
    have h0 : r.val = 0 := by omega
    rw [h0, up_one, up_mul]
    unfold left
    rw [Finset.prod_range_zero]
    rfl
  · next h =>
    rw [up_mul, show r.val - 1 + 1 = r.val by omega]
    rfl

end

end Cert.ReferenceIdeal.Own
-- ==== Proof.Value.RefResults.lean ====
/- The reference's six results at an index, over the real model. -/
module

public import proofs.«01_k».proof.Proof.Value.RefWeights
public import Idealize.ShloMosaic.Lib.IndicatorCount

@[expose] public section

noncomputable section

set_option maxRecDepth 16384

namespace Cert.ReferenceIdeal.Own

open Idealize.ShloMosaic Idealize.ShloMosaic.TcCoe Idealize.SL.Sem
open Cert.ReferenceIdeal Cert.ReferenceIdeal.Gen Cert.ReferenceIdeal.Value Cert.Splat

/-- The colours from the weights, the light left over and the ordered colours. -/
def colourOf (w t : FVec Ideal S65536x512 .f32) (g : FVec Ideal S512x3 .f32) (b : FVec Ideal S3 .f32) : FVec Ideal S256x256x3 .f32 :=
  shapeCast _ (addf (Host.dotGeneral dot_S65536x512_S512x3_S65536x3_1_0_0_1_n_n none w g) (mulf (broadcastInDim S65536x3 ![0, 1] bcast_S65536x1_S65536x3_0_1 (extractStridedSlice S65536x1 ![0, 511] t slices_S65536x512_S65536x1_0_511)) (broadcastInDim S65536x3 ![0, 1] bcast_S1x3_S65536x3_0_1 (broadcastInDim S1x3 ![1] bcast_S3_S1x3_1 b)))) shapeCasts_S65536x3_S256x256x3
def colour (V0 : Valuation τ sig (Elt Ideal)) : FVec Ideal S256x256x3 .f32 :=
  colourOf (res_main_v348 V0) (res_main_v344 V0) (Host.gather gather_S512x3_S512x1_S512x3_1_0_n_n_0_1_13 (V0 (Proc.devRef .tc main_arg2) : Vec Ideal S512x3 .f32) (places V0)) (V0 (Proc.devRef .tc main_arg5))

/-- The counts from the kept contributions. -/
def observeOf (q : IVec S65536x512 1) : IVec S256x256 32 :=
  shapeCast _ (Host.reduce IntOp.addi (extui 32 q natLt_1_32) (constantI S_ 32 0#32) reducesTo_S65536x512_S65536_d1 h_S_) shapeCasts_S65536_S256x256
def observe (V0 : Valuation τ sig (Elt Ideal)) : IVec S256x256 32 := observeOf (res_main_v305 V0)

/-- The depths from the weights and the ordered depths. -/
def depthOf (w : FVec Ideal S65536x512 .f32) (g : FVec Ideal S512 .f32) : FVec Ideal S256x256 .f32 :=
  shapeCast _ (shapeCast _ (Host.dotGeneral dot_S65536x512_S512x1_S65536x1_1_0_0_1_n_n none w (broadcastInDim S512x1 ![0] bcast_S512_S512x1_0 g)) shapeCasts_S65536x1_S65536) shapeCasts_S65536_S256x256
def depth (V0 : Valuation τ sig (Elt Ideal)) : FVec Ideal S256x256 .f32 :=
  depthOf (res_main_v348 V0) (Host.gather gather_S512_S512x1_S512_n_0_n_n_0_1_1 (res_main_v13 V0 : Vec Ideal S512 .f32) (places V0))

/-- The greatest weights. -/
def greatestOf (w : FVec Ideal S65536x512 .f32) : FVec Ideal S256x256 .f32 :=
  shapeCast _ (Host.reduce FloatOps.maximumf w (constant S_ .f32 0xFF800000#32) reducesTo_S65536x512_S65536_d1 h_S_) shapeCasts_S65536_S256x256
def greatest (V0 : Valuation τ sig (Elt Ideal)) : FVec Ideal S256x256 .f32 := greatestOf (res_main_v348 V0)

/-- The coverage from the light left over. -/
def coverOf (t : FVec Ideal S65536x512 .f32) : FVec Ideal S256x256 .f32 :=
  shapeCast _ (subf (broadcastInDim S65536 ![] bcast_S_S65536 (constant S_ .f32 0x3F800000#32)) (shapeCast _ (extractStridedSlice S65536x1 ![0, 511] t slices_S65536x512_S65536x1_0_511) shapeCasts_S65536x1_S65536)) shapeCasts_S65536_S256x256
def cover (V0 : Valuation τ sig (Elt Ideal)) : FVec Ideal S256x256 .f32 := coverOf (res_main_v344 V0)

/-- The pixel in row `y` and column `x`. -/
def pix (y x : Fin 256) : Fin 65536 := ⟨y.val * 256 + x.val, by omega⟩

theorem colour_row (g : Gauss) (l : Fin 3) : g.prm ⟨8 + l.val, by omega⟩ = g.col l := by
  fin_cases l <;> rfl

theorem minus_infinity : Ideal.ofBits .f32 0xFF800000#32 = ⊥ := by
  simp [Ideal.ofBits, Ideal.ieee]

/-- The greatest weight of at least one row, none of them negative, needs no zero to compare with. -/
theorem wmax_eq (R : ℕ → Fin 16 → ℝ) (X Y : ℝ) (n : ℕ) (hn : 0 < n) :
    wmax R X Y n = Finset.fold max ⊥ (fun r : Fin n => (weight R X Y r.val : EReal)) Finset.univ := by
  unfold wmax
  refine le_antisymm (max_le ?_ (Finset.sup_le fun s hs => ?_)) ((Finset.fold_max_le _).2 ⟨bot_le, fun r _ => ?_⟩)
  · exact (Finset.le_fold_max _).2 (.inr ⟨⟨0, hn⟩, Finset.mem_univ _, EReal.coe_nonneg.2 (weight_nonneg R X Y 0)⟩)
  · exact (Finset.le_fold_max _).2 (.inr ⟨⟨s, Finset.mem_range.1 hs⟩, Finset.mem_univ _, le_rfl⟩)
  · exact le_max_of_le_right (Finset.le_sup (f := fun s => (weight R X Y s : EReal)) (Finset.mem_range.2 r.isLt))

variable {V0 : Valuation τ sig (Elt Ideal)} {G : Fin 512 → Gauss} (H : Given V0 G)
include H

theorem colour_at (y x : Fin 256) (l : Fin 3) : colour V0 (ix3 y x l)
    = ((blend (sortedRows G) (px (pix y x)) (py (pix y x)) ⟨8 + l.val, by omega⟩ 512 : ℝ) : EReal)
      + ((left (sortedRows G) (px (pix y x)) (py (pix y x)) 512 : ℝ) : EReal) * (V0 (Proc.devRef .tc main_arg5) : Vec Ideal S3 .f32) (ix1 l) := by
  have hw := weights H
  have hp := passed H
  have hg := fun r => (gather_rows_at H (V0 (Proc.devRef .tc main_arg2) : Vec Ideal S512x3 .f32) r l).trans (H.col _ l)
  unfold colour
  generalize (res_main_v344 V0 : FVec Ideal S65536x512 .f32) = v344 at hp ⊢
  generalize (res_main_v348 V0 : FVec Ideal S65536x512 .f32) = v348 at hw ⊢
  generalize (Host.gather gather_S512x3_S512x1_S512x3_1_0_n_n_0_1_13 (V0 (Proc.devRef .tc main_arg2) : Vec Ideal S512x3 .f32) (places V0) : FVec Ideal S512x3 .f32) = g at hg ⊢
  unfold colourOf
  pointwise [hg, hw, hp]
  rw [show (⟨y.val * 256 + x.val, (pix y x).isLt⟩ : Fin 65536) = pix y x from rfl]
  refine congrArg (· + _) ?_
  simp only [up_mul, up_sum]
  refine congrArg Real.toEReal ?_
  unfold blend
  rw [Finset.sum_range]
  refine Finset.sum_congr rfl fun r _ => ?_
  rw [sortedRows_val, mul_comm, show (inOrder G r).prm ⟨8 + l.val, by omega⟩ = (inOrder G r).col l from colour_row _ l]
  rfl

theorem observe_at (y x : Fin 256) : observe V0 (ix2 y x) = BitVec.ofNat 32 (seen (sortedRows G) (px (pix y x)) (py (pix y x)) 512) := by
  have hk := at_v305 H
  unfold observe
  generalize (res_main_v305 V0 : IVec S65536x512 1) = v at hk ⊢
  unfold observeOf
  pointwise [hk]
  refine (Idealize.ShloMosaic.IndicatorCount.fold_addi_setWidth_eq_card (fun r : Fin 512 => BitVec.ofBool (decide (keep (inOrder G r).prm (px (pix y x)) (py (pix y x))))) Finset.univ).trans ?_
  refine congrArg (BitVec.ofNat 32) ?_
  unfold seen
  rw [Finset.sum_range, Finset.card_filter]
  refine Finset.sum_congr rfl fun r _ => ?_
  rw [sortedRows_val]
  by_cases h : keep (inOrder G r).prm (px (pix y x)) (py (pix y x)) <;> simp [h]

theorem depth_result_at (y x : Fin 256) : depth V0 (ix2 y x) = ((blend (sortedRows G) (px (pix y x)) (py (pix y x)) 11 512 : ℝ) : EReal) := by
  have hw := weights H
  have hg := depth_at H
  unfold depth
  generalize (res_main_v348 V0 : FVec Ideal S65536x512 .f32) = v348 at hw ⊢
  generalize (Host.gather gather_S512_S512x1_S512_n_0_n_n_0_1_1 (res_main_v13 V0 : Vec Ideal S512 .f32) (places V0) : FVec Ideal S512 .f32) = g at hg ⊢
  unfold depthOf
  pointwise [hw, hg]
  rw [show (⟨y.val * 256 + x.val, (pix y x).isLt⟩ : Fin 65536) = pix y x from rfl]
  simp only [up_mul, up_sum]
  refine congrArg Real.toEReal ?_
  unfold blend
  rw [Finset.sum_range]
  refine Finset.sum_congr rfl fun r _ => ?_
  rw [sortedRows_val, mul_comm]
  rfl

theorem greatest_at (y x : Fin 256) : greatest V0 (ix2 y x) = wmax (sortedRows G) (px (pix y x)) (py (pix y x)) 512 := by
  have hw := weights H
  unfold greatest
  generalize (res_main_v348 V0 : FVec Ideal S65536x512 .f32) = v348 at hw ⊢
  unfold greatestOf
  pointwise [hw]
  rw [show (⟨y.val * 256 + x.val, (pix y x).isLt⟩ : Fin 65536) = pix y x from rfl, minus_infinity]
  exact (wmax_eq _ _ _ _ (by decide)).symm

theorem cover_at (y x : Fin 256) : cover V0 (ix2 y x) = ((1 - left (sortedRows G) (px (pix y x)) (py (pix y x)) 512 : ℝ) : EReal) := by
  have hp := passed H
  unfold cover
  generalize (res_main_v344 V0 : FVec Ideal S65536x512 .f32) = v344 at hp ⊢
  unfold coverOf
  pointwise [hp]
  rw [up_one, up_sub]
  rfl

end Cert.ReferenceIdeal.Own
-- ==== Proof.Value.Scene.lean ====
/- What the precondition says over the reals: each array it reads is real, and no quaternion vanishes. -/
module

public import proofs.«01_k».proof.Pre_proper_scene
public import proofs.«01_k».proof.Proof.Value.Model
public import Idealize.ShloMosaic.Lib.ReduceAll
public import Idealize.ShloMosaic.Lib.Pointwise

@[expose] public section

noncomputable section

set_option maxRecDepth 16384

namespace Cert.Splat

open Idealize.ShloMosaic Idealize.ShloMosaic.TcCoe Idealize.SL.Sem
open Cert.Pre_proper_scene

/-- The side conditions of the precondition's operations. -/
theorem sceneFacts : Cert.Pre_proper_scene.Facts where
  bcast_S_S512x4 := by decide
  bcast_S_S512x3 := by decide
  reducesTo_S512x3_S_d0_1 := by decide
  h_S_ := by decide
  bcast_S_S512x1 := by decide
  reducesTo_S512x1_S_d0_1 := by decide
  reducesTo_S512x4_S_d0_1 := by decide
  slices_S4x4_S3x4_0_0 := by decide
  bcast_S_S3x4 := by decide
  reducesTo_S3x4_S_d0_1 := by decide
  slices_S512x4_S512x1_0_0 := by decide
  shapeCasts_S512x1_S512 := by decide
  slices_S512x4_S512x1_0_1 := by decide
  slices_S512x4_S512x1_0_2 := by decide
  slices_S512x4_S512x1_0_3 := by decide
  reducesTo_S512_S_d0 := by decide

/-- The pattern of positive infinity denotes the top element. -/
theorem ofBits_inf : Ideal.ofBits .f32 0x7F800000#32 = ⊤ := by
  simp [Ideal.ofBits, Ideal.ieee]

/-- A value whose absolute value is below infinity is a real. -/
theorem real_of_abs {x : EReal} (h : BitVec.ofBool (decide (max x (-x) < ⊤)) = 1#1) : x = ((x.toReal : ℝ) : EReal) := by
  have h' : max x (-x) < ⊤ := by
    by_contra hn
    rw [decide_eq_false hn] at h
    exact absurd h (by decide)
  refine (EReal.coe_toReal (fun e => ?_) (fun e => ?_)).symm <;> subst e <;> simp at h'

theorem ne_of_bit {x y : EReal} (h : BitVec.ofBool (decide (x ≠ y)) = 1#1) : x ≠ y := by
  by_contra hn
  rw [decide_eq_false (by simpa using hn)] at h
  exact absurd h (by decide)

instance : Subsingleton S_.Idx := ⟨fun a b => funext fun i => i.elim0⟩

/-- The precondition, read: every array it names is real everywhere, and each quaternion has a nonzero entry. -/
theorem scene_real [Cert.Pre_proper_scene.Facts] {a0 : FVec Ideal S512x3 .f32} {a1 : FVec Ideal S512x1 .f32} {a2 a3 : FVec Ideal S512x3 .f32}
    {a4 : FVec Ideal S512x4 .f32} {a5 : FVec Ideal S3 .f32} {a6 : FVec Ideal S4x4 .f32}
    (h : fn (F := Ideal) a0 a1 a2 a3 a4 a5 a6 = fun _ => 1#1) :
    (∀ j i, a0 (ix2 j i) = ((EReal.toReal (a0 (ix2 j i)) : ℝ) : EReal)) ∧ (∀ j i, a1 (ix2 j i) = ((EReal.toReal (a1 (ix2 j i)) : ℝ) : EReal))
    ∧ (∀ j i, a2 (ix2 j i) = ((EReal.toReal (a2 (ix2 j i)) : ℝ) : EReal)) ∧ (∀ j i, a3 (ix2 j i) = ((EReal.toReal (a3 (ix2 j i)) : ℝ) : EReal))
    ∧ (∀ j i, a4 (ix2 j i) = ((EReal.toReal (a4 (ix2 j i)) : ℝ) : EReal))
    ∧ (∀ (i : Fin 3) (l : Fin 4), a6 (ix2 i.castSucc l) = ((EReal.toReal (a6 (ix2 i.castSucc l)) : ℝ) : EReal))
    ∧ ∀ j : Fin 512, a4 (ix2 j 0) ≠ 0 ∨ a4 (ix2 j 1) ≠ 0 ∨ a4 (ix2 j 2) ≠ 0 ∨ a4 (ix2 j 3) ≠ 0 := by
  have h := congrFun h (fun i => i.elim0)
  dsimp only [fn, fn_part1, fn_part2] at h
  obtain ⟨h, hq⟩ := IntOp.andi_eq_one.mp h
  obtain ⟨h, h6⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  refine ⟨fun j i => ?_, fun j i => ?_, fun j i => ?_, fun j i => ?_, fun j i => ?_, fun i l => ?_, fun j => ?_⟩
  · have e := Host.reduce_andi_all _ _ _ _ _ h0 (ix2 j i)
    pointwise [ofBits_inf] at e
    exact real_of_abs e
  · have e := Host.reduce_andi_all _ _ _ _ _ h1 (ix2 j i)
    pointwise [ofBits_inf] at e
    exact real_of_abs e
  · have e := Host.reduce_andi_all _ _ _ _ _ h2 (ix2 j i)
    pointwise [ofBits_inf] at e
    exact real_of_abs e
  · have e := Host.reduce_andi_all _ _ _ _ _ h3 (ix2 j i)
    pointwise [ofBits_inf] at e
    exact real_of_abs e
  · have e := Host.reduce_andi_all _ _ _ _ _ h4 (ix2 j i)
    pointwise [ofBits_inf] at e
    exact real_of_abs e
  · have e := Host.reduce_andi_all _ _ _ _ _ h6 (ix2 i l)
    pointwise [ofBits_inf] at e
    exact real_of_abs e
  · have e := Host.reduce_andi_all _ _ _ _ _ hq (ix1 j)
    pointwise at e
    have h := fun i => @ne_of_bit (a4 (ix2 j i)) 0
    rcases IntOp.ori_eq_one.mp e with e | e
    · rcases IntOp.ori_eq_one.mp e with e | e
      · rcases IntOp.ori_eq_one.mp e with e | e
        · exact .inl (h 0 e)
        · exact .inr (.inl (h 1 e))
      · exact .inr (.inr (.inl (h 2 e)))
    · exact .inr (.inr (.inr (h 3 e)))

/-- The gaussians that the argument arrays hold. -/
def gaussOf (a0 : FVec Ideal S512x3 .f32) (a1 : FVec Ideal S512x1 .f32) (a2 a3 : FVec Ideal S512x3 .f32)
    (a4 : FVec Ideal S512x4 .f32) (a6 : FVec Ideal S4x4 .f32) (j : Fin 512) : Gauss where
  m i := EReal.toReal (a0 (ix2 j i))
  s i := EReal.toReal (a3 (ix2 j i))
  q i := EReal.toReal (a4 (ix2 j i))
  o := EReal.toReal (a1 (ix2 j 0))
  col i := EReal.toReal (a2 (ix2 j i))
  v i l := EReal.toReal (a6 (ix2 i.castSucc l))

/-- A quaternion of reals with a nonzero entry has a nonzero norm. -/
theorem norm_ne {g : Gauss} {x : Fin 4 → EReal} (hx : ∀ i, x i = (g.q i : EReal)) (h : x 0 ≠ 0 ∨ x 1 ≠ 0 ∨ x 2 ≠ 0 ∨ x 3 ≠ 0) : g.qn ≠ 0 := by
  simp only [hx, ne_eq, EReal.coe_eq_zero] at h
  unfold Gauss.qn
  refine (Real.sqrt_pos.mpr ?_).ne'
  have h0 := mul_self_nonneg (g.q 0); have h1 := mul_self_nonneg (g.q 1); have h2 := mul_self_nonneg (g.q 2); have h3 := mul_self_nonneg (g.q 3)
  rcases h with h | h | h | h <;> have := mul_self_pos.mpr h <;> linarith

end Cert.Splat

end
-- ==== Proof.Value.Agree.lean ====
/- The two programs' six results are the same arrays: both are the model's blends, extremes and counts over the depth-sorted
   rows, pixel by pixel. -/
module

public import proofs.«01_k».proof.Proof.Value.KernelResults
public import proofs.«01_k».proof.Proof.Value.RefResults
public import proofs.«01_k».proof.Proof.Value.Scene

@[expose] public section

noncomputable section

set_option maxRecDepth 16384

namespace Cert.Splat

open Idealize.ShloMosaic Idealize.ShloMosaic.TcCoe Idealize.SL.Sem
open Cert.KernelIdeal.Own Cert.ReferenceIdeal.Own

/-- The packed depth (row 7 of the parameters) is the depth the reference sorts by. -/
theorem placed_eq_sorted (G : Fin 512 → Gauss) : placedRows G = sortedRows G := rfl

/-- Two images agree when they do at every row and column. -/
theorem image_ext {α : Type} {f g : (⟨2, ![256, 256]⟩ : Shape).Idx → α} (h : ∀ y x : Fin 256, f (ix2 y x) = g (ix2 y x)) : f = g :=
  funext fun i => by rw [eq_ix2 i]; exact h (i 0) (i 1)

theorem image3_ext {α : Type} {f g : (⟨3, ![256, 256, 3]⟩ : Shape).Idx → α} (h : ∀ (y x : Fin 256) (l : Fin 3), f (ix3 y x l) = g (ix3 y x l)) : f = g :=
  funext fun i => by rw [eq_ix3 i]; exact h (i 0) (i 1) (i 2)

theorem list_ext {α : Type} {f g : (⟨1, ![512]⟩ : Shape).Idx → α} (h : ∀ j : Fin 512, f (ix1 j) = g (ix1 j)) : f = g :=
  funext fun i => by rw [eq_ix1 i]; exact h (i 0)

section
variable (m : (ℓ : Loc Cert.KernelIdeal.nD Cert.KernelIdeal.τ Cert.KernelIdeal.sig) → Buf (Elt Ideal) ℓ)
  (ρ : Dev Cert.KernelIdeal.nD → PrngReg) {c : Dev Cert.KernelIdeal.nD}
  {V0 : Valuation Cert.ReferenceIdeal.τ Cert.ReferenceIdeal.sig (Elt Ideal)} {G : Fin 512 → Gauss}
  (A : Args m c G) (H : Given V0 G)
include A H

theorem same_radii : radii V0 = W6 m ρ c (Proc.devRef .tc Cert.KernelIdeal.main_v23) := by
  refine Eq.trans (list_ext fun j => ?_) (W6_radii m ρ c).symm
  rw [cutRadii_at]
  exact (radii_at H j).trans (radii_kept ρ A j).symm

theorem same_observe : observe V0 = W6 m ρ c (Proc.devRef .tc Cert.KernelIdeal.main_v13) := by
  refine Eq.trans (image_ext fun y x => ?_) (W6_seen m ρ c).symm
  rw [cutSeen_at]
  exact (observe_at H y x).trans (seen_row ρ A (pixel y x)).symm

theorem same_depth : depth V0 = W6 m ρ c (Proc.devRef .tc Cert.KernelIdeal.main_v16) := by
  refine Eq.trans (image_ext fun y x => ?_) (W6_depth m ρ c).symm
  rw [cutRow3_at]
  exact (depth_result_at H y x).trans (depth_row ρ A (pixel y x)).symm

theorem same_greatest : greatest V0 = W6 m ρ c (Proc.devRef .tc Cert.KernelIdeal.main_v19) := by
  refine Eq.trans (image_ext fun y x => ?_) (W6_greatest m ρ c).symm
  rw [cutRow4_at]
  exact (greatest_at H y x).trans (wmax_row ρ A (pixel y x)).symm

theorem same_cover : cover V0 = W6 m ρ c (Proc.devRef .tc Cert.KernelIdeal.main_v22) := by
  refine Eq.trans (image_ext fun y x => ?_) (W6_cover m ρ c).symm
  rw [cutRow5_at]
  exact (cover_at H y x).trans (alpha_row ρ A (pixel y x)).symm

theorem same_colour (hb : (V0 (Proc.devRef .tc Cert.ReferenceIdeal.main_arg5) : FVec Ideal (⟨1, ![3]⟩ : Shape) .f32)
      = m ((c.tc : Thread Cert.KernelIdeal.nD Cert.KernelIdeal.τ).loc Cert.KernelIdeal.main_arg5)) :
    colour V0 = W6 m ρ c (Proc.devRef .tc Cert.KernelIdeal.main_v12) := by
  refine Eq.trans (image3_ext fun y x l => ?_) (W6_colour m ρ c).symm
  rw [cutColour_at]
  refine ((colour_at H y x l).trans ?_).trans (color_row ρ A (pixel y x) l).symm
  exact congrArg _ (congrArg _ (congrFun hb (ix1 l)))
end

section
open Cert.KernelIdeal

/-- The gaussians in the kernel's arguments on core `c`. -/
def scene (m : (ℓ : Loc nD τ sig) → Buf (Elt Ideal) ℓ) (c : Dev nD) : Fin 512 → Gauss :=
  gaussOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg6))

/-- A proper scene is one of gaussians over the reals. -/
theorem args_of_pre [hPre : Cert.Pre_proper_scene.Facts] (m : (ℓ : Loc nD τ sig) → Buf (Elt Ideal) ℓ) (c : Dev nD)
    (h : Cert.Pre_proper_scene.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : Args m c (scene m c) := by
  obtain ⟨h0, h1, h2, h3, h4, h6, hq⟩ := scene_real h
  exact ⟨h0, fun j => h1 j 0, h2, h3, h4, fun _ i l => h6 i l, fun j => norm_ne (g := scene m c j) (fun i => h4 j i) (hq j)⟩

/-- A reference started from the same arguments is given the same gaussians. -/
theorem given_of_args {m : (ℓ : Loc nD τ sig) → Buf (Elt Ideal) ℓ} {c : Dev nD} {G : Fin 512 → Gauss} (A : Args m c G)
    (V0 : Valuation Cert.ReferenceIdeal.τ Cert.ReferenceIdeal.sig (Elt Ideal))
    (h0 : V0 (Proc.devRef .tc Cert.ReferenceIdeal.main_arg0) = m ((c.tc : Thread nD τ).loc main_arg0))
    (h1 : V0 (Proc.devRef .tc Cert.ReferenceIdeal.main_arg1) = m ((c.tc : Thread nD τ).loc main_arg1))
    (h2 : V0 (Proc.devRef .tc Cert.ReferenceIdeal.main_arg2) = m ((c.tc : Thread nD τ).loc main_arg2))
    (h3 : V0 (Proc.devRef .tc Cert.ReferenceIdeal.main_arg3) = m ((c.tc : Thread nD τ).loc main_arg3))
    (h4 : V0 (Proc.devRef .tc Cert.ReferenceIdeal.main_arg4) = m ((c.tc : Thread nD τ).loc main_arg4))
    (h6 : V0 (Proc.devRef .tc Cert.ReferenceIdeal.main_arg6) = m ((c.tc : Thread nD τ).loc main_arg6)) : Given V0 G :=
  ⟨fun j i => (congrFun h0 (ix2 j i)).trans (A.m j i), fun j => (congrFun h1 (ix2 j 0)).trans (A.o j),
   fun j i => (congrFun h2 (ix2 j i)).trans (A.col j i), fun j i => (congrFun h3 (ix2 j i)).trans (A.s j i),
   fun j i => (congrFun h4 (ix2 j i)).trans (A.q j i), fun j i l => (congrFun h6 (ix2 i.castSucc l)).trans (A.v j i l), A.qn⟩
end

end Cert.Splat

end
-- ==== Proof.lean ====
/- The certificate: the two frames of the kernel's programs from their runs, the reference's from its composed run,
   `preserves` (no rewriting, so nothing to show), and the equality of all six results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Ideal.Run
public import proofs.«01_k».proof.Proof.Machine.Run
public import proofs.«01_k».proof.Proof.Value.Agree
public import Idealize.ShloMosaic.Adequacy
public import Idealize.ShloMosaic.Init

@[expose] public section

set_option maxRecDepth 16384

noncomputable section

namespace Cert.Proof

open Idealize.ShloMosaic Idealize.SL.Sem Cert.Kernel

/-- The reference declares no semaphore. -/
theorem reference_no_sem : ∀ sm : SemLoc Cert.ReferenceIdeal.sig, False := by decide

theorem frame_reference : Cert.quiescent_ReferenceIdeal (hReferenceIdeal := Cert.ReferenceIdeal.Gen.facts) := fun m ρ _ =>
  (θ_run _ _ _).mono (fun _ h => ⟨fun c => (h c).2.2.2.2.2.2, funext fun g => (reference_no_sem g.2).elim⟩)
    (Cert.ReferenceIdeal.Value.run (F := Ideal) m ρ)

open Cert.KernelIdeal.Own Cert.ReferenceIdeal.Own Cert.Splat

/-- From a proper scene both programs end with the same six results, the kernel's at its last boundary. -/
theorem values : Cert.algebraic_KernelIdeal_ReferenceIdeal_pre_proper_scene (hKernelIdeal := Cert.KernelIdeal.Gen.facts)
    (hReferenceIdeal := Cert.ReferenceIdeal.Gen.facts) (hPre_proper_scene := sceneFacts) := by
  intro m g m' g' hpre hm
  refine ⟨fun c => W6 m g c (Proc.devRef .tc Cert.KernelIdeal.main_v12),
    fun c => W6 m g c (Proc.devRef .tc Cert.KernelIdeal.main_v23),
    fun c => W6 m g c (Proc.devRef .tc Cert.KernelIdeal.main_v13),
    fun c => W6 m g c (Proc.devRef .tc Cert.KernelIdeal.main_v16),
    fun c => W6 m g c (Proc.devRef .tc Cert.KernelIdeal.main_v19),
    fun c => W6 m g c (Proc.devRef .tc Cert.KernelIdeal.main_v22), ?_, ?_⟩
  · refine (θ_run _ _ _).mono (fun _ h c => ?_) (Cert.KernelIdeal.Own.run_all (F := Ideal) m g)
    exact ⟨h.1 c _ (mem_uc Cert.KernelIdeal.main_v12 (by decide)),
      h.1 c _ (mem_uc Cert.KernelIdeal.main_v23 (by decide)),
      h.1 c _ (mem_uc Cert.KernelIdeal.main_v13 (by decide)),
      h.1 c _ (mem_uc Cert.KernelIdeal.main_v16 (by decide)),
      h.1 c _ (mem_uc Cert.KernelIdeal.main_v19 (by decide)),
      h.1 c _ (mem_uc Cert.KernelIdeal.main_v22 (by decide)),
      (h.1 c _ (mem_uc Cert.KernelIdeal.main_arg0 (by decide))).trans (W6_args m g c Cert.KernelIdeal.main_arg0 (by decide)),
      (h.1 c _ (mem_uc Cert.KernelIdeal.main_arg1 (by decide))).trans (W6_args m g c Cert.KernelIdeal.main_arg1 (by decide)),
      (h.1 c _ (mem_uc Cert.KernelIdeal.main_arg2 (by decide))).trans (W6_args m g c Cert.KernelIdeal.main_arg2 (by decide)),
      (h.1 c _ (mem_uc Cert.KernelIdeal.main_arg3 (by decide))).trans (W6_args m g c Cert.KernelIdeal.main_arg3 (by decide)),
      (h.1 c _ (mem_uc Cert.KernelIdeal.main_arg4 (by decide))).trans (W6_args m g c Cert.KernelIdeal.main_arg4 (by decide)),
      (h.1 c _ (mem_uc Cert.KernelIdeal.main_arg5 (by decide))).trans (W6_args m g c Cert.KernelIdeal.main_arg5 (by decide)),
      (h.1 c _ (mem_uc Cert.KernelIdeal.main_arg6 (by decide))).trans (W6_args m g c Cert.KernelIdeal.main_arg6 (by decide))⟩
  · refine (θ_run _ _ _).mono (fun _ h c => ?_) (Cert.ReferenceIdeal.Value.run (F := Ideal) m' g')
    have A : Args m c (scene m c) := args_of_pre (hPre := sceneFacts) m c (hpre c)
    obtain ⟨e0, e1, e2, e3, e4, e5, e6⟩ := hm c
    have H : Given (StableHlo.launchContents m' c) (scene m c) := given_of_args A _ e0 e1 e2 e3 e4 e6
    obtain ⟨r0, r1, r2, r3, r4, r5, rest⟩ := h c
    refine ⟨r0.trans ?_, r1.trans ?_, r2.trans ?_, r3.trans ?_, r4.trans ?_, r5.trans ?_, rest⟩
    · refine Eq.trans ?_ (same_colour m g A H e5); unfold colour colourOf places; rfl
    · refine Eq.trans ?_ (same_radii m g A H); unfold radii; rfl
    · refine Eq.trans ?_ (same_observe m g A H); unfold observe observeOf; rfl
    · refine Eq.trans ?_ (same_depth m g A H); unfold depth depthOf places; rfl
    · refine Eq.trans ?_ (same_greatest m g A H); unfold greatest greatestOf; rfl
    · refine Eq.trans ?_ (same_cover m g A H); unfold cover coverOf; rfl

theorem claim : Cert.Claim := ⟨Cert.Kernel.Gen.facts, Cert.KernelIdeal.Gen.facts, Cert.ReferenceIdeal.Gen.facts, sceneFacts,
  fun m ρ _ => Cert.Kernel.Own.frame m ρ, fun m ρ _ => Cert.KernelIdeal.Own.frame m ρ, fun m ρ _ => Cert.KernelIdeal.Own.frame m ρ,
  frame_reference, fun m ρ _ => frame_reference m ρ trivial, trivial, values⟩

end Cert.Proof

end
